-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 [hPre_latent_experts_in_range : Cert.Pre_latent_experts_in_range.Facts] (m : (ℓ : Loc Cert.Kernel3.nD Cert.Kernel3.τ Cert.Kernel3.sig) → Buf (Elt Bits) ℓ) : Prop :=
  ∀ c : Dev Cert.Kernel3.nD,
    (Cert.Pre_latent_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_latent_experts_in_range : Cert.Pre_latent_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_latent_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_latent_experts_in_range [hPre_latent_experts_in_range : Cert.Pre_latent_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_latent_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] [hPre_latent_experts_in_range : Cert.Pre_latent_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_latent_experts_in_range : Cert.Pre_latent_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_latent_experts_in_range [hReference3Ideal : Cert.Reference3Ideal.Facts] [hPre_latent_experts_in_range : Cert.Pre_latent_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_latent_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] [hPre_latent_experts_in_range : Cert.Pre_latent_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts) (hPre_experts_in_range : Cert.Pre_experts_in_range.Facts) (hPre_latent_experts_in_range : Cert.Pre_latent_experts_in_range.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3) (hPre_latent_experts_in_range := hPre_latent_experts_in_range)
    ∧ quiescent_Kernel3Ideal (hKernel3Ideal := hKernel3Ideal) (hPre_latent_experts_in_range := hPre_latent_experts_in_range)
    ∧ quiescent_Reference3Ideal (hReference3Ideal := hReference3Ideal)
    ∧ quiescent_Reference3Ideal_pre_latent_experts_in_range (hReference3Ideal := hReference3Ideal) (hPre_latent_experts_in_range := hPre_latent_experts_in_range)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal) (hPre_latent_experts_in_range := hPre_latent_experts_in_range)
    ∧ preserves_Kernel4_Kernel4Ideal
    ∧ algebraic_Kernel4Ideal_Reference4Ideal (hKernel4Ideal := hKernel4Ideal) (hReference4Ideal := hReference4Ideal)
-- ==== Pre_experts_in_range.lean ====
abbrev S320 : Shape := ⟨1, ![320]⟩
abbrev S1 : Shape := ⟨1, ![1]⟩
abbrev S163840x1024 : Shape := ⟨2, ![163840, 1024]⟩
abbrev S64x1024x1024 : Shape := ⟨3, ![64, 1024, 1024]⟩
abbrev S64x1x1024 : Shape := ⟨3, ![64, 1, 1024]⟩
abbrev S_ : Shape := ⟨0, ![]⟩

class Facts : Prop where
  bcast_S_S320 : S_.BroadcastsInDim S320 (![] : Fin 0 → Fin S320.rank)
  reducesTo_S320_S_d0 : S320.ReducesTo [0] S_
  h_S_ : 0 < S_.numel
  shapeCasts_S1_S_ : S1.ShapeCasts S_

variable [Facts]

def fn {F : FTy → Type} [FloatOps F] (main_arg0 : IVec S320 32) (main_arg1 : IVec S1 32) (main_arg2 : FVec F S163840x1024 .f32) (main_arg3 : FVec F S64x1024x1024 .bf16) (main_arg4 : FVec F S64x1024x1024 .bf16) (main_arg5 : FVec F S64x1x1024 .f32) (main_arg6 : FVec F S64x1x1024 .f32) (main_arg7 : FVec F S64x1024x1024 .f32) (main_arg8 : FVec F S64x1x1024 .f32) : IVec S_ 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 64#32
  let main_v2 : IVec S320 32 := broadcastInDim S320 ![] bcast_S_S320 main_c_0
  let main_v3 : IVec S320 1 := cmpi .slt main_arg0 main_v2
  let main_v4 : IVec S320 1 := andi main_v1 main_v3
  let main_c_1 : IVec S_ 1 := constantI S_ 1 1#1
  let main_v5 : IVec S_ 1 := (fun x v => Host.reduce IntOp.andi x v reducesTo_S320_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 320#32
  let main_v10 : IVec S_ 1 := cmpi .sle main_v9 main_c_3
  let main_v11 : IVec S_ 1 := andi main_v8 main_v10
  main_v11
-- ==== Pre_finite_queries_and_keys.lean ====
abbrev S16x2048x4x96 : Shape := ⟨4, ![16, 2048, 4, 96]⟩
abbrev S16x2048x4x64 : Shape := ⟨4, ![16, 2048, 4, 64]⟩
abbrev S16x256x4x96 : Shape := ⟨4, ![16, 256, 4, 96]⟩
abbrev S16x256x4x64 : Shape := ⟨4, ![16, 256, 4, 64]⟩
abbrev S_ : Shape := ⟨0, ![]⟩

class Facts : Prop where
  bcast_S_S16x2048x4x96 : S_.BroadcastsInDim S16x2048x4x96 (![] : Fin 0 → Fin S16x2048x4x96.rank)
  reducesTo_S16x2048x4x96_S_d0_1_2_3 : S16x2048x4x96.ReducesTo [0, 1, 2, 3] S_
  h_S_ : 0 < S_.numel
  bcast_S_S16x256x4x96 : S_.BroadcastsInDim S16x256x4x96 (![] : Fin 0 → Fin S16x256x4x96.rank)
  reducesTo_S16x256x4x96_S_d0_1_2_3 : S16x256x4x96.ReducesTo [0, 1, 2, 3] S_

variable [Facts]

def fn_part1 {F : FTy → Type} [FloatOps F] (main_v13 : IVec S_ 1) (main_v16 : IVec S16x256x4x96 1) : IVec S_ 1 :=
  let main_c_5 : IVec S_ 1 := constantI S_ 1 1#1
  let main_v17 : IVec S_ 1 := (fun x v => Host.reduce IntOp.andi x v reducesTo_S16x256x4x96_S_d0_1_2_3 h_S_) main_v16 main_c_5
  let main_v18 : IVec S_ 1 := andi main_v13 main_v17
  main_v18

def fn {F : FTy → Type} [FloatOps F] (main_arg0 : FVec F S16x2048x4x96 .f32) (main_arg1 : FVec F S16x2048x4x96 .f32) (main_arg2 : FVec F S16x2048x4x64 .f32) (main_arg3 : FVec F S16x256x4x96 .f32) (main_arg4 : FVec F S16x256x4x96 .f32) (main_arg5 : FVec F S16x256x4x64 .f32) : IVec S_ 1 :=
  let main_v0 : FVec F S16x2048x4x96 .f32 := Host.absf main_arg0
  let main_cst : FVec F S_ .f32 := constant S_ .f32 0x7F800000#32
  let main_v1 : FVec F S16x2048x4x96 .f32 := broadcastInDim S16x2048x4x96 ![] bcast_S_S16x2048x4x96 main_cst
  let main_v2 : IVec S16x2048x4x96 1 := cmpf .olt main_v0 main_v1
  let main_c : IVec S_ 1 := constantI S_ 1 1#1
  let main_v3 : IVec S_ 1 := (fun x v => Host.reduce IntOp.andi x v reducesTo_S16x2048x4x96_S_d0_1_2_3 h_S_) main_v2 main_c
  let main_v4 : FVec F S16x2048x4x96 .f32 := Host.absf main_arg1
  let main_cst_0 : FVec F S_ .f32 := constant S_ .f32 0x7F800000#32
  let main_v5 : FVec F S16x2048x4x96 .f32 := broadcastInDim S16x2048x4x96 ![] bcast_S_S16x2048x4x96 main_cst_0
  let main_v6 : IVec S16x2048x4x96 1 := cmpf .olt main_v4 main_v5
  let main_c_1 : IVec S_ 1 := constantI S_ 1 1#1
  let main_v7 : IVec S_ 1 := (fun x v => Host.reduce IntOp.andi x v reducesTo_S16x2048x4x96_S_d0_1_2_3 h_S_) main_v6 main_c_1
  let main_v8 : IVec S_ 1 := andi main_v3 main_v7
  let main_v9 : FVec F S16x256x4x96 .f32 := Host.absf main_arg3
  let main_cst_2 : FVec F S_ .f32 := constant S_ .f32 0x7F800000#32
  let main_v10 : FVec F S16x256x4x96 .f32 := broadcastInDim S16x256x4x96 ![] bcast_S_S16x256x4x96 main_cst_2
  let main_v11 : IVec S16x256x4x96 1 := cmpf .olt main_v9 main_v10
  let main_c_3 : IVec S_ 1 := constantI S_ 1 1#1
  let main_v12 : IVec S_ 1 := (fun x v => Host.reduce IntOp.andi x v reducesTo_S16x256x4x96_S_d0_1_2_3 h_S_) main_v11 main_c_3
  let main_v13 : IVec S_ 1 := andi main_v8 main_v12
  let main_v14 : FVec F S16x256x4x96 .f32 := Host.absf main_arg4
  let main_cst_4 : FVec F S_ .f32 := constant S_ .f32 0x7F800000#32
  let main_v15 : FVec F S16x256x4x96 .f32 := broadcastInDim S16x256x4x96 ![] bcast_S_S16x256x4x96 main_cst_4
  let main_v16 : IVec S16x256x4x96 1 := cmpf .olt main_v14 main_v15
  fn_part1 (F := F) main_v13 main_v16
-- ==== Pre_latent_experts_in_range.lean ====
abbrev S288 : Shape := ⟨1, ![288]⟩
abbrev S1 : Shape := ⟨1, ![1]⟩
abbrev S147456x1024 : Shape := ⟨2, ![147456, 1024]⟩
abbrev S64x1024x1024 : Shape := ⟨3, ![64, 1024, 1024]⟩
abbrev S64x1x1024 : Shape := ⟨3, ![64, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S288 32) (main_arg1 : IVec S1 32) (main_arg2 : FVec F S147456x1024 .f32) (main_arg3 : FVec F S64x1024x1024 .bf16) (main_arg4 : FVec F S64x1024x1024 .bf16) (main_arg5 : FVec F S64x1x1024 .f32) (main_arg6 : FVec F S64x1x1024 .f32) (main_arg7 : FVec F S64x1024x1024 .f32) (main_arg8 : FVec F S64x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 64#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 288#32
  let main_v10 : IVec S_ 1 := cmpi .sle main_v9 main_c_3
  let main_v11 : IVec S_ 1 := andi main_v8 main_v10
  main_v11
-- ==== Kernel.lean ====
abbrev S16x2048x4x96 : Shape := ⟨4, ![16, 2048, 4, 96]⟩
abbrev S16x2048x4x64 : Shape := ⟨4, ![16, 2048, 4, 64]⟩
abbrev S16x256x4x96 : Shape := ⟨4, ![16, 256, 4, 96]⟩
abbrev S16x256x4x64 : Shape := ⟨4, ![16, 256, 4, 64]⟩
abbrev S_ : Shape := ⟨0, ![]⟩
abbrev S16x2048x4x128 : Shape := ⟨4, ![16, 2048, 4, 128]⟩
abbrev S32768x512 : Shape := ⟨2, ![32768, 512]⟩
abbrev S16x256x4x128 : Shape := ⟨4, ![16, 256, 4, 128]⟩
abbrev S4096x512 : Shape := ⟨2, ![4096, 512]⟩
abbrev S36864x512 : Shape := ⟨2, ![36864, 512]⟩
abbrev S256x512 : Shape := ⟨2, ![256, 512]⟩
abbrev S2048x512 : Shape := ⟨2, ![2048, 512]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 43
  | .vmem => 12
  | .smem => 0
  | _ => 0

abbrev bufTy : (tb : Table) → Fin (tcTables nBuf tb) → BufTy
  | .hbm, ⟨0, _⟩ => ⟨S16x2048x4x96, .f32⟩
  | .hbm, ⟨1, _⟩ => ⟨S16x2048x4x96, .f32⟩
  | .hbm, ⟨2, _⟩ => ⟨S16x2048x4x64, .f32⟩
  | .hbm, ⟨3, _⟩ => ⟨S16x256x4x96, .f32⟩
  | .hbm, ⟨4, _⟩ => ⟨S16x256x4x96, .f32⟩
  | .hbm, ⟨5, _⟩ => ⟨S16x256x4x64, .f32⟩
  | .hbm, ⟨6, _⟩ => ⟨S_, .f32⟩
  | .hbm, ⟨7, _⟩ => ⟨S16x2048x4x96, .f32⟩
  | .hbm, ⟨8, _⟩ => ⟨S16x2048x4x96, .f32⟩
  | .hbm, ⟨9, _⟩ => ⟨S_, .f32⟩
  | .hbm, ⟨10, _⟩ => ⟨S16x256x4x96, .f32⟩
  | .hbm, ⟨11, _⟩ => ⟨S16x256x4x96, .f32⟩
  | .hbm, ⟨12, _⟩ => ⟨S_, .i32⟩
  | .hbm, ⟨13, _⟩ => ⟨S_, .f32⟩
  | .hbm, ⟨14, _⟩ => ⟨S16x2048x4x128, .f32⟩
  | .hbm, ⟨15, _⟩ => ⟨S32768x512, .f32⟩
  | .hbm, ⟨16, _⟩ => ⟨S_, .i32⟩
  | .hbm, ⟨17, _⟩ => ⟨S_, .f32⟩
  | .hbm, ⟨18, _⟩ => ⟨S16x256x4x128, .f32⟩
  | .hbm, ⟨19, _⟩ => ⟨S4096x512, .f32⟩
  | .hbm, ⟨20, _⟩ => ⟨S36864x512, .f32⟩
  | .hbm, ⟨21, _⟩ => ⟨S36864x512, .bf16⟩
  | .hbm, ⟨22, _⟩ => ⟨S_, .i32⟩
  | .hbm, ⟨23, _⟩ => ⟨S_, .f32⟩
  | .hbm, ⟨24, _⟩ => ⟨S16x2048x4x128, .f32⟩
  | .hbm, ⟨25, _⟩ => ⟨S32768x512, .f32⟩
  | .hbm, ⟨26, _⟩ => ⟨S_, .i32⟩
  | .hbm, ⟨27, _⟩ => ⟨S_, .f32⟩
  | .hbm, ⟨28, _⟩ => ⟨S16x256x4x128, .f32⟩
  | .hbm, ⟨29, _⟩ => ⟨S4096x512, .f32⟩
  | .hbm, ⟨30, _⟩ => ⟨S36864x512, .f32⟩
  | .hbm, ⟨31, _⟩ => ⟨S36864x512, .bf16⟩
  | .hbm, ⟨32, _⟩ => ⟨S_, .i32⟩
  | .hbm, ⟨33, _⟩ => ⟨S_, .f32⟩
  | .hbm, ⟨34, _⟩ => ⟨S16x2048x4x128, .f32⟩
  | .hbm, ⟨35, _⟩ => ⟨S32768x512, .f32⟩
  | .hbm, ⟨36, _⟩ => ⟨S_, .i32⟩
  | .hbm, ⟨37, _⟩ => ⟨S_, .f32⟩
  | .hbm, ⟨38, _⟩ => ⟨S16x256x4x128, .f32⟩
  | .hbm, ⟨39, _⟩ => ⟨S4096x512, .f32⟩
  | .hbm, ⟨40, _⟩ => ⟨S36864x512, .f32⟩
  | .hbm, ⟨41, _⟩ => ⟨S36864x512, .bf16⟩
  | .hbm, ⟨42, _⟩ => ⟨S36864x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | _, _ => ⟨S16x2048x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_call4_v0 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_call5_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.muli arg0 c8_i32_0
  let v2 : BitVec 32 := Scalar.addi v1 arg1
  let c1_i32 : BitVec 32 := 1#32
  let v3 : BitVec 32 := Scalar.muli arg0 c1_i32
  let c128_i32 : BitVec 32 := 128#32
  let v4 : BitVec 32 := Scalar.addi c128_i32 v3
  let c8_i32_1 : BitVec 32 := 8#32
  let v5 : BitVec 32 := Scalar.subi arg1 c8_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.muli arg0 c8_i32_0
  let v2 : BitVec 32 := Scalar.addi v1 arg1
  let c1_i32 : BitVec 32 := 1#32
  let v3 : BitVec 32 := Scalar.muli arg0 c1_i32
  let c128_i32 : BitVec 32 := 128#32
  let v4 : BitVec 32 := Scalar.addi c128_i32 v3
  let c8_i32_1 : BitVec 32 := 8#32
  let v5 : BitVec 32 := Scalar.subi arg1 c8_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x4x96 : Shape := ⟨4, ![16, 2048, 4, 96]⟩
abbrev S16x2048x4x64 : Shape := ⟨4, ![16, 2048, 4, 64]⟩
abbrev S16x256x4x96 : Shape := ⟨4, ![16, 256, 4, 96]⟩
abbrev S16x256x4x64 : Shape := ⟨4, ![16, 256, 4, 64]⟩
abbrev S16x4x2048x2048 : Shape := ⟨4, ![16, 4, 2048, 2048]⟩
abbrev S_ : Shape := ⟨0, ![]⟩
abbrev S16x4x2048x256 : Shape := ⟨4, ![16, 4, 2048, 256]⟩
abbrev S16x4x2048x2304 : Shape := ⟨4, ![16, 4, 2048, 2304]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩
abbrev S16x4x256x256 : Shape := ⟨4, ![16, 4, 256, 256]⟩
abbrev S16x4x256 : Shape := ⟨3, ![16, 4, 256]⟩
abbrev S16x4x256x1 : Shape := ⟨4, ![16, 4, 256, 1]⟩
abbrev S16x4x64x256 : Shape := ⟨4, ![16, 4, 64, 256]⟩
abbrev S32768x4x64 : Shape := ⟨3, ![32768, 4, 64]⟩
abbrev S4096x4x64 : Shape := ⟨3, ![4096, 4, 64]⟩
abbrev S36864x4x64 : Shape := ⟨3, ![36864, 4, 64]⟩
abbrev S36864x4x128 : Shape := ⟨3, ![36864, 4, 128]⟩
abbrev S36864x512 : Shape := ⟨2, ![36864, 512]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x4x96, .f32⟩
  | .hbm, ⟨1, _⟩ => ⟨S16x2048x4x96, .f32⟩
  | .hbm, ⟨2, _⟩ => ⟨S16x2048x4x64, .f32⟩
  | .hbm, ⟨3, _⟩ => ⟨S16x256x4x96, .f32⟩
  | .hbm, ⟨4, _⟩ => ⟨S16x256x4x96, .f32⟩
  | .hbm, ⟨5, _⟩ => ⟨S16x256x4x64, .f32⟩
  | .hbm, ⟨6, _⟩ => ⟨S16x4x2048x2048, .f32⟩
  | .hbm, ⟨7, _⟩ => ⟨S_, .f32⟩
  | .hbm, ⟨8, _⟩ => ⟨S16x4x2048x2048, .f32⟩
  | .hbm, ⟨9, _⟩ => ⟨S16x4x2048x2048, .f32⟩
  | .hbm, ⟨10, _⟩ => ⟨S16x4x2048x256, .f32⟩
  | .hbm, ⟨11, _⟩ => ⟨S_, .f32⟩
  | .hbm, ⟨12, _⟩ => ⟨S16x4x2048x256, .f32⟩
  | .hbm, ⟨13, _⟩ => ⟨S16x4x2048x256, .f32⟩
  | .hbm, ⟨14, _⟩ => ⟨S16x4x2048x2304, .f32⟩
  | .hbm, ⟨15, _⟩ => ⟨S_, .f32⟩
  | .hbm, ⟨16, _⟩ => ⟨S16x4x2048, .f32⟩
  | .hbm, ⟨17, _⟩ => ⟨S_, .f32⟩
  | .hbm, ⟨18, _⟩ => ⟨S16x4x2048, .f32⟩
  | .hbm, ⟨19, _⟩ => ⟨S16x4x2048, .f32⟩
  | .hbm, ⟨20, _⟩ => ⟨S16x4x2048x1, .f32⟩
  | .hbm, ⟨21, _⟩ => ⟨S16x4x2048x2304, .f32⟩
  | .hbm, ⟨22, _⟩ => ⟨S16x4x2048x2304, .f32⟩
  | .hbm, ⟨23, _⟩ => ⟨S16x4x2048x2304, .f32⟩
  | .hbm, ⟨24, _⟩ => ⟨S_, .f32⟩
  | .hbm, ⟨25, _⟩ => ⟨S16x4x2048, .f32⟩
  | .hbm, ⟨26, _⟩ => ⟨S16x4x2048x1, .f32⟩
  | .hbm, ⟨27, _⟩ => ⟨S16x4x2048x2304, .f32⟩
  | .hbm, ⟨28, _⟩ => ⟨S16x4x2048x2304, .f32⟩
  | .hbm, ⟨29, _⟩ => ⟨S16x4x2048x2048, .f32⟩
  | .hbm, ⟨30, _⟩ => ⟨S16x4x64x2048, .f32⟩
  | .hbm, ⟨31, _⟩ => ⟨S16x2048x4x64, .f32⟩
  | .hbm, ⟨32, _⟩ => ⟨S16x4x2048x256, .f32⟩
  | .hbm, ⟨33, _⟩ => ⟨S16x4x64x2048, .f32⟩
  | .hbm, ⟨34, _⟩ => ⟨S16x2048x4x64, .f32⟩
  | .hbm, ⟨35, _⟩ => ⟨S16x2048x4x64, .f32⟩
  | .hbm, ⟨36, _⟩ => ⟨S16x4x256x256, .f32⟩
  | .hbm, ⟨37, _⟩ => ⟨S_, .f32⟩
  | .hbm, ⟨38, _⟩ => ⟨S16x4x256x256, .f32⟩
  | .hbm, ⟨39, _⟩ => ⟨S16x4x256x256, .f32⟩
  | .hbm, ⟨40, _⟩ => ⟨S_, .f32⟩
  | .hbm, ⟨41, _⟩ => ⟨S16x4x256, .f32⟩
  | .hbm, ⟨42, _⟩ => ⟨S_, .f32⟩
  | .hbm, ⟨43, _⟩ => ⟨S16x4x256, .f32⟩
  | .hbm, ⟨44, _⟩ => ⟨S16x4x256, .f32⟩
  | .hbm, ⟨45, _⟩ => ⟨S16x4x256x1, .f32⟩
  | .hbm, ⟨46, _⟩ => ⟨S16x4x256x256, .f32⟩
  | .hbm, ⟨47, _⟩ => ⟨S16x4x256x256, .f32⟩
  | .hbm, ⟨48, _⟩ => ⟨S16x4x256x256, .f32⟩
  | .hbm, ⟨49, _⟩ => ⟨S_, .f32⟩
  | .hbm, ⟨50, _⟩ => ⟨S16x4x256, .f32⟩
  | .hbm, ⟨51, _⟩ => ⟨S16x4x256x1, .f32⟩
  | .hbm, ⟨52, _⟩ => ⟨S16x4x256x256, .f32⟩
  | .hbm, ⟨53, _⟩ => ⟨S16x4x256x256, .f32⟩
  | .hbm, ⟨54, _⟩ => ⟨S16x4x64x256, .f32⟩
  | .hbm, ⟨55, _⟩ => ⟨S16x256x4x64, .f32⟩
  | .hbm, ⟨56, _⟩ => ⟨S32768x4x64, .f32⟩
  | .hbm, ⟨57, _⟩ => ⟨S4096x4x64, .f32⟩
  | .hbm, ⟨58, _⟩ => ⟨S36864x4x64, .f32⟩
  | .hbm, ⟨59, _⟩ => ⟨S_, .i32⟩
  | .hbm, ⟨60, _⟩ => ⟨S_, .f32⟩
  | .hbm, ⟨61, _⟩ => ⟨S36864x4x128, .f32⟩
  | .hbm, ⟨62, _⟩ => ⟨S36864x512, .f32⟩
  | .hbm, ⟨63, _⟩ => ⟨S36864x512, .bf16⟩
  | _, _ => ⟨S16x2048x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel2.lean ====
abbrev S320 : Shape := ⟨1, ![320]⟩
abbrev S1 : Shape := ⟨1, ![1]⟩
abbrev S163840x1024 : Shape := ⟨2, ![163840, 1024]⟩
abbrev S64x1024x1024 : Shape := ⟨3, ![64, 1024, 1024]⟩
abbrev S64x1x1024 : Shape := ⟨3, ![64, 1, 1024]⟩
abbrev S_ : Shape := ⟨0, ![]⟩
abbrev S320x1 : Shape := ⟨2, ![320, 1]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 23
  | .vmem => 17
  | .smem => 2
  | _ => 0

abbrev bufTy : (tb : Table) → Fin (tcTables nBuf tb) → BufTy
  | .hbm, ⟨0, _⟩ => ⟨S320, .i32⟩
  | .hbm, ⟨1, _⟩ => ⟨S163840x1024, .f32⟩
  | .hbm, ⟨2, _⟩ => ⟨S64x1024x1024, .bf16⟩
  | .hbm, ⟨3, _⟩ => ⟨S64x1024x1024, .bf16⟩
  | .hbm, ⟨4, _⟩ => ⟨S64x1x1024, .f32⟩
  | .hbm, ⟨5, _⟩ => ⟨S64x1x1024, .f32⟩
  | .hbm, ⟨6, _⟩ => ⟨S64x1024x1024, .f32⟩
  | .hbm, ⟨7, _⟩ => ⟨S64x1x1024, .f32⟩
  | .hbm, ⟨8, _⟩ => ⟨S320, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S320, .i32⟩
  | .hbm, ⟨13, _⟩ => ⟨S320, .i32⟩
  | .hbm, ⟨14, _⟩ => ⟨S_, .i32⟩
  | .hbm, ⟨15, _⟩ => ⟨S320, .i32⟩
  | .hbm, ⟨16, _⟩ => ⟨S320, .i1⟩
  | .hbm, ⟨17, _⟩ => ⟨S_, .i32⟩
  | .hbm, ⟨18, _⟩ => ⟨S320, .i32⟩
  | .hbm, ⟨19, _⟩ => ⟨S320, .i32⟩
  | .hbm, ⟨20, _⟩ => ⟨S320, .i32⟩
  | .hbm, ⟨21, _⟩ => ⟨S320x1, .i32⟩
  | .hbm, ⟨22, _⟩ => ⟨S163840x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .smem, ⟨0, _⟩ => ⟨S320, .i32⟩
  | .local _ .smem, ⟨1, _⟩ => ⟨S1, .i32⟩
  | _, _ => ⟨S320, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v12 : Ref sig .tc := ⟨.hbm, 22, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let v3 : Index := Scalar.indexCast v2
  ![v3.toNat]

def k0_off3 (i : grid0.Coords) (v0 : BitVec 32) : Fin 1 → Nat :=
  let arg0 : BitVec 32 := BitVec.ofNat 32 (i 0).val
  let c1_i32_0 : BitVec 32 := 1#32
  let v5 : BitVec 32 := Scalar.subi arg0 c1_i32_0
  let c0_i32 : BitVec 32 := 0#32
  let v6 : BitVec 32 := Scalar.maxsi v5 c0_i32
  let c1_i32 : BitVec 32 := 1#32
  let v1 : BitVec 32 := Scalar.subi v0 c1_i32
  let v7 : BitVec 32 := Scalar.minsi v6 v1
  let v8 : Index := Scalar.indexCast v7
  ![v8.toNat]

def k0_chk1 (i : grid0.Coords) (v0 : BitVec 32) : Prop :=
  (∀ a, (k0_off2 i v0) a + S1.size a ≤ S320.size a) ∧
  (∀ a, (k0_off3 i v0) a + S1.size a ≤ S320.size a)
theorem k0_off2_inb : ∀ (i : grid0.Coords) (v0 : BitVec 32) (k0_hw1 : k0_chk1 i v0), ∀ a, (k0_off2 i v0) a + S1.size a ≤ S320.size a := fun i v0 k0_hw1 => k0_hw1.1
theorem k0_off3_inb : ∀ (i : grid0.Coords) (v0 : BitVec 32) (k0_hw1 : k0_chk1 i v0), ∀ a, (k0_off3 i v0) a + S1.size a ≤ S320.size a := fun i v0 k0_hw1 => k0_hw1.2

def k0_cond2 (i : grid0.Coords) (v15 : BitVec 32) : BitVec 1 :=
  let arg0 : BitVec 32 := BitVec.ofNat 32 (i 0).val
  let v16 : BitVec 1 := Scalar.cmpi .slt arg0 v15
  let v17 : BitVec 32 := Scalar.extui v16
  let c0_i32_4 : BitVec 32 := 0#32
  let v18 : BitVec 1 := Scalar.cmpi .ne v17 c0_i32_4
  v18

def k0_cond3 (i : grid0.Coords) (v19 : BitVec 32) : BitVec 1 :=
  let arg0 : BitVec 32 := BitVec.ofNat 32 (i 0).val
  let v20 : BitVec 1 := Scalar.cmpi .sge arg0 v19
  let v21 : BitVec 32 := Scalar.extui v20
  let c0_i32_6 : BitVec 32 := 0#32
  let v22 : BitVec 1 := Scalar.cmpi .ne v21 c0_i32_6
  v22

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
abbrev S320 : Shape := ⟨1, ![320]⟩
abbrev S1 : Shape := ⟨1, ![1]⟩
abbrev S163840x1024 : Shape := ⟨2, ![163840, 1024]⟩
abbrev S64x1024x1024 : Shape := ⟨3, ![64, 1024, 1024]⟩
abbrev S64x1x1024 : Shape := ⟨3, ![64, 1, 1024]⟩
abbrev S_ : Shape := ⟨0, ![]⟩
abbrev S320x1 : Shape := ⟨2, ![320, 1]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 23
  | .vmem => 17
  | .smem => 2
  | _ => 0

abbrev bufTy : (tb : Table) → Fin (tcTables nBuf tb) → BufTy
  | .hbm, ⟨0, _⟩ => ⟨S320, .i32⟩
  | .hbm, ⟨1, _⟩ => ⟨S163840x1024, .f32⟩
  | .hbm, ⟨2, _⟩ => ⟨S64x1024x1024, .bf16⟩
  | .hbm, ⟨3, _⟩ => ⟨S64x1024x1024, .bf16⟩
  | .hbm, ⟨4, _⟩ => ⟨S64x1x1024, .f32⟩
  | .hbm, ⟨5, _⟩ => ⟨S64x1x1024, .f32⟩
  | .hbm, ⟨6, _⟩ => ⟨S64x1024x1024, .f32⟩
  | .hbm, ⟨7, _⟩ => ⟨S64x1x1024, .f32⟩
  | .hbm, ⟨8, _⟩ => ⟨S320, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S320, .i32⟩
  | .hbm, ⟨13, _⟩ => ⟨S320, .i32⟩
  | .hbm, ⟨14, _⟩ => ⟨S_, .i32⟩
  | .hbm, ⟨15, _⟩ => ⟨S320, .i32⟩
  | .hbm, ⟨16, _⟩ => ⟨S320, .i1⟩
  | .hbm, ⟨17, _⟩ => ⟨S_, .i32⟩
  | .hbm, ⟨18, _⟩ => ⟨S320, .i32⟩
  | .hbm, ⟨19, _⟩ => ⟨S320, .i32⟩
  | .hbm, ⟨20, _⟩ => ⟨S320, .i32⟩
  | .hbm, ⟨21, _⟩ => ⟨S320x1, .i32⟩
  | .hbm, ⟨22, _⟩ => ⟨S163840x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .smem, ⟨0, _⟩ => ⟨S320, .i32⟩
  | .local _ .smem, ⟨1, _⟩ => ⟨S1, .i32⟩
  | _, _ => ⟨S320, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v12 : Ref sig .tc := ⟨.hbm, 22, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let v3 : Index := Scalar.indexCast v2
  ![v3.toNat]

def k0_off3 (i : grid0.Coords) (v0 : BitVec 32) : Fin 1 → Nat :=
  let arg0 : BitVec 32 := BitVec.ofNat 32 (i 0).val
  let c1_i32_0 : BitVec 32 := 1#32
  let v5 : BitVec 32 := Scalar.subi arg0 c1_i32_0
  let c0_i32 : BitVec 32 := 0#32
  let v6 : BitVec 32 := Scalar.maxsi v5 c0_i32
  let c1_i32 : BitVec 32 := 1#32
  let v1 : BitVec 32 := Scalar.subi v0 c1_i32
  let v7 : BitVec 32 := Scalar.minsi v6 v1
  let v8 : Index := Scalar.indexCast v7
  ![v8.toNat]

def k0_chk1 (i : grid0.Coords) (v0 : BitVec 32) : Prop :=
  (∀ a, (k0_off2 i v0) a + S1.size a ≤ S320.size a) ∧
  (∀ a, (k0_off3 i v0) a + S1.size a ≤ S320.size a)
theorem k0_off2_inb : ∀ (i : grid0.Coords) (v0 : BitVec 32) (k0_hw1 : k0_chk1 i v0), ∀ a, (k0_off2 i v0) a + S1.size a ≤ S320.size a := fun i v0 k0_hw1 => k0_hw1.1
theorem k0_off3_inb : ∀ (i : grid0.Coords) (v0 : BitVec 32) (k0_hw1 : k0_chk1 i v0), ∀ a, (k0_off3 i v0) a + S1.size a ≤ S320.size a := fun i v0 k0_hw1 => k0_hw1.2

def k0_cond2 (i : grid0.Coords) (v15 : BitVec 32) : BitVec 1 :=
  let arg0 : BitVec 32 := BitVec.ofNat 32 (i 0).val
  let v16 : BitVec 1 := Scalar.cmpi .slt arg0 v15
  let v17 : BitVec 32 := Scalar.extui v16
  let c0_i32_4 : BitVec 32 := 0#32
  let v18 : BitVec 1 := Scalar.cmpi .ne v17 c0_i32_4
  v18

def k0_cond3 (i : grid0.Coords) (v19 : BitVec 32) : BitVec 1 :=
  let arg0 : BitVec 32 := BitVec.ofNat 32 (i 0).val
  let v20 : BitVec 1 := Scalar.cmpi .sge arg0 v19
  let v21 : BitVec 32 := Scalar.extui v20
  let c0_i32_6 : BitVec 32 := 0#32
  let v22 : BitVec 1 := Scalar.cmpi .ne v21 c0_i32_6
  v22

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S320 : Shape := ⟨1, ![320]⟩
abbrev S1 : Shape := ⟨1, ![1]⟩
abbrev S163840x1024 : Shape := ⟨2, ![163840, 1024]⟩
abbrev S64x1024x1024 : Shape := ⟨3, ![64, 1024, 1024]⟩
abbrev S64x1x1024 : Shape := ⟨3, ![64, 1, 1024]⟩
abbrev S320x512x1024 : Shape := ⟨3, ![320, 512, 1024]⟩
abbrev S_ : Shape := ⟨0, ![]⟩
abbrev S320x1 : Shape := ⟨2, ![320, 1]⟩
abbrev S320x1024x1024 : Shape := ⟨3, ![320, 1024, 1024]⟩
abbrev S320x1x1024 : Shape := ⟨3, ![320, 1, 1024]⟩
abbrev S320x1x1 : Shape := ⟨3, ![320, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S320, .i32⟩
  | .hbm, ⟨1, _⟩ => ⟨S1, .i32⟩
  | .hbm, ⟨2, _⟩ => ⟨S163840x1024, .f32⟩
  | .hbm, ⟨3, _⟩ => ⟨S64x1024x1024, .bf16⟩
  | .hbm, ⟨4, _⟩ => ⟨S64x1024x1024, .bf16⟩
  | .hbm, ⟨5, _⟩ => ⟨S64x1x1024, .f32⟩
  | .hbm, ⟨6, _⟩ => ⟨S64x1x1024, .f32⟩
  | .hbm, ⟨7, _⟩ => ⟨S64x1024x1024, .f32⟩
  | .hbm, ⟨8, _⟩ => ⟨S64x1x1024, .f32⟩
  | .hbm, ⟨9, _⟩ => ⟨S320x512x1024, .f32⟩
  | .hbm, ⟨10, _⟩ => ⟨S_, .i32⟩
  | .hbm, ⟨11, _⟩ => ⟨S320, .i32⟩
  | .hbm, ⟨12, _⟩ => ⟨S320, .i1⟩
  | .hbm, ⟨13, _⟩ => ⟨S_, .i32⟩
  | .hbm, ⟨14, _⟩ => ⟨S320, .i32⟩
  | .hbm, ⟨15, _⟩ => ⟨S320, .i32⟩
  | .hbm, ⟨16, _⟩ => ⟨S320, .i32⟩
  | .hbm, ⟨17, _⟩ => ⟨S320x1, .i32⟩
  | .hbm, ⟨18, _⟩ => ⟨S320x1024x1024, .bf16⟩
  | .hbm, ⟨19, _⟩ => ⟨S320x1024x1024, .f32⟩
  | .hbm, ⟨20, _⟩ => ⟨S320x512x1024, .f32⟩
  | .hbm, ⟨21, _⟩ => ⟨S_, .i32⟩
  | .hbm, ⟨22, _⟩ => ⟨S320, .i32⟩
  | .hbm, ⟨23, _⟩ => ⟨S320, .i1⟩
  | .hbm, ⟨24, _⟩ => ⟨S_, .i32⟩
  | .hbm, ⟨25, _⟩ => ⟨S320, .i32⟩
  | .hbm, ⟨26, _⟩ => ⟨S320, .i32⟩
  | .hbm, ⟨27, _⟩ => ⟨S320, .i32⟩
  | .hbm, ⟨28, _⟩ => ⟨S320x1, .i32⟩
  | .hbm, ⟨29, _⟩ => ⟨S320x1x1024, .f32⟩
  | .hbm, ⟨30, _⟩ => ⟨S320x512x1024, .f32⟩
  | .hbm, ⟨31, _⟩ => ⟨S320x512x1024, .f32⟩
  | .hbm, ⟨32, _⟩ => ⟨S_, .i32⟩
  | .hbm, ⟨33, _⟩ => ⟨S320, .i32⟩
  | .hbm, ⟨34, _⟩ => ⟨S320, .i1⟩
  | .hbm, ⟨35, _⟩ => ⟨S_, .i32⟩
  | .hbm, ⟨36, _⟩ => ⟨S320, .i32⟩
  | .hbm, ⟨37, _⟩ => ⟨S320, .i32⟩
  | .hbm, ⟨38, _⟩ => ⟨S320, .i32⟩
  | .hbm, ⟨39, _⟩ => ⟨S320x1, .i32⟩
  | .hbm, ⟨40, _⟩ => ⟨S320x1024x1024, .bf16⟩
  | .hbm, ⟨41, _⟩ => ⟨S320x1024x1024, .f32⟩
  | .hbm, ⟨42, _⟩ => ⟨S320x512x1024, .f32⟩
  | .hbm, ⟨43, _⟩ => ⟨S_, .i32⟩
  | .hbm, ⟨44, _⟩ => ⟨S320, .i32⟩
  | .hbm, ⟨45, _⟩ => ⟨S320, .i1⟩
  | .hbm, ⟨46, _⟩ => ⟨S_, .i32⟩
  | .hbm, ⟨47, _⟩ => ⟨S320, .i32⟩
  | .hbm, ⟨48, _⟩ => ⟨S320, .i32⟩
  | .hbm, ⟨49, _⟩ => ⟨S320, .i32⟩
  | .hbm, ⟨50, _⟩ => ⟨S320x1, .i32⟩
  | .hbm, ⟨51, _⟩ => ⟨S320x1x1024, .f32⟩
  | .hbm, ⟨52, _⟩ => ⟨S320x512x1024, .f32⟩
  | .hbm, ⟨53, _⟩ => ⟨S320x512x1024, .f32⟩
  | .hbm, ⟨54, _⟩ => ⟨S_, .f32⟩
  | .hbm, ⟨55, _⟩ => ⟨S320x512x1024, .f32⟩
  | .hbm, ⟨56, _⟩ => ⟨S320x512x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S320x512x1024, .f32⟩
  | .hbm, ⟨61, _⟩ => ⟨S320x512x1024, .f32⟩
  | .hbm, ⟨62, _⟩ => ⟨S_, .f32⟩
  | .hbm, ⟨63, _⟩ => ⟨S320x512x1024, .f32⟩
  | .hbm, ⟨64, _⟩ => ⟨S320x512x1024, .f32⟩
  | .hbm, ⟨65, _⟩ => ⟨S_, .f32⟩
  | .hbm, ⟨66, _⟩ => ⟨S320x512x1024, .f32⟩
  | .hbm, ⟨67, _⟩ => ⟨S320x512x1024, .f32⟩
  | .hbm, ⟨68, _⟩ => ⟨S320x512x1024, .f32⟩
  | .hbm, ⟨69, _⟩ => ⟨S320x512x1024, .f32⟩
  | .hbm, ⟨70, _⟩ => ⟨S_, .f32⟩
  | .hbm, ⟨71, _⟩ => ⟨S320x512x1024, .f32⟩
  | .hbm, ⟨72, _⟩ => ⟨S320x512x1024, .f32⟩
  | .hbm, ⟨73, _⟩ => ⟨S_, .f32⟩
  | .hbm, ⟨74, _⟩ => ⟨S320x512x1024, .f32⟩
  | .hbm, ⟨75, _⟩ => ⟨S320x512x1024, .f32⟩
  | .hbm, ⟨76, _⟩ => ⟨S320x512x1024, .f32⟩
  | .hbm, ⟨77, _⟩ => ⟨S_, .f32⟩
  | .hbm, ⟨78, _⟩ => ⟨S320x512x1024, .f32⟩
  | .hbm, ⟨79, _⟩ => ⟨S320x512x1024, .f32⟩
  | .hbm, ⟨80, _⟩ => ⟨S320x512x1024, .f32⟩
  | .hbm, ⟨81, _⟩ => ⟨S_, .i32⟩
  | .hbm, ⟨82, _⟩ => ⟨S320, .i32⟩
  | .hbm, ⟨83, _⟩ => ⟨S320, .i1⟩
  | .hbm, ⟨84, _⟩ => ⟨S_, .i32⟩
  | .hbm, ⟨85, _⟩ => ⟨S320, .i32⟩
  | .hbm, ⟨86, _⟩ => ⟨S320, .i32⟩
  | .hbm, ⟨87, _⟩ => ⟨S320, .i32⟩
  | .hbm, ⟨88, _⟩ => ⟨S320x1, .i32⟩
  | .hbm, ⟨89, _⟩ => ⟨S320x1024x1024, .f32⟩
  | .hbm, ⟨90, _⟩ => ⟨S320x512x1024, .f32⟩
  | .hbm, ⟨91, _⟩ => ⟨S_, .i32⟩
  | .hbm, ⟨92, _⟩ => ⟨S320, .i32⟩
  | .hbm, ⟨93, _⟩ => ⟨S320, .i1⟩
  | .hbm, ⟨94, _⟩ => ⟨S_, .i32⟩
  | .hbm, ⟨95, _⟩ => ⟨S320, .i32⟩
  | .hbm, ⟨96, _⟩ => ⟨S320, .i32⟩
  | .hbm, ⟨97, _⟩ => ⟨S320, .i32⟩
  | .hbm, ⟨98, _⟩ => ⟨S320x1, .i32⟩
  | .hbm, ⟨99, _⟩ => ⟨S320x1x1024, .f32⟩
  | .hbm, ⟨100, _⟩ => ⟨S320x512x1024, .f32⟩
  | .hbm, ⟨101, _⟩ => ⟨S320x512x1024, .f32⟩
  | .hbm, ⟨102, _⟩ => ⟨S320, .i32⟩
  | .hbm, ⟨103, _⟩ => ⟨S_, .i32⟩
  | .hbm, ⟨104, _⟩ => ⟨S320, .i32⟩
  | .hbm, ⟨105, _⟩ => ⟨S320, .i1⟩
  | .hbm, ⟨106, _⟩ => ⟨S320x1x1, .i1⟩
  | .hbm, ⟨107, _⟩ => ⟨S_, .f32⟩
  | .hbm, ⟨108, _⟩ => ⟨S_, .f32⟩
  | .hbm, ⟨109, _⟩ => ⟨S320x512x1024, .i1⟩
  | .hbm, ⟨110, _⟩ => ⟨S320x512x1024, .f32⟩
  | .hbm, ⟨111, _⟩ => ⟨S320x512x1024, .f32⟩
  | .hbm, ⟨112, _⟩ => ⟨S163840x1024, .f32⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S147456x1024 : Shape := ⟨2, ![147456, 1024]⟩
abbrev S64x1024x1024 : Shape := ⟨3, ![64, 1024, 1024]⟩
abbrev S64x1x1024 : Shape := ⟨3, ![64, 1, 1024]⟩
abbrev S_ : Shape := ⟨0, ![]⟩
abbrev S288x1 : Shape := ⟨2, ![288, 1]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 23
  | .vmem => 17
  | .smem => 2
  | _ => 0

abbrev bufTy : (tb : Table) → Fin (tcTables nBuf tb) → BufTy
  | .hbm, ⟨0, _⟩ => ⟨S288, .i32⟩
  | .hbm, ⟨1, _⟩ => ⟨S147456x1024, .f32⟩
  | .hbm, ⟨2, _⟩ => ⟨S64x1024x1024, .bf16⟩
  | .hbm, ⟨3, _⟩ => ⟨S64x1024x1024, .bf16⟩
  | .hbm, ⟨4, _⟩ => ⟨S64x1x1024, .f32⟩
  | .hbm, ⟨5, _⟩ => ⟨S64x1x1024, .f32⟩
  | .hbm, ⟨6, _⟩ => ⟨S64x1024x1024, .f32⟩
  | .hbm, ⟨7, _⟩ => ⟨S64x1x1024, .f32⟩
  | .hbm, ⟨8, _⟩ => ⟨S288, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S_, .i32⟩
  | .hbm, ⟨15, _⟩ => ⟨S288, .i32⟩
  | .hbm, ⟨16, _⟩ => ⟨S288, .i1⟩
  | .hbm, ⟨17, _⟩ => ⟨S_, .i32⟩
  | .hbm, ⟨18, _⟩ => ⟨S288, .i32⟩
  | .hbm, ⟨19, _⟩ => ⟨S288, .i32⟩
  | .hbm, ⟨20, _⟩ => ⟨S288, .i32⟩
  | .hbm, ⟨21, _⟩ => ⟨S288x1, .i32⟩
  | .hbm, ⟨22, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .smem, ⟨0, _⟩ => ⟨S288, .i32⟩
  | .local _ .smem, ⟨1, _⟩ => ⟨S1, .i32⟩
  | _, _ => ⟨S288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v12 : Ref sig .tc := ⟨.hbm, 22, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let v3 : Index := Scalar.indexCast v2
  ![v3.toNat]

def k0_off3 (i : grid0.Coords) (v0 : BitVec 32) : Fin 1 → Nat :=
  let arg0 : BitVec 32 := BitVec.ofNat 32 (i 0).val
  let c1_i32_0 : BitVec 32 := 1#32
  let v5 : BitVec 32 := Scalar.subi arg0 c1_i32_0
  let c0_i32 : BitVec 32 := 0#32
  let v6 : BitVec 32 := Scalar.maxsi v5 c0_i32
  let c1_i32 : BitVec 32 := 1#32
  let v1 : BitVec 32 := Scalar.subi v0 c1_i32
  let v7 : BitVec 32 := Scalar.minsi v6 v1
  let v8 : Index := Scalar.indexCast v7
  ![v8.toNat]

def k0_chk1 (i : grid0.Coords) (v0 : BitVec 32) : Prop :=
  (∀ a, (k0_off2 i v0) a + S1.size a ≤ S288.size a) ∧
  (∀ a, (k0_off3 i v0) a + S1.size a ≤ S288.size a)
theorem k0_off2_inb : ∀ (i : grid0.Coords) (v0 : BitVec 32) (k0_hw1 : k0_chk1 i v0), ∀ a, (k0_off2 i v0) a + S1.size a ≤ S288.size a := fun i v0 k0_hw1 => k0_hw1.1
theorem k0_off3_inb : ∀ (i : grid0.Coords) (v0 : BitVec 32) (k0_hw1 : k0_chk1 i v0), ∀ a, (k0_off3 i v0) a + S1.size a ≤ S288.size a := fun i v0 k0_hw1 => k0_hw1.2

def k0_cond2 (i : grid0.Coords) (v15 : BitVec 32) : BitVec 1 :=
  let arg0 : BitVec 32 := BitVec.ofNat 32 (i 0).val
  let v16 : BitVec 1 := Scalar.cmpi .slt arg0 v15
  let v17 : BitVec 32 := Scalar.extui v16
  let c0_i32_4 : BitVec 32 := 0#32
  let v18 : BitVec 1 := Scalar.cmpi .ne v17 c0_i32_4
  v18

def k0_cond3 (i : grid0.Coords) (v19 : BitVec 32) : BitVec 1 :=
  let arg0 : BitVec 32 := BitVec.ofNat 32 (i 0).val
  let v20 : BitVec 1 := Scalar.cmpi .sge arg0 v19
  let v21 : BitVec 32 := Scalar.extui v20
  let c0_i32_6 : BitVec 32 := 0#32
  let v22 : BitVec 1 := Scalar.cmpi .ne v21 c0_i32_6
  v22

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S288 : Shape := ⟨1, ![288]⟩
abbrev S1 : Shape := ⟨1, ![1]⟩
abbrev S147456x1024 : Shape := ⟨2, ![147456, 1024]⟩
abbrev S64x1024x1024 : Shape := ⟨3, ![64, 1024, 1024]⟩
abbrev S64x1x1024 : Shape := ⟨3, ![64, 1, 1024]⟩
abbrev S288x512x1024 : Shape := ⟨3, ![288, 512, 1024]⟩
abbrev S_ : Shape := ⟨0, ![]⟩
abbrev S288x1 : Shape := ⟨2, ![288, 1]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .f32⟩
  | .hbm, ⟨3, _⟩ => ⟨S64x1024x1024, .bf16⟩
  | .hbm, ⟨4, _⟩ => ⟨S64x1024x1024, .bf16⟩
  | .hbm, ⟨5, _⟩ => ⟨S64x1x1024, .f32⟩
  | .hbm, ⟨6, _⟩ => ⟨S64x1x1024, .f32⟩
  | .hbm, ⟨7, _⟩ => ⟨S64x1024x1024, .f32⟩
  | .hbm, ⟨8, _⟩ => ⟨S64x1x1024, .f32⟩
  | .hbm, ⟨9, _⟩ => ⟨S288x512x1024, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x1024, .bf16⟩
  | .hbm, ⟨19, _⟩ => ⟨S288x1024x1024, .f32⟩
  | .hbm, ⟨20, _⟩ => ⟨S288x512x1024, .f32⟩
  | .hbm, ⟨21, _⟩ => ⟨S_, .i32⟩
  | .hbm, ⟨22, _⟩ => ⟨S288, .i32⟩
  | .hbm, ⟨23, _⟩ => ⟨S288, .i1⟩
  | .hbm, ⟨24, _⟩ => ⟨S_, .i32⟩
  | .hbm, ⟨25, _⟩ => ⟨S288, .i32⟩
  | .hbm, ⟨26, _⟩ => ⟨S288, .i32⟩
  | .hbm, ⟨27, _⟩ => ⟨S288, .i32⟩
  | .hbm, ⟨28, _⟩ => ⟨S288x1, .i32⟩
  | .hbm, ⟨29, _⟩ => ⟨S288x1x1024, .f32⟩
  | .hbm, ⟨30, _⟩ => ⟨S288x512x1024, .f32⟩
  | .hbm, ⟨31, _⟩ => ⟨S288x512x1024, .f32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S_, .i32⟩
  | .hbm, ⟨36, _⟩ => ⟨S288, .i32⟩
  | .hbm, ⟨37, _⟩ => ⟨S288, .i32⟩
  | .hbm, ⟨38, _⟩ => ⟨S288, .i32⟩
  | .hbm, ⟨39, _⟩ => ⟨S288x1, .i32⟩
  | .hbm, ⟨40, _⟩ => ⟨S288x1024x1024, .bf16⟩
  | .hbm, ⟨41, _⟩ => ⟨S288x1024x1024, .f32⟩
  | .hbm, ⟨42, _⟩ => ⟨S288x512x1024, .f32⟩
  | .hbm, ⟨43, _⟩ => ⟨S_, .i32⟩
  | .hbm, ⟨44, _⟩ => ⟨S288, .i32⟩
  | .hbm, ⟨45, _⟩ => ⟨S288, .i1⟩
  | .hbm, ⟨46, _⟩ => ⟨S_, .i32⟩
  | .hbm, ⟨47, _⟩ => ⟨S288, .i32⟩
  | .hbm, ⟨48, _⟩ => ⟨S288, .i32⟩
  | .hbm, ⟨49, _⟩ => ⟨S288, .i32⟩
  | .hbm, ⟨50, _⟩ => ⟨S288x1, .i32⟩
  | .hbm, ⟨51, _⟩ => ⟨S288x1x1024, .f32⟩
  | .hbm, ⟨52, _⟩ => ⟨S288x512x1024, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S288x512x1024, .f32⟩
  | .hbm, ⟨61, _⟩ => ⟨S288x512x1024, .f32⟩
  | .hbm, ⟨62, _⟩ => ⟨S_, .f32⟩
  | .hbm, ⟨63, _⟩ => ⟨S288x512x1024, .f32⟩
  | .hbm, ⟨64, _⟩ => ⟨S288x512x1024, .f32⟩
  | .hbm, ⟨65, _⟩ => ⟨S_, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S_, .f32⟩
  | .hbm, ⟨71, _⟩ => ⟨S288x512x1024, .f32⟩
  | .hbm, ⟨72, _⟩ => ⟨S288x512x1024, .f32⟩
  | .hbm, ⟨73, _⟩ => ⟨S_, .f32⟩
  | .hbm, ⟨74, _⟩ => ⟨S288x512x1024, .f32⟩
  | .hbm, ⟨75, _⟩ => ⟨S288x512x1024, .f32⟩
  | .hbm, ⟨76, _⟩ => ⟨S288x512x1024, .f32⟩
  | .hbm, ⟨77, _⟩ => ⟨S_, .f32⟩
  | .hbm, ⟨78, _⟩ => ⟨S288x512x1024, .f32⟩
  | .hbm, ⟨79, _⟩ => ⟨S288x512x1024, .f32⟩
  | .hbm, ⟨80, _⟩ => ⟨S288x512x1024, .f32⟩
  | .hbm, ⟨81, _⟩ => ⟨S_, .i32⟩
  | .hbm, ⟨82, _⟩ => ⟨S288, .i32⟩
  | .hbm, ⟨83, _⟩ => ⟨S288, .i1⟩
  | .hbm, ⟨84, _⟩ => ⟨S_, .i32⟩
  | .hbm, ⟨85, _⟩ => ⟨S288, .i32⟩
  | .hbm, ⟨86, _⟩ => ⟨S288, .i32⟩
  | .hbm, ⟨87, _⟩ => ⟨S288, .i32⟩
  | .hbm, ⟨88, _⟩ => ⟨S288x1, .i32⟩
  | .hbm, ⟨89, _⟩ => ⟨S288x1024x1024, .f32⟩
  | .hbm, ⟨90, _⟩ => ⟨S288x512x1024, .f32⟩
  | .hbm, ⟨91, _⟩ => ⟨S_, .i32⟩
  | .hbm, ⟨92, _⟩ => ⟨S288, .i32⟩
  | .hbm, ⟨93, _⟩ => ⟨S288, .i1⟩
  | .hbm, ⟨94, _⟩ => ⟨S_, .i32⟩
  | .hbm, ⟨95, _⟩ => ⟨S288, .i32⟩
  | .hbm, ⟨96, _⟩ => ⟨S288, .i32⟩
  | .hbm, ⟨97, _⟩ => ⟨S288, .i32⟩
  | .hbm, ⟨98, _⟩ => ⟨S288x1, .i32⟩
  | .hbm, ⟨99, _⟩ => ⟨S288x1x1024, .f32⟩
  | .hbm, ⟨100, _⟩ => ⟨S288x512x1024, .f32⟩
  | .hbm, ⟨101, _⟩ => ⟨S288x512x1024, .f32⟩
  | .hbm, ⟨102, _⟩ => ⟨S288, .i32⟩
  | .hbm, ⟨103, _⟩ => ⟨S_, .i32⟩
  | .hbm, ⟨104, _⟩ => ⟨S288, .i32⟩
  | .hbm, ⟨105, _⟩ => ⟨S288, .i1⟩
  | .hbm, ⟨106, _⟩ => ⟨S288x1x1, .i1⟩
  | .hbm, ⟨107, _⟩ => ⟨S_, .f32⟩
  | .hbm, ⟨108, _⟩ => ⟨S_, .f32⟩
  | .hbm, ⟨109, _⟩ => ⟨S288x512x1024, .i1⟩
  | .hbm, ⟨110, _⟩ => ⟨S288x512x1024, .f32⟩
  | .hbm, ⟨111, _⟩ => ⟨S288x512x1024, .f32⟩
  | .hbm, ⟨112, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]
-- ==== Kernel4.lean ====
abbrev S36864x256 : Shape := ⟨2, ![36864, 256]⟩
abbrev S36864x512 : Shape := ⟨2, ![36864, 512]⟩
abbrev S36864x2048 : Shape := ⟨2, ![36864, 2048]⟩
abbrev S32768x1024 : Shape := ⟨2, ![32768, 1024]⟩
abbrev S4096x1024 : Shape := ⟨2, ![4096, 1024]⟩
abbrev S256x1024 : Shape := ⟨2, ![256, 1024]⟩
abbrev S512x1024 : Shape := ⟨2, ![512, 1024]⟩
abbrev S128 : Shape := ⟨1, ![128]⟩
abbrev S1024 : Shape := ⟨1, ![1024]⟩
abbrev S24x6x1024 : Shape := ⟨3, ![24, 6, 1024]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x1024 : Shape := ⟨2, ![1, 1024]⟩
abbrev S36864x1024 : Shape := ⟨2, ![36864, 1024]⟩
abbrev S512x256 : Shape := ⟨2, ![512, 256]⟩
abbrev S512x512 : Shape := ⟨2, ![512, 512]⟩
abbrev S1x6x1024 : Shape := ⟨3, ![1, 6, 1024]⟩
abbrev S6x1024 : Shape := ⟨2, ![6, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 20
  | .vmem => 25
  | .smem => 0
  | _ => 0

abbrev bufTy : (tb : Table) → Fin (tcTables nBuf tb) → BufTy
  | .hbm, ⟨0, _⟩ => ⟨S36864x256, .bf16⟩
  | .hbm, ⟨1, _⟩ => ⟨S36864x512, .f32⟩
  | .hbm, ⟨2, _⟩ => ⟨S36864x512, .f32⟩
  | .hbm, ⟨3, _⟩ => ⟨S36864x2048, .f32⟩
  | .hbm, ⟨4, _⟩ => ⟨S36864x512, .bf16⟩
  | .hbm, ⟨5, _⟩ => ⟨S32768x1024, .f32⟩
  | .hbm, ⟨6, _⟩ => ⟨S4096x1024, .f32⟩
  | .hbm, ⟨7, _⟩ => ⟨S256x1024, .bf16⟩
  | .hbm, ⟨8, _⟩ => ⟨S512x1024, .bf16⟩
  | .hbm, ⟨9, _⟩ => ⟨S512x1024, .bf16⟩
  | .hbm, ⟨10, _⟩ => ⟨S128, .f32⟩
  | .hbm, ⟨11, _⟩ => ⟨S1024, .f32⟩
  | .hbm, ⟨12, _⟩ => ⟨S24x6x1024, .f32⟩
  | .hbm, ⟨13, _⟩ => ⟨S1x128, .f32⟩
  | .hbm, ⟨14, _⟩ => ⟨S4x128, .f32⟩
  | .hbm, ⟨15, _⟩ => ⟨S512, .f32⟩
  | .hbm, ⟨16, _⟩ => ⟨S1x512, .f32⟩
  | .hbm, ⟨17, _⟩ => ⟨S1x1024, .f32⟩
  | .hbm, ⟨18, _⟩ => ⟨S36864x1024, .f32⟩
  | .hbm, ⟨19, _⟩ => ⟨S36864x1024, .f32⟩
  | .local _ .vmem, ⟨0, _⟩ => ⟨S512x256, .bf16⟩
  | .local _ .vmem, ⟨1, _⟩ => ⟨S512x256, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S256x1024, .bf16⟩
  | .local _ .vmem, ⟨15, _⟩ => ⟨S512x1024, .bf16⟩
  | .local _ .vmem, ⟨16, _⟩ => ⟨S512x1024, .bf16⟩
  | .local _ .vmem, ⟨17, _⟩ => ⟨S1x512, .f32⟩
  | .local _ .vmem, ⟨18, _⟩ => ⟨S1x1024, .f32⟩
  | .local _ .vmem, ⟨19, _⟩ => ⟨S1x6x1024, .f32⟩
  | .local _ .vmem, ⟨20, _⟩ => ⟨S1x6x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S36864x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c0_i32_4 : BitVec 32 := 0#32
  let c0_i32_5 : BitVec 32 := 0#32
  let c0_i32_6 : BitVec 32 := 0#32
  ![v17.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x6x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S36864x256 : Shape := ⟨2, ![36864, 256]⟩
abbrev S36864x512 : Shape := ⟨2, ![36864, 512]⟩
abbrev S36864x2048 : Shape := ⟨2, ![36864, 2048]⟩
abbrev S32768x1024 : Shape := ⟨2, ![32768, 1024]⟩
abbrev S4096x1024 : Shape := ⟨2, ![4096, 1024]⟩
abbrev S256x1024 : Shape := ⟨2, ![256, 1024]⟩
abbrev S512x1024 : Shape := ⟨2, ![512, 1024]⟩
abbrev S128 : Shape := ⟨1, ![128]⟩
abbrev S1024 : Shape := ⟨1, ![1024]⟩
abbrev S24x6x1024 : Shape := ⟨3, ![24, 6, 1024]⟩
abbrev S36864x4x128 : Shape := ⟨3, ![36864, 4, 128]⟩
abbrev S_ : Shape := ⟨0, ![]⟩
abbrev S36864x4 : Shape := ⟨2, ![36864, 4]⟩
abbrev S36864x4x1 : Shape := ⟨3, ![36864, 4, 1]⟩
abbrev S1x1x128 : Shape := ⟨3, ![1, 1, 128]⟩
abbrev S36864x1280 : Shape := ⟨2, ![36864, 1280]⟩
abbrev S1280x1024 : Shape := ⟨2, ![1280, 1024]⟩
abbrev S36864x1024 : Shape := ⟨2, ![36864, 1024]⟩
abbrev S16x6x1024 : Shape := ⟨3, ![16, 6, 1024]⟩
abbrev S16x2048x6x1024 : Shape := ⟨4, ![16, 2048, 6, 1024]⟩
abbrev S32768x6x1024 : Shape := ⟨3, ![32768, 6, 1024]⟩
abbrev S1x6x1024 : Shape := ⟨3, ![1, 6, 1024]⟩
abbrev S1x4096x6x1024 : Shape := ⟨4, ![1, 4096, 6, 1024]⟩
abbrev S4096x6x1024 : Shape := ⟨3, ![4096, 6, 1024]⟩
abbrev S36864x6x1024 : Shape := ⟨3, ![36864, 6, 1024]⟩
abbrev S36864x1x1024 : Shape := ⟨3, ![36864, 1, 1024]⟩
abbrev S36864 : Shape := ⟨1, ![36864]⟩
abbrev S36864x1 : Shape := ⟨2, ![36864, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S36864x256, .bf16⟩
  | .hbm, ⟨1, _⟩ => ⟨S36864x512, .f32⟩
  | .hbm, ⟨2, _⟩ => ⟨S36864x512, .f32⟩
  | .hbm, ⟨3, _⟩ => ⟨S36864x2048, .f32⟩
  | .hbm, ⟨4, _⟩ => ⟨S36864x512, .bf16⟩
  | .hbm, ⟨5, _⟩ => ⟨S32768x1024, .f32⟩
  | .hbm, ⟨6, _⟩ => ⟨S4096x1024, .f32⟩
  | .hbm, ⟨7, _⟩ => ⟨S256x1024, .bf16⟩
  | .hbm, ⟨8, _⟩ => ⟨S512x1024, .bf16⟩
  | .hbm, ⟨9, _⟩ => ⟨S512x1024, .bf16⟩
  | .hbm, ⟨10, _⟩ => ⟨S128, .f32⟩
  | .hbm, ⟨11, _⟩ => ⟨S1024, .f32⟩
  | .hbm, ⟨12, _⟩ => ⟨S24x6x1024, .f32⟩
  | .hbm, ⟨13, _⟩ => ⟨S36864x512, .f32⟩
  | .hbm, ⟨14, _⟩ => ⟨S36864x4x128, .f32⟩
  | .hbm, ⟨15, _⟩ => ⟨S36864x512, .f32⟩
  | .hbm, ⟨16, _⟩ => ⟨S36864x4x128, .f32⟩
  | .hbm, ⟨17, _⟩ => ⟨S36864x4x128, .f32⟩
  | .hbm, ⟨18, _⟩ => ⟨S_, .f32⟩
  | .hbm, ⟨19, _⟩ => ⟨S36864x4, .f32⟩
  | .hbm, ⟨20, _⟩ => ⟨S36864x4x1, .f32⟩
  | .hbm, ⟨21, _⟩ => ⟨S_, .f32⟩
  | .hbm, ⟨22, _⟩ => ⟨S36864x4x1, .f32⟩
  | .hbm, ⟨23, _⟩ => ⟨S36864x4x1, .f32⟩
  | .hbm, ⟨24, _⟩ => ⟨S_, .f32⟩
  | .hbm, ⟨25, _⟩ => ⟨S36864x4x1, .f32⟩
  | .hbm, ⟨26, _⟩ => ⟨S36864x4x1, .f32⟩
  | .hbm, ⟨27, _⟩ => ⟨S36864x4x1, .f32⟩
  | .hbm, ⟨28, _⟩ => ⟨S36864x4x128, .f32⟩
  | .hbm, ⟨29, _⟩ => ⟨S36864x4x128, .f32⟩
  | .hbm, ⟨30, _⟩ => ⟨S1x1x128, .f32⟩
  | .hbm, ⟨31, _⟩ => ⟨S36864x4x128, .f32⟩
  | .hbm, ⟨32, _⟩ => ⟨S36864x4x128, .f32⟩
  | .hbm, ⟨33, _⟩ => ⟨S36864x4x128, .f32⟩
  | .hbm, ⟨34, _⟩ => ⟨S36864x4x128, .f32⟩
  | .hbm, ⟨35, _⟩ => ⟨S_, .f32⟩
  | .hbm, ⟨36, _⟩ => ⟨S36864x4x128, .f32⟩
  | .hbm, ⟨37, _⟩ => ⟨S36864x4x128, .f32⟩
  | .hbm, ⟨38, _⟩ => ⟨S_, .f32⟩
  | .hbm, ⟨39, _⟩ => ⟨S36864x4x128, .f32⟩
  | .hbm, ⟨40, _⟩ => ⟨S36864x4x128, .f32⟩
  | .hbm, ⟨41, _⟩ => ⟨S36864x4x128, .f32⟩
  | .hbm, ⟨42, _⟩ => ⟨S36864x4x128, .f32⟩
  | .hbm, ⟨43, _⟩ => ⟨S36864x512, .f32⟩
  | .hbm, ⟨44, _⟩ => ⟨S36864x256, .f32⟩
  | .hbm, ⟨45, _⟩ => ⟨S36864x512, .f32⟩
  | .hbm, ⟨46, _⟩ => ⟨S36864x1280, .f32⟩
  | .hbm, ⟨47, _⟩ => ⟨S1280x1024, .bf16⟩
  | .hbm, ⟨48, _⟩ => ⟨S1280x1024, .f32⟩
  | .hbm, ⟨49, _⟩ => ⟨S36864x1024, .f32⟩
  | .hbm, ⟨50, _⟩ => ⟨S16x6x1024, .f32⟩
  | .hbm, ⟨51, _⟩ => ⟨S16x2048x6x1024, .f32⟩
  | .hbm, ⟨52, _⟩ => ⟨S32768x6x1024, .f32⟩
  | .hbm, ⟨53, _⟩ => ⟨S1x6x1024, .f32⟩
  | .hbm, ⟨54, _⟩ => ⟨S1x4096x6x1024, .f32⟩
  | .hbm, ⟨55, _⟩ => ⟨S4096x6x1024, .f32⟩
  | .hbm, ⟨56, _⟩ => ⟨S36864x6x1024, .f32⟩
  | .hbm, ⟨57, _⟩ => ⟨S36864x1024, .f32⟩
  | .hbm, ⟨58, _⟩ => ⟨S36864x1x1024, .f32⟩
  | .hbm, ⟨59, _⟩ => ⟨S36864x1024, .f32⟩
  | .hbm, ⟨60, _⟩ => ⟨S36864x1024, .f32⟩
  | .hbm, ⟨61, _⟩ => ⟨S36864x1024, .f32⟩
  | .hbm, ⟨62, _⟩ => ⟨S36864x1024, .f32⟩
  | .hbm, ⟨63, _⟩ => ⟨S_, .f32⟩
  | .hbm, ⟨64, _⟩ => ⟨S36864, .f32⟩
  | .hbm, ⟨65, _⟩ => ⟨S36864x1, .f32⟩
  | .hbm, ⟨66, _⟩ => ⟨S_, .f32⟩
  | .hbm, ⟨67, _⟩ => ⟨S36864x1, .f32⟩
  | .hbm, ⟨68, _⟩ => ⟨S36864x1, .f32⟩
  | .hbm, ⟨69, _⟩ => ⟨S_, .f32⟩
  | .hbm, ⟨70, _⟩ => ⟨S36864x1, .f32⟩
  | .hbm, ⟨71, _⟩ => ⟨S36864x1, .f32⟩
  | .hbm, ⟨72, _⟩ => ⟨S36864x1, .f32⟩
  | .hbm, ⟨73, _⟩ => ⟨S36864x1024, .f32⟩
  | .hbm, ⟨74, _⟩ => ⟨S36864x1024, .f32⟩
  | .hbm, ⟨75, _⟩ => ⟨S1x1024, .f32⟩
  | .hbm, ⟨76, _⟩ => ⟨S36864x1024, .f32⟩
  | .hbm, ⟨77, _⟩ => ⟨S36864x1024, .f32⟩
  | .hbm, ⟨78, _⟩ => ⟨S36864x1x1024, .f32⟩
  | .hbm, ⟨79, _⟩ => ⟨S36864x1024, .f32⟩
  | .hbm, ⟨80, _⟩ => ⟨S_, .f32⟩
  | .hbm, ⟨81, _⟩ => ⟨S36864x1024, .f32⟩
  | .hbm, ⟨82, _⟩ => ⟨S36864x1024, .f32⟩
  | .hbm, ⟨83, _⟩ => ⟨S36864x1024, .f32⟩
  | .hbm, ⟨84, _⟩ => ⟨S36864x1x1024, .f32⟩
  | .hbm, ⟨85, _⟩ => ⟨S36864x1024, .f32⟩
  | .hbm, ⟨86, _⟩ => ⟨S36864x1024, .f32⟩
  | _, _ => ⟨S36864x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Proof.Attend.lean ====
/- One query's attention over its keys, as extended-real expressions: the order of operations of the tiled program. -/
module

public import Idealize.ShloMosaic.Lib.Pointwise

@[expose] public section

noncomputable section

namespace Cert.Attend

open Idealize.ShloMosaic

/-- The value a running maximum starts from: the pattern of minus infinity. -/
def low : EReal := Ideal.ofBits FTy.f32 4286578688#32

/-- The largest of finitely many scores. -/
def top {n : ℕ} (s : Fin n → EReal) : EReal := Finset.fold max low s Finset.univ

/-- One query over two ranges of keys with scores `s` and `t` and values `v` and `w`: the exponentials are
    taken against the larger of the two maxima, the weighted values are added up unnormalised, and the total is
    multiplied by the reciprocal of the sum of the exponentials. -/
def attend2 {a b : ℕ} (s : Fin a → EReal) (t : Fin b → EReal) (v : Fin a → EReal) (w : Fin b → EReal) : EReal :=
  (∑ i, Ideal.exp (s i - max (top s) (top t)) * v i + ∑ j, Ideal.exp (t j - max (top s) (top t)) * w j)
    * Ideal.div 1 (∑ i, Ideal.exp (s i - max (top s) (top t)) + ∑ j, Ideal.exp (t j - max (top s) (top t)))

/-- One query over one range of keys with scores `t` and values `w`, in the same order of operations. -/
def attend1 {b : ℕ} (t w : Fin b → EReal) : EReal :=
  (∑ j, Ideal.exp (t j - top t) * w j) * Ideal.div 1 (∑ j, Ideal.exp (t j - top t))

end Cert.Attend

end
-- ==== Proof.Heads.lean ====
/- What the two branches of the tile program store for each of the four heads, read at one row and one lane: the
   attention of that query row, the same expression for every head. -/
module

public import proofs.«01_k».proof.Proof.Gen.KernelIdeal.Value
public import proofs.«01_k».proof.Proof.Attend
public import Idealize.ShloMosaic.Lib.Pipeline.ValueKit
public import Idealize.ShloMosaic.Lib.Pointwise

@[expose] public section

set_option maxRecDepth 16384

noncomputable section

namespace Cert.KernelIdeal.Heads

open Idealize.ShloMosaic Idealize.ShloMosaic.TcCoe Idealize.SL.Sem
open Cert.KernelIdeal Cert.KernelIdeal.Gen Cert.Attend

/-- The scores of query row `r` against the `n` keys of one head. -/
abbrev sc {n : ℕ} (q : FVec Ideal S256x128 .bf16) (k : FVec Ideal ⟨2, ![n, 128]⟩ .bf16) (r : Fin 256) (i : Fin n) : EReal :=
  ∑ x : Fin 128, q (ix2 r x) * k (ix2 i x)

variable (q kc vc : FVec Ideal S256x128 .bf16) (k v : FVec Ideal S2048x128 .bf16) (r : Fin 256) (l : Fin 128)

/-- A latent step, head 0. -/
theorem latent0 :
    k0_pay13 (F := Ideal) (k0_pay5 q kc) (k0_pay8 q k q kc) k0_pay9 (k0_pay11 q k q kc) (k0_pay12 q k q kc) v vc (ix2 r l)
      = attend2 (sc q k r) (sc q kc r) (fun i => v (ix2 i l)) (fun j => vc (ix2 j l)) := by
  pointwise [k0_pay13, k0_pay5, k0_pay8, k0_pay9, k0_pay11, k0_pay12, k0_pay10, k0_pay4]
  rfl

/-- A latent step, head 1. -/
theorem latent1 :
    k0_pay18 (F := Ideal) (k0_pay6 q k) (k0_pay7 q kc) (k0_pay16 (k0_pay6 q k) (k0_pay7 q kc)) k0_pay17 v vc (ix2 r l)
      = attend2 (sc q k r) (sc q kc r) (fun i => v (ix2 i l)) (fun j => vc (ix2 j l)) := by
  pointwise [k0_pay18, k0_pay6, k0_pay7, k0_pay16, k0_pay17]
  rfl

/-- A latent step, head 2. -/
theorem latent2 :
    k0_pay23 (F := Ideal) (k0_pay14 q k) (k0_pay15 q kc) v vc (ix2 r l)
      = attend2 (sc q k r) (sc q kc r) (fun i => v (ix2 i l)) (fun j => vc (ix2 j l)) := by
  pointwise [k0_pay23, k0_pay14, k0_pay15]
  rfl

/-- A latent step, head 3. -/
theorem latent3 :
    k0_pay1 (F := Ideal) (k0_pay19 q k) (k0_pay22 (k0_pay20 q) (k0_pay21 kc)) (k0_pay24 (k0_pay19 q k) (k0_pay20 q) (k0_pay21 kc)) v vc (ix2 r l)
      = attend2 (sc q k r) (sc q kc r) (fun i => v (ix2 i l)) (fun j => vc (ix2 j l)) := by
  pointwise [k0_pay1, k0_pay19, k0_pay20, k0_pay21, k0_pay22, k0_pay24]
  rfl

/-- A context step, head 0. -/
theorem context0 :
    k0_pay26 (F := Ideal) q kc vc (ix2 r l) = attend1 (sc q kc r) (fun j => vc (ix2 j l)) := by
  pointwise [k0_pay26]
  rfl

/-- A context step, head 1. -/
theorem context1 :
    k0_pay29 (F := Ideal) (k0_pay25 q kc) vc (ix2 r l) = attend1 (sc q kc r) (fun j => vc (ix2 j l)) := by
  pointwise [k0_pay29, k0_pay25]
  rfl

/-- A context step, head 2. -/
theorem context2 :
    k0_pay2 (F := Ideal) k0_pay31 (k0_pay33 (k0_pay27 q) (k0_pay28 kc)) (k0_pay34 (k0_pay27 q) (k0_pay28 kc)) vc (ix2 r l)
      = attend1 (sc q kc r) (fun j => vc (ix2 j l)) := by
  pointwise [k0_pay2, k0_pay31, k0_pay33, k0_pay34, k0_pay32, k0_pay27, k0_pay28]
  rfl

/-- A context step, head 3. -/
theorem context3 :
    k0_pay3 (F := Ideal) (k0_pay30 q kc) vc (ix2 r l) = attend1 (sc q kc r) (fun j => vc (ix2 j l)) := by
  pointwise [k0_pay3, k0_pay30]
  rfl

end Cert.KernelIdeal.Heads

end
-- ==== Proof.Block.lean ====
/-
  What one grid point leaves in its result block: the four heads side by side, a latent or a context block of 256 queries.
-/
module

public import proofs.«01_k».proof.Proof.Heads

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Heads Cert.Attend

/-- Lane `x` of the head that column `c` belongs to. -/
def lane (c : Fin 512) (x : Fin 128) : Fin 512 := ⟨c.val / 128 * 128 + x.val, by omega⟩

/-- The block a latent step leaves. -/
def latentBlock (X0 : FVec Ideal S256x512 .bf16) (X1 X2 : FVec Ideal S2048x512 .bf16) (X3 X4 : FVec Ideal S256x512 .bf16) (r : Fin 256) (c : Fin 512) : EReal :=
  attend2 (fun i : Fin 2048 => ∑ x : Fin 128, X0 (ix2 r (lane c x)) * X1 (ix2 i (lane c x)))
    (fun j : Fin 256 => ∑ x : Fin 128, X0 (ix2 r (lane c x)) * X3 (ix2 j (lane c x)))
    (fun i => X2 (ix2 i c)) (fun j => X4 (ix2 j c))

/-- The block a context step leaves. -/
def contextBlock (X0 X3 X4 : FVec Ideal S256x512 .bf16) (r : Fin 256) (c : Fin 512) : EReal :=
  attend1 (fun j : Fin 256 => ∑ x : Fin 128, X0 (ix2 r (lane c x)) * X3 (ix2 j (lane c x))) (fun j => X4 (ix2 j c))

/-- A grid point of the first eight of its batch element leaves the latent block of its tile. -/
theorem latent_step (m : (ℓ : Loc nD τ sig) → Buf (Elt Ideal) ℓ) (c : Dev nD) (t : Fin cfg0.N) (h0 : t.val % 9 ≤ 7) (h1 : ¬t.val % 9 = 8) (y : S256x512.Idx) :
   outsAt0 m c t.val t.isLt y = latentBlock (iblk m c 0 t) (iblk m c 1 t) (iblk m c 2 t) (iblk m c 3 t) (iblk m c 4 t) (y 0) (y 1) := by
  rw [outsAt0_A m c t h0 h1]
  frame_out
  generalize iblk m c 0 t = X0
  generalize iblk m c 1 t = X1
  generalize iblk m c 2 t = X2
  generalize iblk m c 3 t = X3
  generalize iblk m c 4 t = X4
  clear h0 h1
  canon_tiles x h
  case' piece0 => rw [eq_ix2 x]; refine (latent3 _ _ _ _ _ (x 0) (x 1)).trans ?_
  case' piece1 => rw [eq_ix2 x]; refine (latent2 _ _ _ _ _ (x 0) (x 1)).trans ?_
  case' piece2 => rw [eq_ix2 x]; refine (latent1 _ _ _ _ _ (x 0) (x 1)).trans ?_
  case' piece3 => rw [eq_ix2 x]; refine (latent0 _ _ _ _ _ (x 0) (x 1)).trans ?_
  all_goals
    unfold latentBlock sc lane
    refine congr (congr (congr (congrArg attend2 ?_) ?_) ?_) ?_ <;> funext i
    · refine Finset.sum_congr rfl fun z _ => ?_
      pointwise
      refine Ideal.mul_congr ?_ ?_ <;> blk_ext
    · refine Finset.sum_congr rfl fun z _ => ?_
      pointwise
      refine Ideal.mul_congr ?_ ?_ <;> blk_ext
    · pointwise
      blk_ext
    · pointwise
      blk_ext

/-- The last grid point of a batch element leaves the context block. -/
theorem context_step (m : (ℓ : Loc nD τ sig) → Buf (Elt Ideal) ℓ) (c : Dev nD) (t : Fin cfg0.N) (h0 : ¬ t.val % 9 ≤ 7) (h1 : t.val % 9 = 8) (y : S256x512.Idx) :
   outsAt0 m c t.val t.isLt y = contextBlock (iblk m c 0 t) (iblk m c 3 t) (iblk m c 4 t) (y 0) (y 1) := by
  rw [outsAt0_B m c t h0 h1]
  frame_out
  generalize iblk m c 0 t = X0
  generalize iblk m c 3 t = X3
  generalize iblk m c 4 t = X4
  clear h0 h1
  canon_tiles x h
  case' piece0 => rw [eq_ix2 x]; refine (context3 _ _ _ (x 0) (x 1)).trans ?_
  case' piece1 => rw [eq_ix2 x]; refine (context2 _ _ _ (x 0) (x 1)).trans ?_
  case' piece2 => rw [eq_ix2 x]; refine (context1 _ _ _ (x 0) (x 1)).trans ?_
  case' piece3 => rw [eq_ix2 x]; refine (context0 _ _ _ (x 0) (x 1)).trans ?_
  all_goals
    unfold contextBlock sc lane
    refine congr (congrArg attend1 ?_) ?_ <;> funext i
    · refine Finset.sum_congr rfl fun z _ => ?_
      pointwise
      refine Ideal.mul_congr ?_ ?_ <;> blk_ext
    · pointwise
      blk_ext

end Cert.KernelIdeal.Block

end
-- ==== Proof.Array.lean ====
/-
  What the result array holds after the run: each row's attention over the rows of its own batch element.
-/
module

public import proofs.«01_k».proof.Proof.Block

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.Attend

/-- The row of latent key `n` of the batch element that latent row `R` belongs to. -/
def latRow (R : Fin 36864) (h : R.val < 32768) (n : Fin 2048) : Fin 36864 := ⟨R.val / 2048 * 2048 + n.val, by omega⟩

/-- The row of context key `n` of the batch element that latent row `R` belongs to. -/
def ctxRow (R : Fin 36864) (h : R.val < 32768) (n : Fin 256) : Fin 36864 := ⟨32768 + R.val / 2048 * 256 + n.val, by omega⟩

/-- The row of context key `n` of the batch element that context row `R` belongs to. -/
def ownRow (R : Fin 36864) (h : ¬ R.val < 32768) (n : Fin 256) : Fin 36864 := ⟨R.val / 256 * 256 + n.val, by omega⟩

/-- What the tiled attention leaves at row `R` and column `C`, from the token arrays of queries, keys and values. -/
def result (Q K W : FVec Ideal S36864x512 .bf16) (R : Fin 36864) (C : Fin 512) : EReal :=
  if h : R.val < 32768 then
    attend2 (fun n => ∑ x, Q (ix2 R (lane C x)) * K (ix2 (latRow R h n) (lane C x)))
      (fun n => ∑ x, Q (ix2 R (lane C x)) * K (ix2 (ctxRow R h n) (lane C x)))
      (fun n => W (ix2 (latRow R h n) C)) (fun n => W (ix2 (ctxRow R h n) C))
  else
    attend1 (fun n => ∑ x, Q (ix2 R (lane C x)) * K (ix2 (ownRow R h n) (lane C x)))
      (fun n => W (ix2 (ownRow R h n) C))

/-- Which block each window stages at point `t`. -/
theorem idx : ∀ t : Fin cfg0.N,
    win0_0.index t = ![if t.val % 9 < 8 then t.val / 9 * 8 + t.val % 9 else 128 + t.val / 9, 0] ∧ win0_1.index t = ![t.val / 9, 0]
      ∧ win0_2.index t = ![t.val / 9, 0] ∧ win0_3.index t = ![128 + t.val / 9, 0] ∧ win0_4.index t = ![128 + t.val / 9, 0]
      ∧ win0_5.index t = ![if t.val % 9 < 8 then t.val / 9 * 8 + t.val % 9 else 128 + t.val / 9, 0] :=
  (by decide +kernel : ∀ t : Fin grid0.N, _)

variable (m : (ℓ : Loc nD τ sig) → Buf (Elt Ideal) ℓ) (c : Dev nD)

/-- The query block of point `t`, read at a row and a column. -/
theorem read0 (t : Fin cfg0.N) (r : Fin 256) (C : Fin 512) (R : Fin 36864)
    (h : R.val = (if t.val % 9 < 8 then t.val / 9 * 8 + t.val % 9 else 128 + t.val / 9) * 256 + r.val) :
    iblk m c 0 t (ix2 r C) = V m c main_v9 (ix2 R C) := by
  have e := (idx t).1
  generalize (if t.val % 9 < 8 then t.val / 9 * 8 + t.val % 9 else 128 + t.val / 9) = q at e h
  blk_ext [iblk, e]

/-- The latent key block of point `t`, read at a row and a column. -/
theorem read1 (t : Fin cfg0.N) (n : Fin 2048) (C : Fin 512) (R : Fin 36864) (h : R.val = t.val / 9 * 2048 + n.val) :
    iblk m c 1 t (ix2 n C) = V m c main_v15 (ix2 R C) := by
  have e := (idx t).2.1
  blk_ext [iblk, e]

/-- The latent value block of point `t`, read at a row and a column. -/
theorem read2 (t : Fin cfg0.N) (n : Fin 2048) (C : Fin 512) (R : Fin 36864) (h : R.val = t.val / 9 * 2048 + n.val) :
    iblk m c 2 t (ix2 n C) = V m c main_v21 (ix2 R C) := by
  have e := (idx t).2.2.1
  blk_ext [iblk, e]

/-- The context key block of point `t`, read at a row and a column. -/
theorem read3 (t : Fin cfg0.N) (n : Fin 256) (C : Fin 512) (R : Fin 36864) (h : R.val = (128 + t.val / 9) * 256 + n.val) :
    iblk m c 3 t (ix2 n C) = V m c main_v15 (ix2 R C) := by
  have e := (idx t).2.2.2.1
  blk_ext [iblk, e]

/-- The context value block of point `t`, read at a row and a column. -/
theorem read4 (t : Fin cfg0.N) (n : Fin 256) (C : Fin 512) (R : Fin 36864) (h : R.val = (128 + t.val / 9) * 256 + n.val) :
    iblk m c 4 t (ix2 n C) = V m c main_v21 (ix2 R C) := by
  have e := (idx t).2.2.2.2.1
  blk_ext [iblk, e]

/-- What a context step leaves is the result at the rows of its block. -/
theorem context_rows (t : Fin cfg0.N) (h1 : t.val % 9 = 8) (r : Fin 256) (C : Fin 512) (R : Fin 36864)
    (hR : R.val = (if t.val % 9 < 8 then t.val / 9 * 8 + t.val % 9 else 128 + t.val / 9) * 256 + r.val) :
    contextBlock (iblk m c 0 t) (iblk m c 3 t) (iblk m c 4 t) r C = result (V m c main_v9) (V m c main_v15) (V m c main_v21) R C := by
  have hR' := hR
  rw [if_neg (by omega)] at hR'
  have h : ¬ R.val < 32768 := by omega
  unfold contextBlock result
  rw [dif_neg h]
  refine congr (congrArg attend1 ?_) ?_ <;> funext n
  · refine Finset.sum_congr rfl fun x _ => ?_
    exact Ideal.mul_congr (read0 m c t r _ R hR) (read3 m c t n _ _ (by unfold ownRow; show R.val / 256 * 256 + n.val = _; omega))
  · exact read4 m c t n _ _ (by unfold ownRow; show R.val / 256 * 256 + n.val = _; omega)

/-- What a latent step leaves is the result at the rows of its block. -/
theorem latent_rows (t : Fin cfg0.N) (h1 : ¬ t.val % 9 = 8) (r : Fin 256) (C : Fin 512) (R : Fin 36864)
    (hR : R.val = (if t.val % 9 < 8 then t.val / 9 * 8 + t.val % 9 else 128 + t.val / 9) * 256 + r.val) :
    latentBlock (iblk m c 0 t) (iblk m c 1 t) (iblk m c 2 t) (iblk m c 3 t) (iblk m c 4 t) r C
      = result (V m c main_v9) (V m c main_v15) (V m c main_v21) R C := by
  have hR' := hR
  rw [if_pos (by omega)] at hR'
  have ht : t.val < 144 := lt_of_lt_of_eq t.isLt N_0
  have h : R.val < 32768 := by omega
  unfold latentBlock result
  rw [dif_pos h]
  refine congr (congr (congr (congrArg attend2 ?_) ?_) ?_) ?_ <;> funext n
  · refine Finset.sum_congr rfl fun x _ => ?_
    exact Ideal.mul_congr (read0 m c t r _ R hR) (read1 m c t n _ _ (by unfold latRow; show R.val / 2048 * 2048 + n.val = _; omega))
  · refine Finset.sum_congr rfl fun x _ => ?_
    exact Ideal.mul_congr (read0 m c t r _ R hR) (read3 m c t n _ _ (by unfold ctxRow; show 32768 + R.val / 2048 * 256 + n.val = _; omega))
  · exact read2 m c t n _ _ (by unfold latRow; show R.val / 2048 * 2048 + n.val = _; omega)
  · exact read4 m c t n _ _ (by unfold ctxRow; show 32768 + R.val / 2048 * 256 + n.val = _; omega)

/-- The result array after the run, element by element. -/
theorem final :
    (dats m 0 c).arrAt 5 cfg0.N = fun i : S36864x512.Idx => result (V m c main_v9) (V m c main_v15) (V m c main_v21) (i 0) (i 1) := by
  refine (dats m 0 c).arrAt_eq_of_covers 5 _ (by decide +kernel) fun t hf y => ?_
  blk_simp
  rw [after0_5]
  have e := (idx t).2.2.2.2.2
  have e0 : (((win0_5.blk t).view.emb y) 0).val = (if t.val % 9 < 8 then t.val / 9 * 8 + t.val % 9 else 128 + t.val / 9) * 256 + (y 0).val := by
    generalize (if t.val % 9 < 8 then t.val / 9 * 8 + t.val % 9 else 128 + t.val / 9) = q at e ⊢
    blk_simp [e]
  have e1 : ((win0_5.blk t).view.emb y) 1 = y 1 := Fin.ext (by blk_simp [e])
  refine Eq.trans ?_ (congrArg (result (V m c main_v9) (V m c main_v15) (V m c main_v21) (((win0_5.blk t).view.emb y) 0)) e1.symm)
  by_cases h1 : t.val % 9 = 8
  · exact (context_step m c t (by omega) h1 y).trans (context_rows m c t h1 _ _ _ e0)
  · exact (latent_step m c t (by omega) h1 y).trans (latent_rows m c t h1 _ _ _ e0)

end Cert.KernelIdeal.Array

end
-- ==== Proof.Layout.lean ====
/-
  The token arrays the launch reads, from the arguments: heads padded with zeros to 128 lanes, heads side by side, latent rows first.
-/
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Layout

open Idealize.ShloMosaic Idealize.ShloMosaic.TcCoe Idealize.SL.Sem
open Cert.KernelIdeal Cert.KernelIdeal.Gen StableHlo

/-- The token array of a latent and a context operand with 96 lanes per head: each head padded with zeros to 128 lanes, the heads side by side, the latent rows first. -/
def tokens96 (lat : FVec Ideal S16x2048x4x96 .f32) (ctx : FVec Ideal S16x256x4x96 .f32) : FVec Ideal S36864x512 .bf16 :=
  truncf FTy.bf16
    (concatenate S36864x512 0
      [⟨S32768x512, shapeCast S32768x512 (pad S16x2048x4x128 ![0, 0, 0, 0] ![0, 0, 0, 32] ![0, 0, 0, 0] lat
          (sitofp FTy.f32 (constantI S_ 32 0#32)) pads_S16x2048x4x96_S16x2048x4x128_000_000_000_0320 h_S_) shapeCasts_S16x2048x4x128_S32768x512⟩,
        ⟨S4096x512, shapeCast S4096x512 (pad S16x256x4x128 ![0, 0, 0, 0] ![0, 0, 0, 32] ![0, 0, 0, 0] ctx
          (sitofp FTy.f32 (constantI S_ 32 0#32)) pads_S16x256x4x96_S16x256x4x128_000_000_000_0320 h_S_) shapeCasts_S16x256x4x128_S4096x512⟩]
      concatenates_S32768x512_S4096x512_S36864x512_d0)
    bitsLt_bf16_f32

/-- The token array of a latent and a context operand with 64 lanes per head. -/
def tokens64 (lat : FVec Ideal S16x2048x4x64 .f32) (ctx : FVec Ideal S16x256x4x64 .f32) : FVec Ideal S36864x512 .bf16 :=
  truncf FTy.bf16
    (concatenate S36864x512 0
      [⟨S32768x512, shapeCast S32768x512 (pad S16x2048x4x128 ![0, 0, 0, 0] ![0, 0, 0, 64] ![0, 0, 0, 0] lat
          (sitofp FTy.f32 (constantI S_ 32 0#32)) pads_S16x2048x4x64_S16x2048x4x128_000_000_000_0640 h_S_) shapeCasts_S16x2048x4x128_S32768x512⟩,
        ⟨S4096x512, shapeCast S4096x512 (pad S16x256x4x128 ![0, 0, 0, 0] ![0, 0, 0, 64] ![0, 0, 0, 0] ctx
          (sitofp FTy.f32 (constantI S_ 32 0#32)) pads_S16x256x4x64_S16x256x4x128_000_000_000_0640 h_S_) shapeCasts_S16x256x4x128_S4096x512⟩]
      concatenates_S32768x512_S4096x512_S36864x512_d0)
    bitsLt_bf16_f32

variable (m : (ℓ : Loc nD τ sig) → Buf (Elt Ideal) ℓ) (c : Dev nD)

/-- The query tokens: the scaled queries. -/
theorem queries : V m c main_v9
    = tokens96 (mulf (m ((c : Thread nD τ).loc main_arg0)) (broadcastInDim S16x2048x4x96 ![] bcast_S_S16x2048x4x96 (constant S_ FTy.f32 1037108716#32)))
        (mulf (m ((c : Thread nD τ).loc main_arg3)) (broadcastInDim S16x256x4x96 ![] bcast_S_S16x256x4x96 (constant S_ FTy.f32 1037108716#32))) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, TRef.unary, TRef.binary, TRef.toBuf, TRef.ofBuf, cast_eq]
  after_results_simp
  after_results_loop
  rfl

/-- The key tokens. -/
theorem keys : V m c main_v15 = tokens96 (m ((c : Thread nD τ).loc main_arg1)) (m ((c : Thread nD τ).loc main_arg4)) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, TRef.unary, TRef.binary, TRef.toBuf, TRef.ofBuf, cast_eq]
  after_results_simp
  after_results_loop
  rfl

/-- The value tokens. -/
theorem values : V m c main_v21 = tokens64 (m ((c : Thread nD τ).loc main_arg2)) (m ((c : Thread nD τ).loc main_arg5)) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, TRef.unary, TRef.binary, TRef.toBuf, TRef.ofBuf, cast_eq]
  after_results_simp
  after_results_loop
  rfl

/-- Latent rows: batch element and position, head and lane, off a row and a column. -/
theorem lat_rows (P : FVec Ideal S16x2048x4x128 .f32) (R : Fin 32768) (C : Fin 512) :
    shapeCast S32768x512 P shapeCasts_S16x2048x4x128_S32768x512 (ix2 R C)
      = P (ix4 ⟨R.val / 2048, by omega⟩ ⟨R.val % 2048, by omega⟩ ⟨C.val / 128, by omega⟩ ⟨C.val % 128, by omega⟩) := by
  pointwise

/-- Context rows: batch element and position, head and lane, off a row and a column. -/
theorem ctx_rows (P : FVec Ideal S16x256x4x128 .f32) (R : Fin 4096) (C : Fin 512) :
    shapeCast S4096x512 P shapeCasts_S16x256x4x128_S4096x512 (ix2 R C)
      = P (ix4 ⟨R.val / 256, by omega⟩ ⟨R.val % 256, by omega⟩ ⟨C.val / 128, by omega⟩ ⟨C.val % 128, by omega⟩) := by
  pointwise

/-- The latent rows come first. -/
theorem join (A : FVec Ideal S32768x512 .f32) (B : FVec Ideal S4096x512 .f32) (R : Fin 36864) (C : Fin 512) :
    truncf FTy.bf16 (concatenate S36864x512 0 [⟨S32768x512, A⟩, ⟨S4096x512, B⟩]
      concatenates_S32768x512_S4096x512_S36864x512_d0) bitsLt_bf16_f32 (ix2 R C)
      = if h : R.val < 32768 then A (ix2 ⟨R.val, h⟩ C) else B (ix2 ⟨R.val - 32768, by omega⟩ C) := by
  pointwise

/-- The zero the pads fill with. -/
theorem pad_zero : (sitofp FTy.f32 (constantI S_ 32 0#32) : FVec Ideal S_ .f32) = fun _ => (0 : EReal) := by
  funext i
  show FloatOps.sitofp (F := Ideal) FTy.f32 (0#32) = (0 : EReal)
  show (((0#32 : BitVec 32).toInt : ℝ) : EReal) = 0
  simp

/-- A latent operand with 96 lanes per head, padded, read at a coordinate. -/
theorem lat_pad96 (P : FVec Ideal S16x2048x4x96 .f32) (b : Fin 16) (s : Fin 2048) (h : Fin 4) (x : Fin 128) :
    pad S16x2048x4x128 ![0, 0, 0, 0] ![0, 0, 0, 32] ![0, 0, 0, 0] P
          (sitofp FTy.f32 (constantI S_ 32 0#32)) pads_S16x2048x4x96_S16x2048x4x128_000_000_000_0320 h_S_ (ix4 b s h x)
      = if hx : x.val < 96 then P (ix4 b s h ⟨x.val, hx⟩) else (0 : EReal) := by
  rw [pad_zero]
  pointwise

/-- A context operand with 96 lanes per head, padded, read at a coordinate. -/
theorem ctx_pad96 (P : FVec Ideal S16x256x4x96 .f32) (b : Fin 16) (s : Fin 256) (h : Fin 4) (x : Fin 128) :
    pad S16x256x4x128 ![0, 0, 0, 0] ![0, 0, 0, 32] ![0, 0, 0, 0] P
          (sitofp FTy.f32 (constantI S_ 32 0#32)) pads_S16x256x4x96_S16x256x4x128_000_000_000_0320 h_S_ (ix4 b s h x)
      = if hx : x.val < 96 then P (ix4 b s h ⟨x.val, hx⟩) else (0 : EReal) := by
  rw [pad_zero]
  pointwise

/-- The token array at a latent row. -/
theorem tokens96_lat (lat : FVec Ideal S16x2048x4x96 .f32) (ctx : FVec Ideal S16x256x4x96 .f32) (R : Fin 36864) (C : Fin 512)
    (b : Fin 16) (s : Fin 2048) (h : Fin 4) (x : Fin 128) (hR : R.val = b.val * 2048 + s.val) (hC : C.val = h.val * 128 + x.val) :
    tokens96 lat ctx (ix2 R C) = if hx : x.val < 96 then lat (ix4 b s h ⟨x.val, hx⟩) else (0 : EReal) := by
  unfold tokens96
  rw [join, dif_pos (by omega), lat_rows]
  refine Eq.trans (congrArg _ ?_) (lat_pad96 lat b s h x)
  refine (ix4_inj ..).2 ⟨?_, ?_, ?_, ?_⟩ <;> refine Fin.ext ?_ <;> simp only [] <;> omega

/-- The token array at a context row. -/
theorem tokens96_ctx (lat : FVec Ideal S16x2048x4x96 .f32) (ctx : FVec Ideal S16x256x4x96 .f32) (R : Fin 36864) (C : Fin 512)
    (b : Fin 16) (s : Fin 256) (h : Fin 4) (x : Fin 128) (hR : R.val = 32768 + b.val * 256 + s.val) (hC : C.val = h.val * 128 + x.val) :
    tokens96 lat ctx (ix2 R C) = if hx : x.val < 96 then ctx (ix4 b s h ⟨x.val, hx⟩) else (0 : EReal) := by
  unfold tokens96
  rw [join, dif_neg (by omega), ctx_rows]
  refine Eq.trans (congrArg _ ?_) (ctx_pad96 ctx b s h x)
  refine (ix4_inj ..).2 ⟨?_, ?_, ?_, ?_⟩ <;> refine Fin.ext ?_ <;> simp only [] <;> omega

/-- A latent operand with 64 lanes per head, padded, read at a coordinate. -/
theorem lat_pad64 (P : FVec Ideal S16x2048x4x64 .f32) (b : Fin 16) (s : Fin 2048) (h : Fin 4) (x : Fin 128) :
    pad S16x2048x4x128 ![0, 0, 0, 0] ![0, 0, 0, 64] ![0, 0, 0, 0] P
          (sitofp FTy.f32 (constantI S_ 32 0#32)) pads_S16x2048x4x64_S16x2048x4x128_000_000_000_0640 h_S_ (ix4 b s h x)
      = if hx : x.val < 64 then P (ix4 b s h ⟨x.val, hx⟩) else (0 : EReal) := by
  rw [pad_zero]
  pointwise

/-- A context operand with 64 lanes per head, padded, read at a coordinate. -/
theorem ctx_pad64 (P : FVec Ideal S16x256x4x64 .f32) (b : Fin 16) (s : Fin 256) (h : Fin 4) (x : Fin 128) :
    pad S16x256x4x128 ![0, 0, 0, 0] ![0, 0, 0, 64] ![0, 0, 0, 0] P
          (sitofp FTy.f32 (constantI S_ 32 0#32)) pads_S16x256x4x64_S16x256x4x128_000_000_000_0640 h_S_ (ix4 b s h x)
      = if hx : x.val < 64 then P (ix4 b s h ⟨x.val, hx⟩) else (0 : EReal) := by
  rw [pad_zero]
  pointwise

/-- The token array at a latent row. -/
theorem tokens64_lat (lat : FVec Ideal S16x2048x4x64 .f32) (ctx : FVec Ideal S16x256x4x64 .f32) (R : Fin 36864) (C : Fin 512)
    (b : Fin 16) (s : Fin 2048) (h : Fin 4) (x : Fin 128) (hR : R.val = b.val * 2048 + s.val) (hC : C.val = h.val * 128 + x.val) :
    tokens64 lat ctx (ix2 R C) = if hx : x.val < 64 then lat (ix4 b s h ⟨x.val, hx⟩) else (0 : EReal) := by
  unfold tokens64
  rw [join, dif_pos (by omega), lat_rows]
  refine Eq.trans (congrArg _ ?_) (lat_pad64 lat b s h x)
  refine (ix4_inj ..).2 ⟨?_, ?_, ?_, ?_⟩ <;> refine Fin.ext ?_ <;> simp only [] <;> omega

/-- The token array at a context row. -/
theorem tokens64_ctx (lat : FVec Ideal S16x2048x4x64 .f32) (ctx : FVec Ideal S16x256x4x64 .f32) (R : Fin 36864) (C : Fin 512)
    (b : Fin 16) (s : Fin 256) (h : Fin 4) (x : Fin 128) (hR : R.val = 32768 + b.val * 256 + s.val) (hC : C.val = h.val * 128 + x.val) :
    tokens64 lat ctx (ix2 R C) = if hx : x.val < 64 then ctx (ix4 b s h ⟨x.val, hx⟩) else (0 : EReal) := by
  unfold tokens64
  rw [join, dif_neg (by omega), ctx_rows]
  refine Eq.trans (congrArg _ ?_) (ctx_pad64 ctx b s h x)
  refine (ix4_inj ..).2 ⟨?_, ?_, ?_, ?_⟩ <;> refine Fin.ext ?_ <;> simp only [] <;> omega

end Cert.KernelIdeal.Layout

end
-- ==== Proof.Reference.lean ====
/-
  What the reference computes at a row and a column: softmax attention, its weights divided before the values are added up.
-/
module

public import proofs.«01_k».proof.Proof.Gen.ReferenceIdeal.Read
public import proofs.«01_k».proof.Proof.Attend
public import Idealize.ShloMosaic.Lib.Pipeline.ValueKit
public import Idealize.ShloMosaic.Lib.Pointwise

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Read Cert.Attend

/-- The scale of the scores, `1/√96` in single precision. -/
def scale : EReal := Ideal.ofBits FTy.f32 1037108716#32

/-- A softmax weight: the exponential of a score less the largest one, over the sum of all of them. -/
def weight {n : Nat} (s : Fin n → EReal) (k : Fin n) : EReal :=
  Ideal.div (Ideal.exp (s k - max low (top s))) (∑ j, Ideal.exp (s j - max low (top s)))

/-- Two lists of scores, one after the other. -/
def both (s : Fin 2048 → EReal) (t : Fin 256 → EReal) (n : Fin 2304) : EReal :=
  if h : n.val < 2048 then s ⟨n.val, h⟩ else t ⟨n.val - 2048, by omega⟩

/-- Scores of one query against `n` keys, over 96 lanes, scaled. -/
def score {n : Nat} (q : Fin 96 → EReal) (k : Fin n → Fin 96 → EReal) (j : Fin n) : EReal :=
  (∑ x, q x * k j x) * scale

variable (x0 x1 : FVec Ideal S16x2048x4x96 .f32) (x2 : FVec Ideal S16x2048x4x64 .f32) (x3 x4 : FVec Ideal S16x256x4x96 .f32) (x5 : FVec Ideal S16x256x4x64 .f32)

/-- A maximum over the last axis of a rank-4 array, read at an index. -/
theorem max_last {n0 n1 n2 n3 : Nat} (v : FVec Ideal (⟨4, ![n0, n1, n2, n3]⟩ : Shape) .f32) (w : BitVec 32)
    (h : (⟨4, ![n0, n1, n2, n3]⟩ : Shape).ReducesTo [3] (⟨3, ![n0, n1, n2]⟩ : Shape)) (hu : 0 < S_.numel) (i : Fin n0) (j : Fin n1) (k : Fin n2) :
    Host.reduce FloatOps.maximumf v (constant S_ .f32 w) h hu (ix3 i j k)
      = Finset.fold max (Ideal.ofBits FTy.f32 w) (fun n => v (ix4 i j k n)) Finset.univ := by
  pointwise

/-- A query's scores: the latent keys first, then the context keys. -/
theorem scores (b : Fin 16) (h : Fin 4) (s : Fin 2048) (n : Fin 2304) :
    val_main_v6 (F := Ideal) x0 x1 x4 (ix4 b h s n)
      = both (score (fun x => x0 (ix4 b s h x)) (fun j x => x1 (ix4 b j h x)))
          (score (fun x => x0 (ix4 b s h x)) (fun j x => x4 (ix4 b j h x))) n := by
  pointwise [val_main_v6, val_main_v5, val_main_v4, val_main_v3, val_main_v2, val_main_v1, val_main_v0, val_main_cst, val_main_cst_0]
  rfl

/-- The largest score of a latent query. -/
theorem largest (b : Fin 16) (h : Fin 4) (s : Fin 2048) :
    val_main_v9 (F := Ideal) x0 x1 x4 (ix3 b h s) = max low (top fun n => val_main_v6 (F := Ideal) x0 x1 x4 (ix4 b h s n)) := by
  rw [val_main_v9_apply, val_main_v8_apply, val_main_cst_2_apply, val_main_v7, val_main_cst_1, max_last]
  rfl

/-- The softmax weights of a latent query. -/
theorem probs (b : Fin 16) (h : Fin 4) (s : Fin 2048) (n : Fin 2304) :
    val_main_v17 (F := Ideal) x0 x1 x4 (ix4 b h s n) = weight (fun n => val_main_v6 (F := Ideal) x0 x1 x4 (ix4 b h s n)) n := by
  pointwise [val_main_v17, val_main_v16, val_main_v15, val_main_v14, val_main_v13, val_main_v12, val_main_v11, val_main_v10, val_main_cst_3]
  rw [largest]
  rfl

/-- The attention of a latent query: over the latent values, then over the context values. -/
theorem outs (b : Fin 16) (h : Fin 4) (s : Fin 2048) (d : Fin 64) :
    val_main_v24 (F := Ideal) x0 x1 x2 x4 x5 (ix4 b s h d)
      = (∑ n : Fin 2048, x2 (ix4 b n h d) * weight (both (score (fun x => x0 (ix4 b s h x)) (fun j x => x1 (ix4 b j h x)))
          (score (fun x => x0 (ix4 b s h x)) (fun j x => x4 (ix4 b j h x)))) ⟨n.val, by omega⟩)
        + ∑ n : Fin 256, x5 (ix4 b n h d) * weight (both (score (fun x => x0 (ix4 b s h x)) (fun j x => x1 (ix4 b j h x)))
          (score (fun x => x0 (ix4 b s h x)) (fun j x => x4 (ix4 b j h x)))) ⟨2048 + n.val, by omega⟩ := by
  have e : (fun n => val_main_v6 (F := Ideal) x0 x1 x4 (ix4 b h s n))
      = both (score (fun x => x0 (ix4 b s h x)) (fun j x => x1 (ix4 b j h x)))
          (score (fun x => x0 (ix4 b s h x)) (fun j x => x4 (ix4 b j h x))) := funext fun n => scores x0 x1 x4 b h s n
  pointwise [val_main_v18, val_main_v19, val_main_v20, val_main_v21, val_main_v22, val_main_v23, val_main_v24]
  simp only [probs, e]

/-- A context query's scores against the context keys of its own batch element. -/
theorem own_scores (b : Fin 16) (h : Fin 4) (s n : Fin 256) :
    val_main_v27 (F := Ideal) x3 x4 (ix4 b h s n) = score (fun x => x3 (ix4 b s h x)) (fun j x => x4 (ix4 b j h x)) n := by
  pointwise [val_main_v25, val_main_v26, val_main_v27, val_main_cst_4]
  rfl

/-- The largest score of a context query. -/
theorem own_largest (b : Fin 16) (h : Fin 4) (s : Fin 256) :
    val_main_v30 (F := Ideal) x3 x4 (ix3 b h s) = max low (top fun n => val_main_v27 (F := Ideal) x3 x4 (ix4 b h s n)) := by
  rw [val_main_v30_apply, val_main_v29_apply, val_main_cst_6_apply, val_main_v28, val_main_cst_5, max_last]
  rfl

/-- The softmax weights of a context query. -/
theorem own_probs (b : Fin 16) (h : Fin 4) (s n : Fin 256) :
    val_main_v38 (F := Ideal) x3 x4 (ix4 b h s n) = weight (fun n => val_main_v27 (F := Ideal) x3 x4 (ix4 b h s n)) n := by
  pointwise [val_main_v38, val_main_v37, val_main_v36, val_main_v35, val_main_v34, val_main_v33, val_main_v32, val_main_v31, val_main_cst_7]
  rw [own_largest]
  rfl

/-- The attention of a context query. -/
theorem own_outs (b : Fin 16) (h : Fin 4) (s : Fin 256) (d : Fin 64) :
    val_main_v40 (F := Ideal) x3 x4 x5 (ix4 b s h d)
      = ∑ n : Fin 256, x5 (ix4 b n h d) * weight (score (fun x => x3 (ix4 b s h x)) (fun j x => x4 (ix4 b j h x))) n := by
  have e : (fun n => val_main_v27 (F := Ideal) x3 x4 (ix4 b h s n))
      = score (fun x => x3 (ix4 b s h x)) (fun j x => x4 (ix4 b j h x)) := funext fun n => own_scores x3 x4 b h s n
  pointwise [val_main_v39, val_main_v40]
  simp only [own_probs, e]

/-- The result: lanes past 64 of each head are zero. -/
theorem padded (R : Fin 36864) (C : Fin 512) :
    val_main_v46 (F := Ideal) x0 x1 x2 x3 x4 x5 (ix2 R C)
      = if h : C.val / 128 < 4 ∧ C.val % 128 < 64 then val_main_v43 (F := Ideal) x0 x1 x2 x3 x4 x5 (ix3 R ⟨C.val / 128, h.1⟩ ⟨C.val % 128, h.2⟩)
        else (0 : EReal) := by
  have e : (FloatOps.sitofp FTy.f32 (0#32) : Ideal FTy.f32) = (0 : EReal) := by
    show (((0#32 : BitVec 32).toInt : ℝ) : EReal) = 0
    simp
  rw [← e]
  pointwise [val_main_v46, val_main_v45, val_main_v44, val_main_call0_v0, val_main_c]

/-- Latent rows are counted over batch elements. -/
theorem lat_flat (P : FVec Ideal S16x2048x4x64 .f32) (R : Fin 32768) (h : Fin 4) (d : Fin 64) :
    shapeCast S32768x4x64 P shapeCasts_S16x2048x4x64_S32768x4x64 (ix3 R h d)
      = P (ix4 ⟨R.val / 2048, by omega⟩ ⟨R.val % 2048, by omega⟩ h d) := by
  pointwise

/-- Context rows are counted over batch elements. -/
theorem ctx_flat (P : FVec Ideal S16x256x4x64 .f32) (R : Fin 4096) (h : Fin 4) (d : Fin 64) :
    shapeCast S4096x4x64 P shapeCasts_S16x256x4x64_S4096x4x64 (ix3 R h d)
      = P (ix4 ⟨R.val / 256, by omega⟩ ⟨R.val % 256, by omega⟩ h d) := by
  pointwise

/-- Latent rows come first, context rows after them. -/
theorem joined (R : Fin 36864) (h : Fin 4) (d : Fin 64) :
    val_main_v43 (F := Ideal) x0 x1 x2 x3 x4 x5 (ix3 R h d)
      = if hR : R.val < 32768 then val_main_v41 (F := Ideal) x0 x1 x2 x4 x5 (ix3 ⟨R.val, hR⟩ h d)
        else val_main_v42 (F := Ideal) x3 x4 x5 (ix3 ⟨R.val - 32768, by omega⟩ h d) := by
  pointwise [val_main_v43]

end Cert.ReferenceIdeal.Rows

end
-- ==== Proof.Softmax.lean ====
/-
  The two orders of a softmax-weighted sum agree on real scores: weighting every value by its normalised exponential and
  adding up, and adding up the values times the bare exponentials and multiplying the total by the reciprocal of their sum.
-/
module

public import proofs.«01_k».proof.Proof.Reference
public import Mathlib.Data.EReal.Operations
public import Mathlib.Tactic.Positivity

@[expose] public section

noncomputable section

namespace Cert.Softmax

open Idealize.ShloMosaic Cert.Attend Cert.ReferenceIdeal.Rows

/-- A list of real numbers. -/
def Reals {n : Nat} (s : Fin n → EReal) : Prop := ∀ i, ∃ r : ℝ, s i = (r : EReal)

/-- The starting value of a maximum is below everything. -/
theorem low_eq : low = ⊥ := by
  unfold low
  simp [Ideal.ofBits, Ideal.ieee]

/-- The scale is a real number that is not negative. -/
theorem scale_real : ∃ r : ℝ, 0 ≤ r ∧ scale = (r : EReal) := by
  unfold scale
  simp only [Ideal.ofBits, Ideal.ieee]
  rw [if_neg (by decide), if_neg (by decide)]
  refine ⟨_, ?_, rfl⟩
  rw [if_neg (by decide)]
  positivity

/-- A maximum is a supremum. -/
theorem top_eq {n : Nat} (s : Fin n → EReal) : top s = Finset.univ.sup s := by
  unfold top
  rw [low_eq]
  rfl

/-- The largest of real numbers is real. -/
theorem top_real {n : Nat} (hn : 0 < n) (s : Fin n → EReal) (hs : Reals s) : ∃ r : ℝ, top s = (r : EReal) := by
  rw [top_eq]
  obtain ⟨i, _, hi⟩ := Finset.exists_mem_eq_sup Finset.univ ⟨⟨0, hn⟩, Finset.mem_univ _⟩ s
  rw [hi]
  exact hs i

/-- The first list's entries. -/
theorem both_left (s : Fin 2048 → EReal) (t : Fin 256 → EReal) (n : Fin 2048) : both s t ⟨n.val, by omega⟩ = s n :=
  dif_pos n.isLt

/-- The second list's entries. -/
theorem both_right (s : Fin 2048 → EReal) (t : Fin 256 → EReal) (n : Fin 256) : both s t ⟨2048 + n.val, by omega⟩ = t n := by
  have h : ¬ 2048 + n.val < 2048 := by omega
  have e : both s t ⟨2048 + n.val, by omega⟩ = t ⟨2048 + n.val - 2048, by omega⟩ := dif_neg h
  rw [e]
  exact congrArg t (Fin.ext (Nat.add_sub_cancel_left ..))

/-- The largest of two lists after one another is the larger of the two largest. -/
theorem top_both (s : Fin 2048 → EReal) (t : Fin 256 → EReal) : top (both s t) = max (top s) (top t) := by
  rw [top_eq, top_eq, top_eq]
  refine le_antisymm (Finset.sup_le fun n _ => ?_) (max_le (Finset.sup_le fun n _ => ?_) (Finset.sup_le fun n _ => ?_))
  · unfold both
    split
    · exact le_max_of_le_left (Finset.le_sup (f := s) (Finset.mem_univ _))
    · exact le_max_of_le_right (Finset.le_sup (f := t) (Finset.mem_univ _))
  · rw [← both_left s t n]
    exact Finset.le_sup (f := both s t) (Finset.mem_univ _)
  · rw [← both_right s t n]
    exact Finset.le_sup (f := both s t) (Finset.mem_univ _)

/-- The real numbers' sum, read among the extended reals. -/
theorem sum_coe {n : Nat} (f : Fin n → ℝ) : ((∑ i, f i : ℝ) : EReal) = ∑ i, (f i : EReal) :=
  map_sum (⟨⟨Real.toEReal, EReal.coe_zero⟩, EReal.coe_add⟩ : ℝ →+ EReal) f Finset.univ

/-- A nonnegative real factor distributes over the sum of two extended reals. -/
theorem add_scale (c : ℝ) (hc : 0 ≤ c) (a b : EReal) : (a + b) * (c : EReal) = a * c + b * c :=
  EReal.right_distrib_of_nonneg_of_ne_top (by exact_mod_cast hc) (EReal.coe_ne_top c) a b

/-- A sum over both lists is the sum over the first and the sum over the second. -/
theorem sum_both (f : EReal → EReal) (s : Fin 2048 → EReal) (t : Fin 256 → EReal) :
    ∑ n, f (both s t n) = ∑ i, f (s i) + ∑ j, f (t j) := by
  refine (Fin.sum_univ_add (a := 2048) (b := 256) fun n => f (both s t n)).trans ?_
  exact congrArg₂ (· + ·) (Finset.sum_congr rfl fun n _ => congrArg f (both_left s t n))
    (Finset.sum_congr rfl fun n _ => congrArg f (both_right s t n))

/-- A nonnegative real factor distributes over a sum. -/
theorem sum_scale {n : Nat} (c : ℝ) (hc : 0 ≤ c) (f : Fin n → EReal) : (∑ i, f i) * (c : EReal) = ∑ i, f i * (c : EReal) := by
  induction n with
  | zero => simp
  | succ n ih =>
    rw [Fin.sum_univ_succ, Fin.sum_univ_succ, ← ih, add_scale c hc]

/-- A sum of positive reals over a list that is not empty is a positive real. -/
theorem sum_exp_real {n : Nat} (s : Fin n → EReal) (hs : Reals s) (m : ℝ) :
    ∃ r : ℝ, 0 ≤ r ∧ (0 < n → 0 < r) ∧ ∑ i, Ideal.exp (s i - (m : EReal)) = (r : EReal) := by
  choose r hr using hs
  refine ⟨∑ i, Real.exp (r i - m), Finset.sum_nonneg fun i _ => (Real.exp_pos _).le, fun hn => ?_, ?_⟩
  · exact Finset.sum_pos (fun i _ => Real.exp_pos _) ⟨⟨0, hn⟩, Finset.mem_univ _⟩
  · rw [sum_coe]
    refine Finset.sum_congr rfl fun i _ => ?_
    rw [hr, ← EReal.coe_sub, Ideal.exp_coe]

/-- One query over two ranges of keys: the two orders of operations agree. -/
theorem attend2_eq (s : Fin 2048 → EReal) (t : Fin 256 → EReal) (v : Fin 2048 → EReal) (w : Fin 256 → EReal)
    (hs : Reals s) (ht : Reals t) :
    attend2 s t v w = (∑ n : Fin 2048, v n * weight (both s t) ⟨n.val, by omega⟩)
      + ∑ n : Fin 256, w n * weight (both s t) ⟨2048 + n.val, by omega⟩ := by
  obtain ⟨a, ha⟩ := top_real (by decide) s hs
  obtain ⟨b, hb⟩ := top_real (by decide) t ht
  have hm : max (top s) (top t) = ((max a b : ℝ) : EReal) := by rw [ha, hb]; exact (EReal.coe_strictMono.monotone.map_max).symm
  obtain ⟨x, hx0, hx, hxe⟩ := sum_exp_real s hs (max a b)
  obtain ⟨y, hy0, hy, hye⟩ := sum_exp_real t ht (max a b)
  have hpos : 0 < x + y := add_pos_of_pos_of_nonneg (hx (by decide)) hy0
  have hc : (0 : ℝ) ≤ 1 / (x + y) := (one_div_pos.2 hpos).le
  unfold attend2 weight
  rw [top_both, low_eq, max_eq_right bot_le, hm, sum_both (fun z => Ideal.exp (z - ((max a b : ℝ) : EReal))), hxe, hye,
    ← EReal.coe_add, Ideal.div_coe hpos.ne', one_mul, add_scale _ hc, sum_scale _ hc, sum_scale _ hc]
  congr 1
  · refine Finset.sum_congr rfl fun n _ => ?_
    rw [both_left, Ideal.div_coe hpos.ne', mul_assoc, mul_left_comm]
  · refine Finset.sum_congr rfl fun n _ => ?_
    rw [both_right, Ideal.div_coe hpos.ne', mul_assoc, mul_left_comm]

/-- One query over one range of keys: the two orders of operations agree. -/
theorem attend1_eq (t w : Fin 256 → EReal) (ht : Reals t) : attend1 t w = ∑ n, w n * weight t n := by
  obtain ⟨b, hb⟩ := top_real (by decide) t ht
  obtain ⟨y, hy0, hy, hye⟩ := sum_exp_real t ht b
  have hpos : 0 < y := hy (by decide)
  have hc : (0 : ℝ) ≤ 1 / y := (one_div_pos.2 hpos).le
  unfold attend1 weight
  rw [low_eq, max_eq_right bot_le, hb, hye, Ideal.div_coe hpos.ne', one_mul, sum_scale _ hc]
  refine Finset.sum_congr rfl fun n _ => ?_
  rw [Ideal.div_coe hpos.ne', mul_assoc, mul_left_comm]

/-- Values that are all zero give zero. -/
theorem attend2_zero {a b : Nat} (s : Fin a → EReal) (t : Fin b → EReal) : attend2 s t (fun _ => 0) (fun _ => 0) = 0 := by
  unfold attend2
  simp

/-- Values that are all zero give zero. -/
theorem attend1_zero {b : Nat} (t : Fin b → EReal) : attend1 t (fun _ => 0) = 0 := by
  unfold attend1
  simp

/-- Scores of real queries and keys are real. -/
theorem score_real {n : Nat} (q : Fin 96 → EReal) (k : Fin n → Fin 96 → EReal) (hq : Reals q) (hk : ∀ j, Reals (k j)) :
    Reals (score q k) := by
  intro j
  obtain ⟨c, _, hc⟩ := scale_real
  choose a ha using hq
  choose b hb using hk
  refine ⟨(∑ x, a x * b j x) * c, ?_⟩
  unfold score
  rw [hc, EReal.coe_mul, sum_coe]
  congr 1
  refine Finset.sum_congr rfl fun x _ => ?_
  rw [ha, hb, EReal.coe_mul]

/-- A dot product over 128 lanes of which the last 32 are zero, the query scaled first, is the scaled dot product over 96. -/
theorem score_padded {n : Nat} (q : Fin 96 → EReal) (k : Fin n → Fin 96 → EReal) (j : Fin n) :
    (∑ x : Fin 128, (if hx : x.val < 96 then q ⟨x.val, hx⟩ * scale else 0) * (if hx : x.val < 96 then k j ⟨x.val, hx⟩ else 0)) = score q k j := by
  obtain ⟨c, hc0, hc⟩ := scale_real
  unfold score
  rw [hc, sum_scale c hc0]
  refine (Fin.sum_univ_add (a := 96) (b := 32) _).trans ?_
  rw [Finset.sum_eq_zero (s := (Finset.univ : Finset (Fin 32))), add_zero]
  · refine Finset.sum_congr rfl fun x _ => ?_
    have hx : (Fin.castAdd 32 x).val < 96 := x.isLt
    rw [dif_pos hx, dif_pos hx]
    show q x * _ * k j x = _
    rw [mul_assoc, mul_comm (c : EReal), ← mul_assoc]
  · intro x _
    have hx : ¬ (Fin.natAdd 96 x).val < 96 := by simp
    rw [dif_neg hx, dif_neg hx, zero_mul]

end Cert.Softmax

end
-- ==== Proof.Equation.lean ====
/-
  The tiled attention and the reference agree at every row and column, for real queries and keys.
-/
module

public import proofs.«01_k».proof.Proof.Array
public import proofs.«01_k».proof.Proof.Layout
public import proofs.«01_k».proof.Proof.Softmax

@[expose] public section

set_option maxRecDepth 16384

noncomputable section

namespace Cert.Equation

open Idealize.ShloMosaic Idealize.ShloMosaic.TcCoe
open Cert.KernelIdeal Cert.KernelIdeal.Gen Cert.KernelIdeal.Block Cert.KernelIdeal.Array Cert.KernelIdeal.Layout
open Cert.Attend Cert.Softmax Cert.ReferenceIdeal.Rows

variable (q k : FVec Ideal S16x2048x4x96 .f32) (v : FVec Ideal S16x2048x4x64 .f32)
  (qc kc : FVec Ideal S16x256x4x96 .f32) (vc : FVec Ideal S16x256x4x64 .f32)

/-- The latent queries, scaled. -/
def scaled : FVec Ideal S16x2048x4x96 .f32 :=
  mulf q (broadcastInDim S16x2048x4x96 ![] bcast_S_S16x2048x4x96 (constant S_ FTy.f32 1037108716#32))

/-- The context queries, scaled. -/
def scaledCtx : FVec Ideal S16x256x4x96 .f32 :=
  mulf qc (broadcastInDim S16x256x4x96 ![] bcast_S_S16x256x4x96 (constant S_ FTy.f32 1037108716#32))

/-- A scaled latent query at a coordinate. -/
theorem scaled_apply (b : Fin 16) (s : Fin 2048) (h : Fin 4) (x : Fin 96) : scaled q (ix4 b s h x) = q (ix4 b s h x) * scale := by
  pointwise [scaled]
  rfl

/-- A scaled context query at a coordinate. -/
theorem scaledCtx_apply (b : Fin 16) (s : Fin 256) (h : Fin 4) (x : Fin 96) : scaledCtx qc (ix4 b s h x) = qc (ix4 b s h x) * scale := by
  pointwise [scaledCtx]
  rfl

/-- A lane of a head is that head's column. -/
theorem lane_val (C : Fin 512) (h : Fin 4) (d : Fin 128) (hC : C.val = h.val * 128 + d.val) (x : Fin 128) :
    (lane C x).val = h.val * 128 + x.val := by
  unfold lane
  show C.val / 128 * 128 + x.val = _
  omega

section Latent

variable (R : Fin 36864) (C : Fin 512) (hR : R.val < 32768) (b : Fin 16) (s : Fin 2048) (h : Fin 4) (d : Fin 128)
  (eR : R.val = b.val * 2048 + s.val) (eC : C.val = h.val * 128 + d.val)

include hR eR eC

/-- A latent query against a latent key. -/
theorem lat_score (n : Fin 2048) :
    (∑ x, tokens96 (scaled q) (scaledCtx qc) (ix2 R (lane C x)) * tokens96 k kc (ix2 (latRow R hR n) (lane C x)))
      = score (fun x => q (ix4 b s h x)) (fun j x => k (ix4 b j h x)) n := by
  rw [← score_padded]
  refine Finset.sum_congr rfl fun x _ => ?_
  rw [tokens96_lat (scaled q) (scaledCtx qc) R (lane C x) b s h x eR (lane_val C h d eC x),
    tokens96_lat k kc (latRow R hR n) (lane C x) b n h x (by unfold latRow; show R.val / 2048 * 2048 + n.val = _; omega) (lane_val C h d eC x)]
  simp only [scaled_apply]

/-- A latent query against a context key. -/
theorem ctx_score (n : Fin 256) :
    (∑ x, tokens96 (scaled q) (scaledCtx qc) (ix2 R (lane C x)) * tokens96 k kc (ix2 (ctxRow R hR n) (lane C x)))
      = score (fun x => q (ix4 b s h x)) (fun j x => kc (ix4 b j h x)) n := by
  rw [← score_padded]
  refine Finset.sum_congr rfl fun x _ => ?_
  rw [tokens96_lat (scaled q) (scaledCtx qc) R (lane C x) b s h x eR (lane_val C h d eC x),
    tokens96_ctx k kc (ctxRow R hR n) (lane C x) b n h x (by unfold ctxRow; show 32768 + R.val / 2048 * 256 + n.val = _; omega) (lane_val C h d eC x)]
  simp only [scaled_apply]

/-- What the kernel leaves at a latent row. -/
theorem lat_result (hq : ∀ i, ∃ r : ℝ, q i = (r : EReal)) (hk : ∀ i, ∃ r : ℝ, k i = (r : EReal)) (hkc : ∀ i, ∃ r : ℝ, kc i = (r : EReal)) :
    result (tokens96 (scaled q) (scaledCtx qc)) (tokens96 k kc) (tokens64 v vc) R C
      = if hd : d.val < 64 then Cert.ReferenceIdeal.Read.val_main_v24 (F := Ideal) q k v kc vc (ix4 b s h ⟨d.val, hd⟩) else (0 : EReal) := by
  unfold result
  rw [dif_pos hR]
  have ev : (fun n : Fin 2048 => (tokens64 v vc (ix2 (latRow R hR n) C) : EReal)) = fun n => if hd : d.val < 64 then v (ix4 b n h ⟨d.val, hd⟩) else (0 : EReal) :=
    funext fun n => tokens64_lat v vc (latRow R hR n) C b n h d (by unfold latRow; show R.val / 2048 * 2048 + n.val = _; omega) eC
  have ew : (fun n : Fin 256 => (tokens64 v vc (ix2 (ctxRow R hR n) C) : EReal)) = fun n => if hd : d.val < 64 then vc (ix4 b n h ⟨d.val, hd⟩) else (0 : EReal) :=
    funext fun n => tokens64_ctx v vc (ctxRow R hR n) C b n h d (by unfold ctxRow; show 32768 + R.val / 2048 * 256 + n.val = _; omega) eC
  rw [ev, ew, funext (lat_score q k qc kc R C hR b s h d eR eC), funext (ctx_score q k qc kc R C hR b s h d eR eC)]
  by_cases hd : d.val < 64
  · simp only [dif_pos hd]
    rw [outs, attend2_eq _ _ _ _ (score_real _ _ (fun x => hq _) fun j x => hk _) (score_real _ _ (fun x => hq _) fun j x => hkc _)]
  · simp only [dif_neg hd]
    exact attend2_zero _ _

end Latent

section Context

variable (R : Fin 36864) (C : Fin 512) (hR : ¬ R.val < 32768) (b : Fin 16) (s : Fin 256) (h : Fin 4) (d : Fin 128)
  (eR : R.val = 32768 + b.val * 256 + s.val) (eC : C.val = h.val * 128 + d.val)

include hR eR eC

/-- A context query against a context key. -/
theorem own_score (n : Fin 256) :
    (∑ x, tokens96 (scaled q) (scaledCtx qc) (ix2 R (lane C x)) * tokens96 k kc (ix2 (ownRow R hR n) (lane C x)))
      = score (fun x => qc (ix4 b s h x)) (fun j x => kc (ix4 b j h x)) n := by
  rw [← score_padded]
  refine Finset.sum_congr rfl fun x _ => ?_
  rw [tokens96_ctx (scaled q) (scaledCtx qc) R (lane C x) b s h x eR (lane_val C h d eC x),
    tokens96_ctx k kc (ownRow R hR n) (lane C x) b n h x (by unfold ownRow; show R.val / 256 * 256 + n.val = _; omega) (lane_val C h d eC x)]
  simp only [scaledCtx_apply]

/-- What the kernel leaves at a context row. -/
theorem own_result (hqc : ∀ i, ∃ r : ℝ, qc i = (r : EReal)) (hkc : ∀ i, ∃ r : ℝ, kc i = (r : EReal)) :
    result (tokens96 (scaled q) (scaledCtx qc)) (tokens96 k kc) (tokens64 v vc) R C
      = if hd : d.val < 64 then Cert.ReferenceIdeal.Read.val_main_v40 (F := Ideal) qc kc vc (ix4 b s h ⟨d.val, hd⟩) else (0 : EReal) := by
  unfold result
  rw [dif_neg hR]
  have ew : (fun n : Fin 256 => (tokens64 v vc (ix2 (ownRow R hR n) C) : EReal)) = fun n => if hd : d.val < 64 then vc (ix4 b n h ⟨d.val, hd⟩) else (0 : EReal) :=
    funext fun n => tokens64_ctx v vc (ownRow R hR n) C b n h d (by unfold ownRow; show R.val / 256 * 256 + n.val = _; omega) eC
  rw [ew, funext (own_score q k qc kc R C hR b s h d eR eC)]
  by_cases hd : d.val < 64
  · simp only [dif_pos hd]
    rw [own_outs, attend1_eq _ _ (score_real _ _ (fun x => hqc _) fun j x => hkc _)]
  · simp only [dif_neg hd]
    exact attend1_zero _

end Context

/-- The tiled attention and the reference agree at every row and column. -/
theorem equal (hq : ∀ i, ∃ r : ℝ, q i = (r : EReal)) (hk : ∀ i, ∃ r : ℝ, k i = (r : EReal))
    (hqc : ∀ i, ∃ r : ℝ, qc i = (r : EReal)) (hkc : ∀ i, ∃ r : ℝ, kc i = (r : EReal)) (R : Fin 36864) (C : Fin 512) :
    result (tokens96 (scaled q) (scaledCtx qc)) (tokens96 k kc) (tokens64 v vc) R C
      = Cert.ReferenceIdeal.Read.val_main_v46 (F := Ideal) q k v qc kc vc (ix2 R C) := by
  have eC : C.val = C.val / 128 * 128 + C.val % 128 := by omega
  rw [padded]
  by_cases hR : R.val < 32768
  · rw [lat_result q k v qc kc vc R C hR ⟨R.val / 2048, by omega⟩ ⟨R.val % 2048, by omega⟩ ⟨C.val / 128, by omega⟩ ⟨C.val % 128, by omega⟩
      (by show R.val = R.val / 2048 * 2048 + R.val % 2048; omega) eC hq hk hkc]
    by_cases hd : C.val % 128 < 64
    · rw [dif_pos hd, dif_pos ⟨by omega, hd⟩, joined, dif_pos hR]
      exact (lat_flat _ ⟨R.val, hR⟩ _ _).symm
    · rw [dif_neg hd, dif_neg fun e => hd e.2]
  · rw [own_result q k v qc kc vc R C hR ⟨(R.val - 32768) / 256, by omega⟩ ⟨(R.val - 32768) % 256, by omega⟩ ⟨C.val / 128, by omega⟩ ⟨C.val % 128, by omega⟩
      (by show R.val = 32768 + (R.val - 32768) / 256 * 256 + (R.val - 32768) % 256; omega) eC hqc hkc]
    by_cases hd : C.val % 128 < 64
    · rw [dif_pos hd, dif_pos ⟨by omega, hd⟩, joined, dif_neg hR]
      exact (ctx_flat _ ⟨R.val - 32768, by omega⟩ _ _).symm
    · rw [dif_neg hd, dif_neg fun e => hd e.2]

end Cert.Equation

end
-- ==== Proof.Finite.lean ====
/-
  The precondition read back: that the absolute values of all queries and keys lie below infinity says that each of them is a
  real number.
-/
module

public import proofs.«01_k».proof.Defs
public import Idealize.ShloMosaic.Lib.ReduceAll
public import Idealize.ShloMosaic.Lib.Affine
public import Idealize.ShloMosaic.Lib.Decide
public import Idealize.ShloMosaic.PureOps.Ideal

@[expose] public section

noncomputable section

namespace Cert.Finite

open Idealize.ShloMosaic Cert.Pre_finite_queries_and_keys

/-- The side conditions of the precondition's operations. -/
instance facts : Cert.Pre_finite_queries_and_keys.Facts where
  bcast_S_S16x2048x4x96 := by decide
  reducesTo_S16x2048x4x96_S_d0_1_2_3 := by decide
  h_S_ := by decide
  bcast_S_S16x256x4x96 := by decide
  reducesTo_S16x256x4x96_S_d0_1_2_3 := by decide

instance : Subsingleton S_.Idx := ⟨fun a b => funext fun i => i.elim0⟩

/-- A value whose absolute value is below infinity is a real number. -/
theorem real_of_lt (x : EReal)
    (h : (FloatOps.cmpf .olt (FloatOps.hostAbsf (F := Ideal) (φ := .f32) x) (FloatOps.ofBits (F := Ideal) .f32 0x7F800000#32)) = 1#1) :
    ∃ r : ℝ, x = (r : EReal) := by
  have ht : Ideal.ofBits .f32 0x7F800000#32 = ⊤ := by simp [Ideal.ofBits, Ideal.ieee]
  have h' : Ideal.cmp .olt (max x (-x)) (Ideal.ofBits .f32 0x7F800000#32) = 1#1 := h
  rw [ht] at h'
  have hlt : max x (-x) < ⊤ := by
    by_contra hn
    simp [Ideal.cmp, hn] at h'
  induction x using EReal.rec with
  | bot => simp at hlt
  | top => simp at hlt
  | coe r => exact ⟨r, rfl⟩

/-- The precondition says that every query and every key is a real number. -/
theorem reals (q k : FVec Ideal S16x2048x4x96 .f32) (v : FVec Ideal S16x2048x4x64 .f32)
    (qc kc : FVec Ideal S16x256x4x96 .f32) (vc : FVec Ideal S16x256x4x64 .f32)
    (h : fn q k v qc kc vc (Shape.Idx.first Facts.h_S_) = 1#1) :
    (∀ i, ∃ r : ℝ, q i = (r : EReal)) ∧ (∀ i, ∃ r : ℝ, k i = (r : EReal))
      ∧ (∀ i, ∃ r : ℝ, qc i = (r : EReal)) ∧ ∀ i, ∃ r : ℝ, kc i = (r : EReal) := by
  unfold fn fn_part1 at h
  obtain ⟨h123, h4⟩ := IntOp.andi_eq_one.1 h
  obtain ⟨h12, h3⟩ := IntOp.andi_eq_one.1 h123
  obtain ⟨h1, h2⟩ := IntOp.andi_eq_one.1 h12
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

end Cert.Finite

end
-- ==== Proof.ExpertsRange.lean ====
/-
  The experts' precondition read back: every entry of the table of experts names one of the 64 experts, and between one and all 320 blocks are in use.
-/
module

public import proofs.«01_k».proof.Defs
public import Idealize.ShloMosaic.Lib.ReduceAll
public import Idealize.ShloMosaic.Lib.Affine
public import Idealize.ShloMosaic.Lib.Decide

@[expose] public section

noncomputable section

namespace Cert.ExpertsRange

open Idealize.ShloMosaic Cert.Pre_experts_in_range

/-- The side conditions of the precondition's operations. -/
instance facts : Cert.Pre_experts_in_range.Facts where
  bcast_S_S320 := by decide
  reducesTo_S320_S_d0 := by decide
  h_S_ := by decide
  shapeCasts_S1_S_ := by decide

instance : Subsingleton S_.Idx := ⟨fun a b => funext fun i => i.elim0⟩

/-- A truth value that is true as a word is true. -/
theorem bool_of_word (b : Bool) (h : BitVec.ofBool b = 1#1) : b = true := by
  cases b
  · exact absurd h (by decide)
  · rfl

/-- A word at least zero and below 64 as a signed number is below 64. -/
theorem lt_of_signed (x : BitVec 32) (h0 : (0#32).sle x = true) (h1 : x.slt 64#32 = true) : x.toNat < 64 := by
  rw [BitVec.sle_eq_decide, decide_eq_true_iff] at h0
  rw [BitVec.slt_eq_decide, decide_eq_true_iff] at h1
  have e0 : (0#32 : BitVec 32).toInt = 0 := by decide
  have e1 : (64#32 : BitVec 32).toInt = 64 := by decide
  rw [e0] at h0; rw [e1] at h1
  rw [BitVec.toInt_eq_toNat_cond] at h0 h1
  have := x.isLt
  split at h0 <;> omega

/-- A word between 1 and 320 as a signed number is between them. -/
theorem between_of_signed (x : BitVec 32) (h0 : (1#32).sle x = true) (h1 : x.sle 320#32 = true) : 1 ≤ x.toNat ∧ x.toNat ≤ 320 := by
  rw [BitVec.sle_eq_decide, decide_eq_true_iff] at h0 h1
  have e0 : (1#32 : BitVec 32).toInt = 1 := by decide
  have e1 : (320#32 : BitVec 32).toInt = 320 := by decide
  rw [e0] at h0; rw [e1] at h1
  rw [BitVec.toInt_eq_toNat_cond] at h0 h1
  have := x.isLt
  split at h0 <;> omega

variable {F : FTy → Type} [FloatOps F]

/-- The precondition says that every entry of the table is below 64 and the number of blocks in use between 1 and 320. -/
theorem ranges (be : IVec S320 32) (nu : IVec S1 32) (a2 : FVec F S163840x1024 .f32) (a3 a4 : FVec F S64x1024x1024 .bf16)
    (a5 a6 : FVec F S64x1x1024 .f32) (a7 : FVec F S64x1024x1024 .f32) (a8 : FVec F S64x1x1024 .f32)
    (h : fn be nu a2 a3 a4 a5 a6 a7 a8 (Shape.Idx.first Facts.h_S_) = 1#1) :
    (∀ b, (be b).toNat < 64) ∧ ∀ z, 1 ≤ (nu z).toNat ∧ (nu z).toNat ≤ 320 := by
  unfold fn at h
  obtain ⟨h12, h3⟩ := IntOp.andi_eq_one.1 h
  obtain ⟨h1, h2⟩ := IntOp.andi_eq_one.1 h12
  refine ⟨fun b => ?_, fun z => ?_⟩
  · obtain ⟨ha, hb⟩ := IntOp.andi_eq_one.1 (Host.reduce_andi_all _ _ _ _ _ h1 b)
    exact lt_of_signed (be b) (bool_of_word _ ha) (bool_of_word _ hb)
  · have e : ∀ w : S1.Idx, w = z := fun w => by
      funext x
      obtain rfl : x = 0 := Subsingleton.elim _ _
      exact (Subsingleton.elim (α := Fin 1) (w 0) (z 0))
    have h2' := bool_of_word _ h2
    have h3' := bool_of_word _ h3
    have k2 : (1#32).sle (nu z) = true := (congrArg (fun w => (1#32 : BitVec 32).sle w) (congrArg nu (e _))).symm.trans h2'
    have k3 : (nu z).sle 320#32 = true := (congrArg (fun w => BitVec.sle w (320#32 : BitVec 32)) (congrArg nu (e _))).symm.trans h3'
    exact between_of_signed _ k2 k3

end Cert.ExpertsRange

end
-- ==== Proof.ExpertsRun.lean ====
/-
  One grid point of the experts' kernel: what the body does on its staging buffers, the two prefetched tables and the down-projection it keeps between points, in each of the four ways its branches can go.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The table of experts, one entry per block of rows, as the body is handed it. -/
abbrev expertsTab : Memref sig .tc .smem S320 .i32 := Memref.whole main_v11
/-- The number of blocks in use, as the body is handed it. -/
abbrev usedTab : Memref sig .tc .smem S1 .i32 := Memref.whole main_arg1
/-- The buffer the body keeps the rounded down-projection in between points. -/
abbrev kept : Memref sig .tc .vmem S1024x1024 .bf16 := Memref.whole cc0_scratch0

/-- What a table's buffer holds on core `c`, and half of it held at contents `f`. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The number of blocks in use, as the body reads it. -/
abbrev usedWord (c : Dev nD) (T1 : TabBuf (F := F) c usedTab) : BitVec 32 :=
  View.readAt (Elt F) usedTab.view (Rect.unit (s := S1) ![0] S1.size inb_S1_S1_0).toLoadRect T1 (Shape.Idx.first (numel1_S1.symm ▸ Nat.one_pos))
/-- The expert of the point and of the point before it, as the body reads them. -/
abbrev thisWord (c : Dev nD) (i : grid0.Coords) (T0 : TabBuf (F := F) c expertsTab) (n : BitVec 32) (hn : k0_chk1 i n) : BitVec 32 :=
  View.readAt (Elt F) expertsTab.view (Rect.unit (s := S320) (k0_off2 i n) S1.size (k0_off2_inb i n hn)).toLoadRect T0 (Shape.Idx.first (numel1_S1.symm ▸ Nat.one_pos))
abbrev lastWord (c : Dev nD) (i : grid0.Coords) (T0 : TabBuf (F := F) c expertsTab) (n : BitVec 32) (hn : k0_chk1 i n) : BitVec 32 :=
  View.readAt (Elt F) expertsTab.view (Rect.unit (s := S320) (k0_off3 i n) S1.size (k0_off3_inb i n hn)).toLoadRect T0 (Shape.Idx.first (numel1_S1.symm ▸ Nat.one_pos))

/-- The body's first branch: the first point, or a point whose expert is not the one of the point before it. -/
abbrev changed (i : grid0.Coords) (e e' : BitVec 32) : Prop :=
  (Scalar.cmpi .ne (Scalar.extui (Scalar.ori (Scalar.cmpi .eq (BitVec.ofNat 32 (i 0).val) 0#32) (Scalar.cmpi .ne e e'))) 0#32) = 1#1

/-- A load of a whole buffer's own sizes reads what the buffer holds. -/
theorem load_whole {κ : Kind} {sp : Space} {s : Shape} {e : EltTy} {M : Memref sig κ sp s e} (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full M.view _ inb).trans (h.read_unread x)

/-- The output block of equal operands. -/
theorem out_congr {x0 y0 : Vec F S512x1024 .f32} {x1 y1 x2 y2 : Vec F S1x1024x1024 .bf16} {x3 y3 x4 y4 : Vec F S1x1x1024 .f32}
    {s s' : Vec F S1024x1024 .bf16} {x6 y6 : Vec F S1x1x1024 .f32} (e0 : x0 = y0) (e1 : x1 = y1) (e3 : x3 = y3) (e2 : x2 = y2) (e4 : x4 = y4)
    (es : s = s') (e6 : x6 = y6) : k0_pay2 (k0_pay4 x0 x1 x3 x2 x4 s) x6 = k0_pay2 (k0_pay4 y0 y1 y3 y2 y4 s') y6 := by
  subst e0 e1 e2 e3 e4 es e6; rfl

set_option maxHeartbeats 4000000 in
/-- A point of a new expert, in use: the down-projection is rounded and kept, and the result block is the expert's output on the point's rows. -/
theorem run_new_used (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (hn : k0_chk1 i (usedWord c T1))
    (h1 : (changed i (thisWord c i T0 (usedWord c T1) hn) (lastWord c i T0 (usedWord c T1) hn)))
    (h2 : (k0_cond2 i (usedWord c T1) = 1#1)) (h3 : ¬(k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) kept fullShare d) ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay2 (k0_pay4 x0 x1 x3 x2 x4 (k0_pay1 x5)) x6) ∗ owns (c : Thread nD τ) kept fullShare (k0_pay1 x5) ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    sl_unfold_words
    rw [View.read_writes_full]
    exact out_congr (load_whole harg3 x0 _) (load_whole harg4 x1 _) (load_whole harg6 x3 _) (load_whole harg5 x2 _) (load_whole harg7 x4 _)
      ((View.readCov_full _ _ _ _ _).trans (congrArg k0_pay1 (load_whole harg8 x5 _))) (load_whole harg9 x6 _)
  isplitl [HS]
  · iexists _; isplitr; swap; · iexact HS
    ipureintro
    sl_unfold_words
    rw [View.read_writes_full]
    exact congrArg k0_pay1 (load_whole harg8 x5 _)
  isplitl [HT0]; · iexact HT0
  iexact HT1

set_option maxHeartbeats 4000000 in
/-- A point of the same expert as the one before, in use: the down-projection kept is used as it stands. -/
theorem run_same_used (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (s : Vec F S1024x1024 .bf16) (hn : k0_chk1 i (usedWord c T1))
    (h1 : ¬(changed i (thisWord c i T0 (usedWord c T1) hn) (lastWord c i T0 (usedWord c T1) hn)))
    (h2 : (k0_cond2 i (usedWord c T1) = 1#1)) (h3 : ¬(k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) kept fullShare s ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay2 (k0_pay4 x0 x1 x3 x2 x4 s) x6) ∗ owns (c : Thread nD τ) kept fullShare s ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  obtain rfl := hkept.eq_unread hfs
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    sl_unfold_words
    rw [View.read_writes_full]
    exact out_congr (load_whole harg3 x0 _) (load_whole harg4 x1 _) (load_whole harg6 x3 _) (load_whole harg5 x2 _) (load_whole harg7 x4 _)
      (load_whole hkept s _) (load_whole harg9 x6 _)
  isplitl [HS]
  · iexists _; isplitr; swap; · iexact HS
    ipureintro
    exact hkept.read_unread _
  isplitl [HT0]; · iexact HT0
  iexact HT1

set_option maxHeartbeats 4000000 in
/-- A point of a new expert, not in use: the down-projection is rounded and kept, the result block is zero. -/
theorem run_new_unused (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (hn : k0_chk1 i (usedWord c T1))
    (h1 : (changed i (thisWord c i T0 (usedWord c T1) hn) (lastWord c i T0 (usedWord c T1) hn)))
    (h2 : ¬(k0_cond2 i (usedWord c T1) = 1#1)) (h3 : (k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) kept fullShare d) ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay3 (F := F)) ∗ owns (c : Thread nD τ) kept fullShare (k0_pay1 x5) ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact View.read_writes_full _ _ _ _ _
  isplitl [HS]
  · iexists _; isplitr; swap; · iexact HS
    ipureintro
    sl_unfold_words
    rw [View.read_writes_full]
    exact congrArg k0_pay1 (load_whole harg8 x5 _)
  isplitl [HT0]; · iexact HT0
  iexact HT1

set_option maxHeartbeats 4000000 in
/-- A point of the same expert as the one before, not in use: the result block is zero. -/
theorem run_same_unused (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (s : Vec F S1024x1024 .bf16) (hn : k0_chk1 i (usedWord c T1))
    (h1 : ¬(changed i (thisWord c i T0 (usedWord c T1) hn) (lastWord c i T0 (usedWord c T1) hn)))
    (h2 : ¬(k0_cond2 i (usedWord c T1) = 1#1)) (h3 : (k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) kept fullShare s ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay3 (F := F)) ∗ owns (c : Thread nD τ) kept fullShare s ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  obtain rfl := hkept.eq_unread hfs
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact View.read_writes_full _ _ _ _ _
  isplitl [HS]
  · iexists _; isplitr; swap; · iexact HS
    ipureintro
    exact hkept.read_unread _
  isplitl [HT0]; · iexact HT0
  iexact HT1

end Cert.Kernel2Ideal.Experts

end
-- ==== Proof.ExpertsWords.lean ====
/-
  The words of the experts' two prefetched tables: the kernel's index arithmetic over them, and what follows of the two tables for its checks, its branches and its blocks.
-/
module

public import proofs.«01_k».proof.Proof.ExpertsRun

@[expose] public section

set_option maxRecDepth 16384

noncomputable section

namespace Cert.Kernel2Ideal.Experts

open Idealize.ShloMosaic Idealize.ShloMosaic.TcCoe
open Cert.Kernel2Ideal Cert.Kernel2Ideal.Gen

/-- What the proof takes of the two tables: between one and all 320 blocks are in use, every entry names one of the 64 experts,
    and the entries from the last block in use on are all that block's. -/
structure Good (T : S320.Idx → BitVec 32) (n : BitVec 32) : Prop where
  pos : 1 ≤ n.toNat
  le : n.toNat ≤ 320
  expert : ∀ b, (T b).toNat < 64
  clamp : ∀ b b' : S320.Idx, (b' 0).val = min (b 0).val (n.toNat - 1) → T b' = T b

/-- A word is the word of its number. -/
theorem word_eq (n : BitVec 32) : n = BitVec.ofNat 32 n.toNat := by simp

/-- The smaller of a small index and a small positive count less one. -/
theorem min_word (k : ℕ) (n : BitVec 32) (hk : k < 320) (h1 : 1 ≤ n.toNat) (h2 : n.toNat ≤ 320) :
    (Scalar.minsi (BitVec.ofNat 32 k) (Scalar.subi n 1#32)).toNat = min k (n.toNat - 1) := by
  have e : Scalar.subi n 1#32 = BitVec.ofNat 32 (n.toNat - 1) := by
    apply BitVec.eq_of_toNat_eq
    show (n - 1#32).toNat = _
    simp only [BitVec.toNat_sub, BitVec.toNat_ofNat]; omega
  rw [e]
  show (if (BitVec.ofNat 32 k).slt (BitVec.ofNat 32 (n.toNat - 1)) then BitVec.ofNat 32 k else BitVec.ofNat 32 (n.toNat - 1)).toNat = _
  have hs : (BitVec.ofNat 32 k).slt (BitVec.ofNat 32 (n.toNat - 1)) = decide (k < n.toNat - 1) := by
    rw [BitVec.slt_eq_decide, WordCmp.toInt_ofNat_of_lt (by omega), WordCmp.toInt_ofNat_of_lt (by omega)]
    simp
  rw [hs]
  by_cases h : k < n.toNat - 1
  · rw [if_pos (by simpa using h), WordCmp.toNat_ofNat_of_lt (by omega)]; omega
  · rw [if_neg (by simpa using h), WordCmp.toNat_ofNat_of_lt (by omega)]; omega

/-- The index less one, or zero. -/
theorem pred_word (k : ℕ) (hk : k < 320) :
    Scalar.maxsi (Scalar.subi (BitVec.ofNat 32 k) 1#32) 0#32 = BitVec.ofNat 32 (k - 1) := by
  rcases Nat.eq_zero_or_pos k with rfl | h
  · rfl
  · have e : Scalar.subi (BitVec.ofNat 32 k) 1#32 = BitVec.ofNat 32 (k - 1) := by
      apply BitVec.eq_of_toNat_eq
      show (BitVec.ofNat 32 k - 1#32).toNat = _
      simp only [BitVec.toNat_sub, BitVec.toNat_ofNat]; omega
    rw [e]
    show (if (0#32).slt (BitVec.ofNat 32 (k - 1)) then BitVec.ofNat 32 (k - 1) else 0#32) = _
    have hs : (0#32).slt (BitVec.ofNat 32 (k - 1)) = decide (0 < k - 1) := by
      rw [BitVec.slt_eq_decide, WordCmp.toInt_ofNat_of_lt (a := 0) (by omega), WordCmp.toInt_ofNat_of_lt (a := k - 1) (by omega)]
      simp
    rw [hs]
    by_cases h' : 0 < k - 1
    · rw [if_pos (by simpa using h')]
    · rw [if_neg (by simpa using h'), show k - 1 = 0 by omega]

/-- Where the body reads the point's expert, and the expert of the point before. -/
theorem off2_val (i : grid0.Coords) (n : BitVec 32) (h1 : 1 ≤ n.toNat) (h2 : n.toNat ≤ 320) (a : Fin 1) :
    k0_off2 i n a = min (i 0).val (n.toNat - 1) := by
  have hi : (i 0).val < 320 := (i 0).isLt
  obtain rfl : a = 0 := Subsingleton.elim _ _
  exact min_word _ n hi h1 h2

theorem off3_val (i : grid0.Coords) (n : BitVec 32) (h1 : 1 ≤ n.toNat) (h2 : n.toNat ≤ 320) (a : Fin 1) :
    k0_off3 i n a = min ((i 0).val - 1) (n.toNat - 1) := by
  have hi : (i 0).val < 320 := (i 0).isLt
  obtain rfl : a = 0 := Subsingleton.elim _ _
  show (Scalar.minsi (Scalar.maxsi (Scalar.subi (BitVec.ofNat 32 (i 0).val) 1#32) 0#32) (Scalar.subi n 1#32)).toNat = _
  rw [pred_word _ hi]
  exact min_word _ n (by omega) h1 h2

/-- Both places are in the table. -/
theorem chk (i : grid0.Coords) (n : BitVec 32) (h1 : 1 ≤ n.toNat) (h2 : n.toNat ≤ 320) : k0_chk1 i n := by
  have hi : (i 0).val < 320 := (i 0).isLt
  unfold k0_chk1
  refine ⟨fun a => ?_, fun a => ?_⟩
  · rw [off2_val i n h1 h2 a]
    obtain rfl : a = 0 := Subsingleton.elim _ _
    show min (i 0).val (n.toNat - 1) + 1 ≤ 320; omega
  · rw [off3_val i n h1 h2 a]
    obtain rfl : a = 0 := Subsingleton.elim _ _
    show min ((i 0).val - 1) (n.toNat - 1) + 1 ≤ 320; omega

/-- The second branch is taken at the blocks in use, the third at the others. -/
theorem cond2_iff (i : grid0.Coords) (n : BitVec 32) (h2 : n.toNat ≤ 320) : k0_cond2 i n = 1#1 ↔ (i 0).val < n.toNat := by
  have hi : (i 0).val < 320 := (i 0).isLt
  rw [word_eq n]
  generalize n.toNat = k at h2 ⊢
  unfold k0_cond2
  simp only [WordCmp.toNat_ofNat_of_lt (show k < 2 ^ 32 by omega)]
  simp (disch := omega) only [hlo_ix]

theorem cond3_iff (i : grid0.Coords) (n : BitVec 32) (h2 : n.toNat ≤ 320) : k0_cond3 i n = 1#1 ↔ ¬(i 0).val < n.toNat := by
  have hi : (i 0).val < 320 := (i 0).isLt
  rw [word_eq n]
  generalize n.toNat = k at h2 ⊢
  unfold k0_cond3
  simp only [WordCmp.toNat_ofNat_of_lt (show k < 2 ^ 32 by omega)]
  simp (disch := omega) only [hlo_ix]
  omega

/-- Where the first branch is not taken, the point is not the first and its expert is the last point's. -/
theorem of_not_changed (i : grid0.Coords) (e e' : BitVec 32) (h : ¬changed i e e') : (i 0).val ≠ 0 ∧ e = e' := by
  have hi : (i 0).val < 320 := (i 0).isLt
  unfold changed at h
  rw [WordCmp.scalar_cmpi_eq, WordCmp.scalar_cmpi_eq, WordCmp.scalar_cmpi_eq] at h
  by_contra hn
  apply h
  by_cases h0 : (i 0).val = 0
  · rw [h0]
    have : IntOp.cmpi .eq (BitVec.ofNat 32 0) 0#32 = 1#1 := by decide
    rw [this]
    rcases (by decide : ∀ x : BitVec 1, x = 0#1 ∨ x = 1#1) (IntOp.cmpi .ne e e') with hx | hx <;> rw [hx] <;> decide
  · have hne : e ≠ e' := fun he => hn ⟨h0, he⟩
    have : IntOp.cmpi .ne e e' = 1#1 := by rw [WordCmp.cmpi_ne_eq]; simp [hne]
    rw [this]
    rcases (by decide : ∀ x : BitVec 1, x = 0#1 ∨ x = 1#1) (IntOp.cmpi .eq (BitVec.ofNat 32 (i 0).val) 0#32) with hx | hx <;> rw [hx] <;> decide

end Cert.Kernel2Ideal.Experts

end
-- ==== Proof.ExpertsKit.lean ====
/-
  The launch of the experts' call: what the host operations before it leave in memory, the two prefetched tables read off it, the windows' blocks, and what the tables must satisfy for the call to run.
-/
module

public import proofs.«01_k».proof.Proof.ExpertsWords
public import Idealize.ShloMosaic.Lib.Pipeline.Kit

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of core `c` holds when the call starts: the launch memory after the host operations. -/
abbrev V (c : Dev nD) (b : Ref sig .tc) : Buf (Elt F) ((c : Thread nD τ).loc b) := StableHlo.after hostOps0 (fun b => m (c, b)) b

/-- No host operation needs fresh memory. -/
theorem hostOps0_fresh : (hostOps0 : List (HloOp τ sig (Elt F))).Forall fun op => op.fresh = ∅ := by
  simp only [List.Forall]; repeat' constructor

set_option maxHeartbeats 800000 in
/-- The program up to the call: its host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations do not write argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 7. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 8. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The two tables' contents when the call starts, on the one device; on every device they are these. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The one place of a table of one entry. -/
theorem place1_eq (a b : S1.Idx) : a = b := by
  funext x
  obtain rfl : x = 0 := Subsingleton.elim _ _
  exact (Subsingleton.elim (α := Fin 1) (a 0) (b 0))

/-- The table of experts and the number of blocks in use. -/
abbrev experts (pf : pre0.Contents (Elt F)) : S320.Idx → BitVec 32 := pf 0
abbrev usedTable (pf : pre0.Contents (Elt F)) : S1.Idx → BitVec 32 := pf 1
abbrev used (pf : pre0.Contents (Elt F)) : BitVec 32 := usedTable pf (fun _ => ⟨0, by simp [S1]⟩)

/-- The call's side condition of the tables: every window's block lies in its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables the body is lent, one by one. -/
theorem lent_eq (c : Dev nD) : (Pipeline.ΦT pre0 (tbl m) c : sProp 𝕄) = iprop(tabPt c expertsTab (tbl m 0) ∗ tabPt c usedTab (tbl m 1)) := by
  unfold Pipeline.ΦT Pipeline.prefHeld
  rw [show (Finset.univ : Finset (Fin 2)) = insert (0 : Fin 2) {(1 : Fin 2)} from by decide, bigSep_insert (by decide), bigSep_singleton]
  rfl

/-- What the body owns beside its windows: the kept buffer at anything and the generator's register. -/
theorem rest_eq (c : Dev nD) :
    (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point. -/
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point. -/
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run whose arrays start as the call finds them leaves every argument as it was. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats 0 c).arrAt_in 0 rfl _).trans ((hA c 0).trans (V_arg2 m c))),
      ((h c).1 1).trans (((dats 0 c).arrAt_in 1 rfl _).trans ((hA c 1).trans (V_arg3 m c))),
      ((h c).1 2).trans (((dats 0 c).arrAt_in 2 rfl _).trans ((hA c 2).trans (V_arg4 m c))),
      ((h c).1 3).trans (((dats 0 c).arrAt_in 3 rfl _).trans ((hA c 3).trans (V_arg5 m c))),
      ((h c).1 4).trans (((dats 0 c).arrAt_in 4 rfl _).trans ((hA c 4).trans (V_arg6 m c))),
      ((h c).1 5).trans (((dats 0 c).arrAt_in 5 rfl _).trans ((hA c 5).trans (V_arg7 m c))),
      ((h c).1 6).trans (((dats 0 c).arrAt_in 6 rfl _).trans ((hA c 6).trans (V_arg8 m c)))⟩) h

theorem live0 (hO : Ok m) : ∀ t : Fin (cfgM m hO).N, (cfgM m hO).idle 0 (grid0.coords t) = false := fun _ => rfl
theorem live1 (hO : Ok m) : ∀ t : Fin (cfgM m hO).N, (cfgM m hO).idle 1 (grid0.coords t) = false := fun _ => rfl
theorem live2 (hO : Ok m) : ∀ t : Fin (cfgM m hO).N, (cfgM m hO).idle 2 (grid0.coords t) = false := fun _ => rfl
theorem live3 (hO : Ok m) : ∀ t : Fin (cfgM m hO).N, (cfgM m hO).idle 3 (grid0.coords t) = false := fun _ => rfl
theorem live4 (hO : Ok m) : ∀ t : Fin (cfgM m hO).N, (cfgM m hO).idle 4 (grid0.coords t) = false := fun _ => rfl
theorem live5 (hO : Ok m) : ∀ t : Fin (cfgM m hO).N, (cfgM m hO).idle 5 (grid0.coords t) = false := fun _ => rfl
theorem live6 (hO : Ok m) : ∀ t : Fin (cfgM m hO).N, (cfgM m hO).idle 6 (grid0.coords t) = false := fun _ => rfl

/-- The number of blocks in use as the body reads it is the table's. -/
theorem usedWord_eq (pf : pre0.Contents (Elt F)) (c : Dev nD) : usedWord c (pf 1) = used pf := by
  show usedTable pf _ = usedTable pf _
  exact congrArg (usedTable pf) (place1_eq _ _)

end Cert.Kernel2Ideal.Experts

end
-- ==== Proof.ExpertsOk.lean ====
/-
  What good tables give the experts' call: every block lies in its array, every point writes its block of the result, and a point that does not refill the kept buffer works with the expert of the point before it.
-/
module

public import proofs.«01_k».proof.Proof.ExpertsKit
public import Idealize.ShloMosaic.Lib.Pipeline.Kit

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (pf : pre0.Contents (Elt F))

/-- Equal places in the table. -/
theorem place_eq {a b : S320.Idx} (h : (a 0).val = (b 0).val) : a = b := by
  funext x; obtain rfl : x = 0 := Subsingleton.elim _ _; exact Fin.ext h

/-- The place of point `i` in the table of experts. -/
abbrev place (i : grid0.Coords) : S320.Idx := fun x => ⟨(i 0).val, by obtain rfl : x = 0 := Subsingleton.elim _ _; exact (i 0).isLt⟩

/-- The block of rows a point reads. -/
theorem rows_val (i : grid0.Coords) (h1 : 1 ≤ (used pf).toNat) (h2 : (used pf).toNat ≤ 320) :
    cc0_transform_0 inb_S1_S1_0 numel1_S1 pf i = ![min (i 0).val ((used pf).toNat - 1), 0] := by
  have e : pf.at 1 (Rect.unit (s := S1) ![0] S1.size inb_S1_S1_0) numel1_S1 = used pf := by
    show usedTable pf _ = usedTable pf _
    exact congrArg (usedTable pf) (place1_eq _ _)
  have hm := min_word (i 0).val (used pf) (i 0).isLt h1 h2
  funext a
  fin_cases a
  · show (Scalar.minsi (BitVec.ofNat 32 (i 0).val) (Scalar.subi (pf.at 1 (Rect.unit (s := S1) ![0] S1.size inb_S1_S1_0) numel1_S1) 1#32)).toNat = _
    rw [e]; exact hm
  · rfl

/-- The expert's block a point reads, of any of the six weight arrays. -/
theorem expert_at (i : grid0.Coords) :
    pf.at 0 (Rect.unit (s := S320) ![(Scalar.indexCast (BitVec.ofNat 32 (i 0).val) : BitVec 32).toNat] S1.size (k0_off1_inb i)) numel1_S1 = experts pf (place i) := by
  show experts pf _ = experts pf _
  congr 1
  apply place_eq
  show (BitVec.ofNat 32 (i 0).val).toNat + _ = (i 0).val
  have hi : (i 0).val < 320 := (i 0).isLt
  rw [WordCmp.toNat_ofNat_of_lt (by omega)]
  simp [Shape.Idx.first]

theorem expert1_val (i : grid0.Coords) : cc0_transform_1 k0_off1_inb numel1_S1 pf i = ![(experts pf (place i)).toNat, 0, 0] := by
  rw [← expert_at]; rfl
theorem expert3_val (i : grid0.Coords) : cc0_transform_3 k0_off1_inb numel1_S1 pf i = ![(experts pf (place i)).toNat, 0, 0] := by
  rw [← expert_at]; rfl

/-- A point's blocks lie in their arrays. -/
theorem rows_inside (g : Good (experts pf) (used pf)) (i : grid0.Coords) :
    ∃ h : (∀ a, (cc0_transform_0 inb_S1_S1_0 numel1_S1 pf i a + 1) * S512x1024.size a ≤ S163840x1024.size a), EltTy.bits .f32 = 32 ∨ (Rect.block (s := S163840x1024) S512x1024.size (cc0_transform_0 inb_S1_S1_0 numel1_S1 pf i) h).WholeWords (EltTy.packing .f32) := by
  refine ⟨?_, .inl rfl⟩
  rw [rows_val pf i g.pos g.le]
  have hi : (i 0).val < 320 := (i 0).isLt
  intro a
  fin_cases a
  · show (min (i 0).val ((used pf).toNat - 1) + 1) * 512 ≤ 163840; omega
  · show (0 + 1) * 1024 ≤ 1024; omega

theorem matrix_inside (g : Good (experts pf) (used pf)) (i : grid0.Coords) (a : Fin 3) :
    (cc0_transform_1 k0_off1_inb numel1_S1 pf i a + 1) * S1x1024x1024.size a ≤ S64x1024x1024.size a := by
  rw [expert1_val]
  have he := g.expert (place i)
  fin_cases a
  · show ((experts pf (place i)).toNat + 1) * 1 ≤ 64; omega
  · show (0 + 1) * 1024 ≤ 1024; omega
  · show (0 + 1) * 1024 ≤ 1024; omega

theorem bias_inside (g : Good (experts pf) (used pf)) (i : grid0.Coords) (a : Fin 3) :
    (cc0_transform_3 k0_off1_inb numel1_S1 pf i a + 1) * S1x1x1024.size a ≤ S64x1x1024.size a := by
  rw [expert3_val]
  have he := g.expert (place i)
  fin_cases a
  · show ((experts pf (place i)).toNat + 1) * 1 ≤ 64; omega
  · show (0 + 1) * 1 ≤ 1; omega
  · show (0 + 1) * 1024 ≤ 1024; omega

/-- Good tables meet the call's side condition. -/
theorem ok_of_good (g : Good (experts pf) (used pf)) : ok0 (F := F) pf := by
  unfold ok0
  refine ⟨rows_inside pf g, fun i => ⟨matrix_inside pf g i, .inr ?_⟩, fun i => ⟨matrix_inside pf g i, .inr ?_⟩, fun i => ⟨bias_inside pf g i, .inl rfl⟩,
    fun i => ⟨bias_inside pf g i, .inl rfl⟩, fun i => ⟨matrix_inside pf g i, .inl rfl⟩, fun i => ⟨bias_inside pf g i, .inl rfl⟩⟩
  · exact .inr ⟨by decide, rfl, rfl, rfl⟩
  · exact .inr ⟨by decide, rfl, rfl, rfl⟩

/-- Every point writes its block of the result. -/
theorem written (g : Good (experts pf) (used pf)) (i : grid0.Coords) : idle0 pf 7 i = false := by
  show (!(k0_cond2 i (pf.atD 1 ![0]) == 1#1) && !(k0_cond3 i (pf.atD 1 ![0]) == 1#1)) = false
  have e : pf.atD 1 ![0] = used pf := by
    unfold Pipeline.Prefetch.Contents.atD
    refine (dif_pos (show ∀ a : Fin 1, (![0] : Fin 1 → ℕ) a + 1 ≤ S1.size a from fun a => by obtain rfl : a = 0 := Subsingleton.elim _ _; exact Nat.le_refl _)).trans ?_
    exact congrArg (usedTable pf) (place1_eq _ _)
  rw [e]
  have h2 := cond2_iff i (used pf) g.le
  have h3 := cond3_iff i (used pf) g.le
  by_cases h : (i 0).val < (used pf).toNat
  · rw [h2.mpr h]; rfl
  · rw [h3.mpr h]; simp

/-- The point's expert as the body reads it, and the expert of the point before. -/
theorem thisWord_eq (c : Dev nD) (g : Good (experts pf) (used pf)) (i : grid0.Coords) (hn : k0_chk1 i (used pf)) :
    thisWord c i (pf 0) (used pf) hn = experts pf (place i) := by
  show experts pf _ = experts pf _
  apply g.clamp
  show k0_off2 i (used pf) 0 + _ = _
  rw [off2_val i _ g.pos g.le 0]
  simp [Shape.Idx.first]

theorem lastWord_eq (c : Dev nD) (g : Good (experts pf) (used pf)) (i : grid0.Coords) (hn : k0_chk1 i (used pf)) (b : S320.Idx)
    (hb : (b 0).val = (i 0).val - 1) : lastWord c i (pf 0) (used pf) hn = experts pf b := by
  show experts pf _ = experts pf _
  apply g.clamp
  show k0_off3 i (used pf) 0 + _ = _
  rw [off3_val i _ g.pos g.le 0, hb]
  simp [Shape.Idx.first]

/-- The same facts of the number of blocks in use as the body reads it. -/
theorem chk_used (c : Dev nD) (g : Good (experts pf) (used pf)) (i : grid0.Coords) : k0_chk1 i (usedWord c (pf 1)) :=
  (usedWord_eq pf c).symm ▸ chk i _ g.pos g.le

theorem unused_iff (c : Dev nD) (g : Good (experts pf) (used pf)) (i : grid0.Coords) :
    k0_cond3 i (usedWord c (pf 1)) = 1#1 ↔ ¬k0_cond2 i (usedWord c (pf 1)) = 1#1 := by
  rw [usedWord_eq pf c, cond2_iff _ _ g.le, cond3_iff _ _ g.le]

/-- A point that does not refill the kept buffer is not the first, and the point before it works with the same expert. -/
theorem same_expert (c : Dev nD) (g : Good (experts pf) (used pf)) (i i' : grid0.Coords) (hi : (i' 0).val = (i 0).val - 1) (hn : k0_chk1 i (usedWord c (pf 1)))
    (h : ¬changed i (thisWord c i (pf 0) (usedWord c (pf 1)) hn) (lastWord c i (pf 0) (usedWord c (pf 1)) hn)) :
    experts pf (place i') = experts pf (place i) := by
  have he := (of_not_changed _ _ _ h).2
  have key : ∀ n (hn : k0_chk1 i n), n = used pf → thisWord c i (pf 0) n hn = lastWord c i (pf 0) n hn → experts pf (place i') = experts pf (place i) := by
    rintro n hn rfl h
    rw [← thisWord_eq pf c g i hn, h, lastWord_eq pf c g i hn (place i') hi]
  exact key _ hn (usedWord_eq pf c) he

end Cert.Kernel2Ideal.Experts

end
-- ==== Proof.ExpertsPoint.lean ====
/-
  What every grid point of the experts' call leaves in its staging buffers and in the buffer kept between points.
-/
module

public import proofs.«01_k».proof.Proof.ExpertsOk
public import Idealize.ShloMosaic.Lib.Pipeline.Kit

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

attribute [local irreducible] tbl

variable (m : (ℓ : Loc nD τ sig) → Buf (Elt F) ℓ) (ρ : Dev nD → PrngReg)

/-! Each window's staging buffer at a point. -/

abbrev ms0 (hO : Ok m) (t : Fin (cfgM m hO).N) : Memref sig .tc .vmem S512x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1024 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x1024 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x1024 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x1024 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S512x1024 .f32 := spec0_7.stage ((cfgM m hO).slots t 7)
abbrev hs7 (hO : Ok m) (t : Fin (cfgM m hO).N) : (ms7 m hO t).IsWhole := hstage0_7 (((cfgM m hO).slots t 7).cast nbuf0_7)

/-- The body at a point, on the buffers the pipeline passes it. -/
abbrev bodyAt (hO : Ok m) (t : Fin (cfgM m hO).N) : Prog (TpuEff nD τ sig (Elt F) Λ₀ .tc) PUnit :=
  cc0_moe_experts (grid0.coords t) expertsTab (Memref.isWhole_whole _) usedTab (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) kept (Memref.isWhole_whole _)

/-- The kept buffer after point `t`: the point's down-projection, rounded. -/
def keptAt (hO : Ok m) (c : Dev nD) (t : Fin (cfgM m hO).N) : Vec F S1024x1024 .bf16 := k0_pay1 (iblk m hO c 5 t)

/-- The block of the result point `t` writes: the experts' rows where the block is in use, zeros elsewhere. -/
def outAt (hO : Ok m) (c : Dev nD) (t : Fin (cfgM m hO).N) : Vec F S512x1024 .f32 :=
  if k0_cond2 (grid0.coords t) (used (tbl m)) = 1#1 then
    k0_pay2 (k0_pay4 (iblk m hO c 0 t) (iblk m hO c 1 t) (iblk m hO c 3 t) (iblk m hO c 2 t) (iblk m hO c 4 t) (keptAt m hO c t)) (iblk m hO c 6 t)
  else k0_pay3 (F := F)

/-- The point's place on the grid. -/
theorem coord_val (t : Fin grid0.N) : (grid0.coords t 0).val = t.val := by
  have ht : t.val < 320 := Nat.lt_of_lt_of_eq t.isLt N_0
  have e : (grid0.coords t 0).val = t.val / 1 % 320 := Pipeline.Grid.coords_val t 0 (by decide) rfl
  omega

/-- Where two points work with the same expert they keep the same down-projection. -/
theorem keptAt_congr (hO : Ok m) (c : Dev nD) (t t' : Fin (cfgM m hO).N)
    (h : experts (tbl m) (place (grid0.coords t)) = experts (tbl m) (place (grid0.coords t'))) : keptAt m hO c t = keptAt m hO c t' := by
  have hi : ((cfgM m hO).win 5).index t = ((cfgM m hO).win 5).index t' := by
    show cc0_transform_1 k0_off1_inb numel1_S1 (tbl m) (grid0.coords t) = cc0_transform_1 k0_off1_inb numel1_S1 (tbl m) (grid0.coords t')
    rw [expert1_val, expert1_val, h]
  unfold keptAt
  refine congrArg k0_pay1 ?_
  funext y
  unfold iblk
  rw [View.read_apply, View.read_apply]
  show _root_.cast _ (V m c (Pipeline.arrRef spec0 5) (((cfgM m hO).win 5).arr.view.emb ((((cfgM m hO).win 5).rect t).emb y)))
    = _root_.cast _ (V m c (Pipeline.arrRef spec0 5) (((cfgM m hO).win 5).arr.view.emb ((((cfgM m hO).win 5).rect t').emb y)))
  congr 3
  funext a; apply Fin.ext
  rw [Rect.emb_apply, Rect.emb_apply]
  show ((cfgM m hO).win 5).kind.off (((cfgM m hO).win 5).index t a) (((cfgM m hO).win 5).size a) + 1 * (y a).val
    = ((cfgM m hO).win 5).kind.off (((cfgM m hO).win 5).index t' a) (((cfgM m hO).win 5).size a) + 1 * (y a).val
  rw [hi]

/-- The invariant between points: the kept buffer at what the last point left (at anything before the first), the generator's register, and the tables' halves. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) kept fullShare (keptAt m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) kept fullShare (keptAt m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) kept fullShare (keptAt m hO c ⟨n - 1, by omega⟩)) ∗ (∃ r, prngReg c r)) ∗ Pipeline.ΦT pre0 (tbl m) c) := by
  cases n with
  | zero => exact absurd rfl hz
  | succ n => rfl

/-- Whatever the point, the invariant holds the kept buffer at something. -/
theorem PhiS_any (hO : Ok m) (c : Dev nD) (n : ℕ) (h : n ≤ (cfgM m hO).N) :
    PhiS m hO c n h ⊢ iprop(iprop(iprop((∃ d, owns (c : Thread nD τ) kept fullShare d)) ∗ (∃ r, prngReg c r)) ∗ Pipeline.ΦT pre0 (tbl m) c) := by
  cases n with
  | zero => rw [PhiS_zero m hO c 0 h rfl, rest_eq]
  | succ n =>
    rw [PhiS_succ]
    iintro ⟨⟨HS, Hg⟩, HT⟩
    isplitl [HS Hg]
    · isplitl [HS]
      · iexists _; iexact HS
      iexact Hg
    iexact HT

/-- What the pipeline's rule takes: the arrays as the call finds them, and what each point leaves in each window's buffer. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = outAt m hO c t := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
theorem before4 (hO : Ok m) (c : Dev nD) (t : Fin (cfgM m hO).N) (d) : (dats m hO 0 c).before 4 t d = iblk m hO c 4 t :=
  before4_of m hO (dats m hO 0 c) (A_eq m hO c 4) (after4 m hO c) t d
theorem before5 (hO : Ok m) (c : Dev nD) (t : Fin (cfgM m hO).N) (d) : (dats m hO 0 c).before 5 t d = iblk m hO c 5 t :=
  before5_of m hO (dats m hO 0 c) (A_eq m hO c 5) (after5 m hO c) t d
theorem before6 (hO : Ok m) (c : Dev nD) (t : Fin (cfgM m hO).N) (d) : (dats m hO 0 c).before 6 t d = iblk m hO c 6 t :=
  before6_of m hO (dats m hO 0 c) (A_eq m hO c 6) (after6 m hO c) t d

/-- What the body is called with at point `t`, window by window, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 6400000 in
/-- The body at any point: of its four runs the one whose branches the point takes. -/
theorem sound_body (hO : Ok m) (g : Good (experts (tbl m)) (used (tbl m))) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6]
  rw [show (dats m hO 0 c).owesAt () t.succ = (dats m hO 0 c).owesAt () t.castSucc from rfl]
  rw [show (dats m hO 0 c).Φ t.succ = PhiS m hO c (t.val + 1) t.isLt from rfl, PhiS_succ, lent_eq]
  rw [show (dats m hO 0 c).leavesExact 0 t = owns (c : Thread nD τ) (ms0 m hO t) fullShare ((dats m hO 0 c).after 0 t) from by
    unfold Dat.leavesExact; rw [live0 m hO t]; try rfl, after0]
  rw [show (dats m hO 0 c).leavesExact 1 t = owns (c : Thread nD τ) (ms1 m hO t) fullShare ((dats m hO 0 c).after 1 t) from by
    unfold Dat.leavesExact; rw [live1 m hO t]; try rfl, after1]
  rw [show (dats m hO 0 c).leavesExact 2 t = owns (c : Thread nD τ) (ms2 m hO t) fullShare ((dats m hO 0 c).after 2 t) from by
    unfold Dat.leavesExact; rw [live2 m hO t]; try rfl, after2]
  rw [show (dats m hO 0 c).leavesExact 3 t = owns (c : Thread nD τ) (ms3 m hO t) fullShare ((dats m hO 0 c).after 3 t) from by
    unfold Dat.leavesExact; rw [live3 m hO t]; try rfl, after3]
  rw [show (dats m hO 0 c).leavesExact 4 t = owns (c : Thread nD τ) (ms4 m hO t) fullShare ((dats m hO 0 c).after 4 t) from by
    unfold Dat.leavesExact; rw [live4 m hO t]; try rfl, after4]
  rw [show (dats m hO 0 c).leavesExact 5 t = owns (c : Thread nD τ) (ms5 m hO t) fullShare ((dats m hO 0 c).after 5 t) from by
    unfold Dat.leavesExact; rw [live5 m hO t]; try rfl, after5]
  rw [show (dats m hO 0 c).leavesExact 6 t = owns (c : Thread nD τ) (ms6 m hO t) fullShare ((dats m hO 0 c).after 6 t) from by
    unfold Dat.leavesExact; rw [live6 m hO t]; try rfl, after6]
  rw [show (dats m hO 0 c).leavesExact 7 t = owns (c : Thread nD τ) (ms7 m hO t) fullShare ((dats m hO 0 c).after 7 t) from by
    unfold Dat.leavesExact; rw [show (cfgM m hO).idle 7 ((cfgM m hO).grid.coords t) = false from written (tbl m) g (grid0.coords t)]; try rfl, after7]
  have hu := usedWord_eq (tbl m) c
  have hn := chk_used (tbl m) c g (grid0.coords t)
  have h23 := unused_iff (tbl m) c g (grid0.coords t)
  have hold : ∀ h2 : k0_cond2 (grid0.coords t) (usedWord c (tbl m 1)) = 1#1, outAt m hO c t
      = k0_pay2 (k0_pay4 (iblk m hO c 0 t) (iblk m hO c 1 t) (iblk m hO c 3 t) (iblk m hO c 2 t) (iblk m hO c 4 t) (keptAt m hO c t)) (iblk m hO c 6 t) := fun h2 => by
    unfold outAt; rw [if_pos (hu ▸ h2)]
  have hzero : ∀ h2 : ¬k0_cond2 (grid0.coords t) (usedWord c (tbl m 1)) = 1#1, outAt m hO c t = k0_pay3 (F := F) := fun h2 => by
    unfold outAt; rw [if_neg (fun h => h2 (hu.symm ▸ h))]
  rw [PhiS_castSucc m hO c t]
  by_cases hch : changed (grid0.coords t) (thisWord c (grid0.coords t) (tbl m 0) (usedWord c (tbl m 1)) hn) (lastWord c (grid0.coords t) (tbl m 0) (usedWord c (tbl m 1)) hn)
  · by_cases h2 : k0_cond2 (grid0.coords t) (usedWord c (tbl m 1)) = 1#1
    · have h3 := fun h => h23.mp h h2
      rw [hold h2]
      refine (sep_mono_left (PhiS_any m hO c _ _)).trans ?_
      rw [lent_eq]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_new_used c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h3 := h23.mpr h2
      rw [hzero h2]
      refine (sep_mono_left (PhiS_any m hO c _ _)).trans ?_
      rw [lent_eq]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_new_unused c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := coord_val t ▸ (of_not_changed _ _ _ hch).1
    have ht : t.val < grid0.N := t.isLt
    have hk : keptAt m hO c ⟨t.val - 1, show t.val - 1 < grid0.N by omega⟩ = keptAt m hO c t :=
      keptAt_congr m hO c _ _ (same_expert (tbl m) c g (grid0.coords t) (grid0.coords ⟨t.val - 1, by omega⟩) (by rw [coord_val, coord_val]) hn hch)
    rw [PhiS_pos m hO c _ _ hz, hk, lent_eq]
    by_cases h2 : k0_cond2 (grid0.coords t) (usedWord c (tbl m 1)) = 1#1
    · have h3 := fun h => h23.mp h h2
      rw [hold h2]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_same_used c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) (keptAt m hO c t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h3 := h23.mpr h2
      rw [hzero h2]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_same_unused c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) (keptAt m hO c t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.Kernel2Ideal.Experts

end
-- ==== Proof.ExpertsFrame.lean ====
/-
  The experts' call from start to end: the run of all its grid points, with its arguments unchanged.
-/
module

public import proofs.«01_k».proof.Proof.ExpertsPoint
public import Idealize.ShloMosaic.Lib.Claim

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

attribute [local irreducible] tbl

variable (m : (ℓ : Loc nD τ sig) → Buf (Elt F) ℓ) (ρ : Dev nD → PrngReg)

/-- The body table's row at a point is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (g : Good (experts (tbl m)) (used (tbl m))) (c : Dev nD) :
    BodyObligation (dats (F := F) m hO 0 c) (defs₀ (F := F)) Variants.none () Set.univ := fun t => by
  rw [bigSep_W0, bigSep_W0, defs₀_row m hO]
  exact triple_restated (sound_body m hO g c t) rfl .rfl fun _ => .rfl

/-- What the launch hands over is the invariant before the first point; after the last, the invariant gives the buffers back. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl,
    PhiS_pos m hO c _ _ (by rw [Fin.val_last]; have : (cfgM m hO).N = 320 := N_0; omega), rest_eq]
  iintro ⟨⟨HS0, Hg⟩, -⟩
  isplitl [HS0]
  · iexists _; iexact HS0
  iexact Hg

-- the rule's implicit arguments are found by unifying its conclusion with this one
set_option backward.isDefEq.respectTransparency.types false in
/-- The run: every execution ends, the arrays as the pipeline leaves them and every counter at zero. -/
theorem run_main (hO : Ok m) (g : Good (experts (tbl m)) (used (tbl m))) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO g c).loose) (hshare := fun c => (dats m hO 0 c).share_full fun _ => rfl)
    (howed := fun _ _ => rfl) (V := V m) (hmain := hmain m Variants.none) (hA := A_eq m hO) (hpf := V_pre m)
    (hin := hin m hO) (hout := hout m hO)

/-- With good tables every execution of the call ends with its arguments unchanged and every counter at zero. -/
theorem frame (g : Good (experts (tbl m)) (used (tbl m))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  have hO := ok_of_good (tbl m) g
  θ_run_and (unchanged_of m ρ hO (dats m hO) (A_eq m hO) ((θ_run defs _ _).mono (fun _ h => h.1) (run_main m ρ hO g)))
    ((θ_run defs _ _).mono (fun _ h => h.2) (run_main m ρ hO g))

end Cert.Kernel2Ideal.Experts

end
-- ==== Proof.ExpertsTables.lean ====
/-
  The two tables the experts' call prefetches, from the arguments: entry `b` of the first is the argument's entry at the smaller of `b` and the last block in use, and the second is the argument.
  With the precondition's ranges the tables are good ones.
-/
module

public import proofs.«01_k».proof.Proof.ExpertsKit
public import Idealize.ShloMosaic.Lib.StableHlo.Predicate
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen StableHlo

variable {F : FTy → Type} [FloatOps F]

/-- The smaller of each place's index and the last block in use. -/
def lastOrOwn (nu : IVec S1 32) : IVec S320 32 :=
  minsi (iotaInDim S320 32 0) (broadcastInDim S320 ![] bcast_S_S320 (subi (shapeCast S_ nu shapeCasts_S1_S_) (constantI S_ 32 1#32)))

/-- The places the table of experts is read at. -/
def readAt (nu : IVec S1 32) : IVec S320x1 32 :=
  broadcastInDim S320x1 ![0] bcast_S320_S320x1_0
    (select (cmpi .slt (lastOrOwn nu) (broadcastInDim S320 ![] bcast_S_S320 (constantI S_ 32 0#32)))
      (addi (lastOrOwn nu) (broadcastInDim S320 ![] bcast_S_S320 (constantI S_ 32 320#32))) (lastOrOwn nu))

variable (m : (ℓ : Loc nD τ sig) → Buf (Elt F) ℓ)

set_option maxHeartbeats 1600000 in
/-- The first table the call prefetches. -/
theorem V_experts (c : Dev nD) : V m c main_v11
    = Host.gather gather_S320_S320x1_S320_n_0_n_n_0_1_1 (m ((c : Thread nD τ).loc main_arg0)) (readAt (m ((c : Thread nD τ).loc main_arg1))) := by
  unfold V
  simp only [List.flatten_cons, List.flatten_nil, List.append_nil, List.cons_append, List.nil_append, hostOps0, TRef.unary, TRef.binary, TRef.toBuf, TRef.ofBuf, cast_eq]
  after_results_simp
  after_results_loop
  rfl

/-- One entry of the clamped index. -/
theorem lastOrOwn_val (nu : IVec S1 32) (z : S1.Idx) (h1 : 1 ≤ (nu z).toNat) (h2 : (nu z).toNat ≤ 320) (b : S320.Idx) :
    lastOrOwn nu b = BitVec.ofNat 32 (min (b 0).val ((nu z).toNat - 1)) := by
  have hb : (b 0).val < 320 := (b 0).isLt
  have e : lastOrOwn nu b = Scalar.minsi (BitVec.ofNat 32 (b 0).val) (Scalar.subi (nu z) 1#32) :=
    congrArg (fun w => Scalar.minsi (BitVec.ofNat 32 (b 0).val) (Scalar.subi w 1#32)) (congrArg nu (place1_eq _ z))
  rw [e, ← min_word _ _ hb h1 h2]
  exact word_eq _

/-- One place the table of experts is read at: the index is never negative. -/
theorem readAt_val (nu : IVec S1 32) (z : S1.Idx) (h1 : 1 ≤ (nu z).toNat) (h2 : (nu z).toNat ≤ 320) (p : Fin 320) :
    readAt nu (Predicate.ixP p) = BitVec.ofNat 32 (min p.val ((nu z).toNat - 1)) := by
  have hp : p.val < 320 := p.isLt
  have hv : lastOrOwn nu (Shape.Idx.ofFin p) = BitVec.ofNat 32 (min p.val ((nu z).toNat - 1)) := lastOrOwn_val nu z h1 h2 _
  have e : readAt nu (Predicate.ixP p) = (if IntOp.cmpi .slt (lastOrOwn nu (Shape.Idx.ofFin p)) 0#32 = 1#1 then
      IntOp.addi (lastOrOwn nu (Shape.Idx.ofFin p)) 320#32 else lastOrOwn nu (Shape.Idx.ofFin p)) := by
    have ei : ∀ q : S320.Idx, (q 0).val = p.val → q = Shape.Idx.ofFin p := fun q h => by
      funext x; obtain rfl : x = 0 := Subsingleton.elim _ _; exact Fin.ext h
    unfold readAt
    rw [← ei (ix1 (Predicate.ixP p 0)) rfl]
    pointwise
    rfl
  rw [e, hv]
  have hs : IntOp.cmpi .slt (BitVec.ofNat 32 (min p.val ((nu z).toNat - 1))) 0#32 = 0#1 := by
    show BitVec.ofBool ((BitVec.ofNat 32 (min p.val ((nu z).toNat - 1))).slt 0#32) = 0#1
    rw [BitVec.slt_eq_decide, WordCmp.toInt_ofNat_of_lt (by omega), show (0#32 : BitVec 32).toInt = 0 from by decide, decide_eq_false (by omega)]
    rfl
  rw [hs, if_neg (by decide)]

/-- Every entry of the first table is the argument's, at the smaller of its place and the last block in use. -/
theorem gathered (be : IVec S320 32) (nu : IVec S1 32) (z : S1.Idx) (h1 : 1 ≤ (nu z).toNat) (h2 : (nu z).toNat ≤ 320) (b b' : S320.Idx)
    (hb : (b' 0).val = min (b 0).val ((nu z).toNat - 1)) :
    Host.gather gather_S320_S320x1_S320_n_0_n_n_0_1_1 be (readAt nu) b = be b' := by
  have hlt : (b 0).val < 320 := (b 0).isLt
  have ei : ∀ (q q' : S320.Idx), (q 0).val = (q' 0).val → q = q' := fun q q' h => by
    funext x; obtain rfl : x = 0 := Subsingleton.elim _ _; exact Fin.ext h
  obtain ⟨p, hp⟩ : ∃ p : Fin 320, p.val = (b 0).val := ⟨⟨(b 0).val, hlt⟩, rfl⟩
  rw [ei b (Shape.Idx.ofFin p) hp.symm, Predicate.gather_take gather_S320_S320x1_S320_n_0_n_n_0_1_1 rfl rfl rfl rfl be (readAt nu) p (by decide)]
  refine congrArg be (ei _ _ ?_)
  show min (readAt nu (Predicate.ixP p)).toInt.toNat (320 - 1) = (b' 0).val
  rw [readAt_val nu z h1 h2 p, WordCmp.toInt_ofNat_of_lt (by omega), hb, hp]
  omega

variable (m : (ℓ : Loc nD τ sig) → Buf (Elt F) ℓ)

/-- The number of blocks in use is the argument's. -/
theorem used_tbl (z : S1.Idx) : used (tbl m) = m (((0 : Dev nD) : Thread nD τ).loc main_arg1) z := by
  have e : usedTable (tbl m) = m (((0 : Dev nD) : Thread nD τ).loc main_arg1) := V_arg1 m 0
  show usedTable (tbl m) _ = _
  rw [e]; exact congrArg _ (place1_eq _ _)

/-- The table of experts is the argument's, at the smaller of each place and the last block in use. -/
theorem experts_tbl (z : S1.Idx) (h1 : 1 ≤ ((m (((0 : Dev nD) : Thread nD τ).loc main_arg1) : IVec S1 32) z).toNat)
    (h2 : ((m (((0 : Dev nD) : Thread nD τ).loc main_arg1) : IVec S1 32) z).toNat ≤ 320) (b b' : S320.Idx)
    (hb : (b' 0).val = min (b 0).val (((m (((0 : Dev nD) : Thread nD τ).loc main_arg1) : IVec S1 32) z).toNat - 1)) :
    experts (tbl m) b = (m (((0 : Dev nD) : Thread nD τ).loc main_arg0) : IVec S320 32) b' := by
  have e : experts (tbl m) = _ := V_experts m 0
  rw [e]; exact gathered _ _ z h1 h2 b b' hb

/-- Arguments in range make good tables. -/
theorem good_of_ranges (hb : ∀ b, ((m (((0 : Dev nD) : Thread nD τ).loc main_arg0) : IVec S320 32) b).toNat < 64)
    (hn : ∀ z, 1 ≤ ((m (((0 : Dev nD) : Thread nD τ).loc main_arg1) : IVec S1 32) z).toNat ∧ ((m (((0 : Dev nD) : Thread nD τ).loc main_arg1) : IVec S1 32) z).toNat ≤ 320) :
    Good (experts (tbl m)) (used (tbl m)) := by
  obtain ⟨z⟩ : Nonempty S1.Idx := ⟨fun _ => ⟨0, by simp [S1]⟩⟩
  obtain ⟨h1, h2⟩ := hn z
  have hmk : ∀ k : ℕ, k < 320 → ∃ q : S320.Idx, (q 0).val = k := fun k hk => ⟨Shape.Idx.ofFin ⟨k, hk⟩, rfl⟩
  have hat : ∀ b : S320.Idx, ∃ q : S320.Idx, (q 0).val = min (b 0).val (((m (((0 : Dev nD) : Thread nD τ).loc main_arg1) : IVec S1 32) z).toNat - 1)
      ∧ experts (tbl m) b = (m (((0 : Dev nD) : Thread nD τ).loc main_arg0) : IVec S320 32) q := fun b => by
    have hlt : (b 0).val < 320 := (b 0).isLt
    obtain ⟨q, hq⟩ := hmk (min (b 0).val (((m (((0 : Dev nD) : Thread nD τ).loc main_arg1) : IVec S1 32) z).toNat - 1)) (by omega)
    exact ⟨q, hq, experts_tbl m z h1 h2 b q hq⟩
  refine ⟨by rw [used_tbl m z]; exact h1, by rw [used_tbl m z]; exact h2, fun b => ?_, fun b b' h => ?_⟩
  · obtain ⟨q, -, hq⟩ := hat b
    rw [hq]; exact hb q
  · rw [used_tbl m z] at h
    obtain ⟨q, hq, e⟩ := hat b
    rw [e]
    exact experts_tbl m z h1 h2 b' q (by rw [hq, h]; omega)

end Cert.Kernel2Ideal.Experts

end
-- ==== Proof.ExpertsSwiglu.lean ====
/-
  One row through one expert: two affine maps, the clamped gated unit between them, and an affine map back.
-/
module

public import Idealize.ShloMosaic.PureOps.Ideal
public import Idealize.ShloMosaic.Lib.Pipeline.ValueKit

@[expose] public section

noncomputable section

namespace Cert.Swiglu

open Idealize.ShloMosaic

/-- The clamp's bounds, the gate's gain and one, as their words read. -/
def seven : EReal := Ideal.ofBits .f32 0x40E00000#32
def negSeven : EReal := Ideal.ofBits .f32 0xC0E00000#32
def gain : EReal := Ideal.ofBits .f32 0x3FD9DB23#32
def one : EReal := Ideal.ofBits .f32 0x3F800000#32

theorem one_eq : one = 1 := by
  unfold one
  simp [Ideal.ofBits, Ideal.ieee]
  rw [← EReal.coe_mul]
  norm_num

/-- The clamped gated unit. -/
def unit (g u : EReal) : EReal :=
  (min g seven * Ideal.div one (one + Ideal.exp (-(gain * min g seven)))) * (min seven (max negSeven u) + one)

/-- Entry `d` of an expert's answer to the row `x`. -/
def out (x : Fin 1024 → EReal) (Wg Wl : Fin 1024 → Fin 1024 → EReal) (bg bl : Fin 1024 → EReal) (Wd : Fin 1024 → Fin 1024 → EReal)
    (bd : Fin 1024 → EReal) (d : Fin 1024) : EReal :=
  (∑ f, unit ((∑ k, x k * Wg k f) + bg f) ((∑ k, x k * Wl k f) + bl f) * Wd f d) + bd d

/-- The logistic function, written out. -/
theorem logistic_eq (x : EReal) : Ideal.logistic x = Ideal.div one (one + Ideal.exp (-x)) := by
  rw [one_eq]; rfl

end Cert.Swiglu

end
-- ==== Proof.ExpertsBlock.lean ====
/-
  What one point of the experts' call writes into its block of the result: each row through the point's expert.
-/
module

public import proofs.«01_k».proof.Proof.Gen.Kernel2Ideal.Skeleton
public import proofs.«01_k».proof.Proof.ExpertsSwiglu
public import Idealize.ShloMosaic.Lib.Pipeline.ValueKit
public import Idealize.ShloMosaic.Lib.Pointwise

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen Cert.Swiglu

variable (X : FVec Ideal S512x1024 .f32) (Wg Wl : FVec Ideal S1x1024x1024 .bf16) (bg bl : FVec Ideal S1x1x1024 .f32)
  (Wd : FVec Ideal S1x1024x1024 .f32) (bd : FVec Ideal S1x1x1024 .f32)

/-- The kept down-projection, entry by entry. -/
theorem kept_val (f d : Fin 1024) : k0_pay1 (F := Ideal) Wd (ix2 f d) = Wd (ix3 (0 : Fin 1) f d) := by
  pointwise [k0_pay1]
  blk_ext

/-- The product with the kept down-projection, entry by entry. -/
theorem product_val (D : FVec Ideal S1024x1024 .bf16) (r : Fin 512) (d : Fin 1024) :
    k0_pay4 (F := Ideal) X Wg bg Wl bl D (ix2 r d)
      = ∑ f : Fin 1024, unit ((∑ k, X (ix2 r k) * Wg (ix3 (0 : Fin 1) k f)) + bg (ix3 (0 : Fin 1) (0 : Fin 1) f))
          ((∑ k, X (ix2 r k) * Wl (ix3 (0 : Fin 1) k f)) + bl (ix3 (0 : Fin 1) (0 : Fin 1) f)) * D (ix2 f d) := by
  pointwise [k0_pay4]
  refine Finset.sum_congr rfl fun f _ => ?_
  unfold unit
  rw [← logistic_eq, one_eq]
  rfl

/-- A used point's block, entry by entry: the point's expert's answer to each row. -/
theorem block_val (r : Fin 512) (d : Fin 1024) :
    k0_pay2 (F := Ideal) (k0_pay4 (F := Ideal) X Wg bg Wl bl (k0_pay1 (F := Ideal) Wd)) bd (ix2 r d)
      = out (fun k => X (ix2 r k)) (fun k f => Wg (ix3 (0 : Fin 1) k f)) (fun k f => Wl (ix3 (0 : Fin 1) k f)) (fun f => bg (ix3 (0 : Fin 1) (0 : Fin 1) f))
          (fun f => bl (ix3 (0 : Fin 1) (0 : Fin 1) f)) (fun f d => Wd (ix3 (0 : Fin 1) f d)) (fun d => bd (ix3 (0 : Fin 1) (0 : Fin 1) d)) d := by
  have e := product_val X Wg Wl bg bl (k0_pay1 (F := Ideal) Wd) r d
  generalize k0_pay4 (F := Ideal) X Wg bg Wl bl (k0_pay1 (F := Ideal) Wd) = P at e ⊢
  pointwise [k0_pay2]
  rw [e]
  unfold out
  simp only [kept_val]

/-- An unused point's block is zero. -/
theorem zero_val (i : S512x1024.Idx) : k0_pay3 (F := Ideal) i = Ideal.ofBits .f32 0x00000000#32 := rfl

end Cert.Kernel2Ideal.Experts

end
-- ==== Proof.ExpertsGather.lean ====
/-
  Picking slabs of a rank-3 table by a column of numbers: where the column holds a slab's number, the picked slab is the table's.
-/
module

public import Idealize.ShloMosaic.Lib.StableHlo.Predicate
public import Idealize.ShloMosaic.Lib.Pipeline.Value
public import Idealize.ShloMosaic.Lib.Routing.Shapes
public import Idealize.ShloMosaic.Lib.Pointwise

@[expose] public section

noncomputable section

namespace Cert.Slab

open Idealize.ShloMosaic

/-- The dimension numbers of picking slabs `[A, B]` of an `[N, A, B]` table by an `[n, 1]` column. -/
abbrev dims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the column holds slab number `b`, the picked slab is the table's slab `b`. -/
theorem pick {α : Type} {N A B n : Nat} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (y : Fin A) (z : Fin B) (b : Fin N)
    (hb : (idx (ix2 c (0 : Fin 1))).toInt = (b.val : Int)) :
    Host.gather (dims N A B n wf) x idx (ix3 c y z) = x (ix3 b y z) := by
  unfold Host.gather
  refine congrArg x (funext fun a => Fin.ext ?_)
  show (dims N A B n wf).start (ix3 c y z) idx a + (dims N A B n wf).batchCoord (ix3 c y z) a
      + (dims N A B n wf).offCoord (ix3 c y z) a = _
  rw [GatherDims.batchCoord_eq_zero _ _ _ List.not_mem_nil]
  match a with
  | ⟨0, _⟩ =>
    have ho : (dims N A B n wf).offCoord (ix3 c y z) 0 = 0 :=
      GatherDims.offCoord_eq_zero _ _ _ (fun h => ((GatherDims.mem_sKept _ _).mp h).1 (List.mem_singleton.mpr rfl))
    have hsi : (dims N A B n wf).siIdx (ix3 c y z) ⟨List.idxOf (0 : Fin 3) (dims N A B n wf).startIndexMap,
        List.idxOf_lt_length_iff.2 (List.mem_singleton.mpr rfl)⟩ = ix2 c (0 : Fin 1) := by
      funext b'
      refine Fin.ext ?_
      match b' with
      | ⟨0, _⟩ => rfl
      | ⟨1, _⟩ => rfl
    have hbl := b.isLt
    have hs : (dims N A B n wf).start (ix3 c y z) idx 0 = b.val := by
      unfold GatherDims.start
      rw [dif_pos (show (0 : Fin 3) ∈ (dims N A B n wf).startIndexMap from List.mem_singleton.mpr rfl), hsi, hb]
      show min b.val (N - 1) = b.val
      omega
    show (dims N A B n wf).start (ix3 c y z) idx 0 + 0 + (dims N A B n wf).offCoord (ix3 c y z) 0 = b.val
    rw [hs, ho]
    rfl
  | ⟨1, _⟩ =>
    have hm : (1 : Fin 3) ∉ (dims N A B n wf).startIndexMap := by show _ ∉ [(0 : Fin 3)]; decide
    have hs : (dims N A B n wf).start (ix3 c y z) idx 1 = 0 := by
      unfold GatherDims.start
      exact dif_neg hm
    show (dims N A B n wf).start (ix3 c y z) idx 1 + 0 + (dims N A B n wf).offCoord (ix3 c y z) 1 = y.val
    rw [hs, Nat.zero_add]
    rfl
  | ⟨2, _⟩ =>
    have hm : (2 : Fin 3) ∉ (dims N A B n wf).startIndexMap := by show _ ∉ [(0 : Fin 3)]; decide
    have hs : (dims N A B n wf).start (ix3 c y z) idx 2 = 0 := by
      unfold GatherDims.start
      exact dif_neg hm
    show (dims N A B n wf).start (ix3 c y z) idx 2 + 0 + (dims N A B n wf).offCoord (ix3 c y z) 2 = z.val
    rw [hs, Nat.zero_add]
    rfl

end Cert.Slab

end
-- ==== Proof.ExpertsReference.lean ====
/-
  What the experts' reference computes at a row and a column: the row's own expert's answer where its block is in use, zero elsewhere.
-/
module

public import proofs.«01_k».proof.Proof.Gen.Reference2Ideal.Read
public import proofs.«01_k».proof.Proof.ExpertsGather
public import proofs.«01_k».proof.Proof.ExpertsSwiglu
public import Idealize.ShloMosaic.Lib.Pipeline.ValueKit
public import Idealize.ShloMosaic.Lib.Pointwise
public import Idealize.ShloMosaic.Lib.WordCmp

@[expose] public section

set_option maxRecDepth 16384

noncomputable section

namespace Cert.Reference2Ideal.Rows

open Idealize.ShloMosaic Idealize.ShloMosaic.TcCoe Idealize.SL.Sem
open Cert.Reference2Ideal Cert.Reference2Ideal.Gen Cert.Reference2Ideal.Read Cert.Swiglu

variable (x0 : IVec S320 32) (x1 : IVec S1 32) (x2 : FVec Ideal S163840x1024 .f32) (x3 x4 : FVec Ideal S64x1024x1024 .bf16)
  (x5 x6 : FVec Ideal S64x1x1024 .f32) (x7 : FVec Ideal S64x1024x1024 .f32) (x8 : FVec Ideal S64x1x1024 .f32)

/-- A word below 64 is not negative as a signed number, and its signed number is its number. -/
theorem toInt_small (w : BitVec 32) (h : w.toNat < 64) : w.toInt = (w.toNat : Int) := by
  rw [BitVec.toInt_eq_toNat_cond]
  split <;> omega

/-- The column of experts' numbers the slabs are picked by. -/
theorem column (b : Fin 320) (e : Fin 64) (h : (x0 (ix1 b)).toNat = e.val) :
    (val_main_v6 (F := Ideal) x0 (ix2 b (0 : Fin 1))).toInt = (e.val : Int) := by
  have hlt := e.isLt
  have hs : IntOp.cmpi .slt (x0 (ix1 b)) 0#32 = 0#1 := by
    show BitVec.ofBool ((x0 (ix1 b)).slt 0#32) = 0#1
    rw [BitVec.slt_eq_decide, toInt_small _ (by omega), show (0#32 : BitVec 32).toInt = 0 from by decide, decide_eq_false (by omega)]
    rfl
  have hv : val_main_v6 (F := Ideal) x0 (ix2 b (0 : Fin 1)) = Scalar.select (IntOp.cmpi .slt (x0 (ix1 b)) 0#32) (IntOp.addi (x0 (ix1 b)) 64#32) (x0 (ix1 b)) := by
    pointwise [val_main_v6, val_main_v5, val_main_v4, val_main_v3, val_main_v2, val_main_v1, val_main_c, val_main_c_0]
  rw [hv, hs]
  show (x0 (ix1 b)).toInt = _
  rw [toInt_small _ (by omega), h]

variable (b : Fin 320) (e : Fin 64) (h : (x0 (ix1 b)).toNat = e.val)

include h in
/-- A picked matrix is the expert's. -/
theorem matrix {α : Type} (x : S64x1024x1024.Idx → α) (k f : Fin 1024) :
    Host.gather gather_S64x1024x1024_S320x1_S320x1024x1024_12_0_n_n_0_1_110241024 x (val_main_v6 (F := Ideal) x0) (ix3 b k f) = x (ix3 e k f) :=
  Cert.Slab.pick _ x _ b k f e (column x0 b e h)

include h in
/-- A picked bias is the expert's. -/
theorem bias {α : Type} (x : S64x1x1024.Idx → α) (k : Fin 1) (f : Fin 1024) :
    Host.gather gather_S64x1x1024_S320x1_S320x1x1024_12_0_n_n_0_1_111024 x (val_main_v6 (F := Ideal) x0) (ix3 b k f) = x (ix3 e k f) :=
  Cert.Slab.pick _ x _ b k f e (column x0 b e h)

/-- The blocks of rows. -/
theorem rows (t : Fin 512) (k : Fin 1024) (R : Fin 163840) (hR : R.val = b.val * 512 + t.val) :
    val_main_v0 (F := Ideal) x2 (ix3 b t k) = x2 (ix2 R k) := by
  rw [val_main_v0_apply]
  congr 1
  funext a
  refine Fin.ext ?_
  match a with
  | ⟨0, _⟩ => show ((b.val * 512 + t.val) * 1024 + k.val) / 1024 = R.val; omega
  | ⟨1, _⟩ => show ((b.val * 512 + t.val) * 1024 + k.val) % 1024 = k.val; omega

include h in
/-- The gate's affine map. -/
theorem gates (t : Fin 512) (f : Fin 1024) (R : Fin 163840) (hR : R.val = b.val * 512 + t.val) :
    val_main_v18 (F := Ideal) x0 x2 x3 x5 (ix3 b t f) = (∑ k, x2 (ix2 R k) * x3 (ix3 e k f)) + x5 (ix3 e (0 : Fin 1) f) := by
  have hm : ∀ k, val_main_v7 (F := Ideal) x0 x3 (ix3 b k f) = x3 (ix3 e k f) := fun k => matrix x0 b e h x3 k f
  have hb : ∀ k, val_main_v16 (F := Ideal) x0 x5 (ix3 b k f) = x5 (ix3 e k f) := fun k => bias x0 b e h x5 k f
  have hr : ∀ k, val_main_v0 (F := Ideal) x2 (ix3 b t k) = x2 (ix2 R k) := fun k => rows x2 b t k R hR
  pointwise [val_main_v18, val_main_v9, val_main_v8, val_main_v17]
  simp only [hm, hb, hr]

include h in
/-- The values' affine map. -/
theorem values (t : Fin 512) (f : Fin 1024) (R : Fin 163840) (hR : R.val = b.val * 512 + t.val) :
    val_main_v36 (F := Ideal) x0 x2 x4 x6 (ix3 b t f) = (∑ k, x2 (ix2 R k) * x4 (ix3 e k f)) + x6 (ix3 e (0 : Fin 1) f) := by
  have hm : ∀ k, val_main_v25 (F := Ideal) x0 x4 (ix3 b k f) = x4 (ix3 e k f) := fun k => matrix x0 b e h x4 k f
  have hb : ∀ k, val_main_v34 (F := Ideal) x0 x6 (ix3 b k f) = x6 (ix3 e k f) := fun k => bias x0 b e h x6 k f
  have hr : ∀ k, val_main_v0 (F := Ideal) x2 (ix3 b t k) = x2 (ix2 R k) := fun k => rows x2 b t k R hR
  pointwise [val_main_v36, val_main_v27, val_main_v26, val_main_v35]
  simp only [hm, hb, hr]

/-- The clamped gated unit of the two. -/
theorem units (i : S320x512x1024.Idx) :
    val_main_v51 (F := Ideal) x0 x2 x3 x4 x5 x6 i = unit (val_main_v18 (F := Ideal) x0 x2 x3 x5 i) (val_main_v36 (F := Ideal) x0 x2 x4 x6 i) := by
  rw [val_main_v51_apply, val_main_v48_apply, val_main_v50_apply, val_main_v47_apply, val_main_v45_apply, val_main_v43_apply, val_main_v42_apply,
    val_main_v41_apply, val_main_v38_apply, val_main_v39_apply, val_main_call0_v2_apply, val_main_v37_apply, val_main_v40_apply, val_main_v44_apply,
    val_main_v46_apply, val_main_v49_apply, val_main_call0_v1_apply, val_main_call0_v4_apply]
  rfl

include h in
/-- The expert's answer. -/
theorem answer (t : Fin 512) (d : Fin 1024) (R : Fin 163840) (hR : R.val = b.val * 512 + t.val) :
    val_main_v68 (F := Ideal) x0 x2 x3 x4 x5 x6 x7 x8 (ix3 b t d)
      = out (fun k => x2 (ix2 R k)) (fun k f => x3 (ix3 e k f)) (fun k f => x4 (ix3 e k f)) (fun f => x5 (ix3 e (0 : Fin 1) f))
          (fun f => x6 (ix3 e (0 : Fin 1) f)) (fun f d => x7 (ix3 e f d)) (fun d => x8 (ix3 e (0 : Fin 1) d)) d := by
  have hm : ∀ f, val_main_v58 (F := Ideal) x0 x7 (ix3 b f d) = x7 (ix3 e f d) := fun f => matrix x0 b e h x7 f d
  have hb : ∀ k, val_main_v66 (F := Ideal) x0 x8 (ix3 b k d) = x8 (ix3 e k d) := fun k => bias x0 b e h x8 k d
  have hu : ∀ f, val_main_v51 (F := Ideal) x0 x2 x3 x4 x5 x6 (ix3 b t f) = unit ((∑ k, x2 (ix2 R k) * x3 (ix3 e k f)) + x5 (ix3 e (0 : Fin 1) f))
      ((∑ k, x2 (ix2 R k) * x4 (ix3 e k f)) + x6 (ix3 e (0 : Fin 1) f)) := fun f => by
    rw [units, gates x0 x2 x3 x5 b e h t f R hR, values x0 x2 x4 x6 b e h t f R hR]
  unfold out
  pointwise [val_main_v68, val_main_v59, val_main_v67]
  simp only [hm, hb, hu]

/-- The place of a row and a column among the blocks. -/
theorem split (t : Fin 512) (d : Fin 1024) (R : Fin 163840) (hR : R.val = b.val * 512 + t.val) :
    idx_main_v75 (ix2 R d) = ix3 b t d := by
  funext a
  refine Fin.ext ?_
  match a with
  | ⟨0, _⟩ => show (R.val * 1024 + d.val) / 524288 = b.val; omega
  | ⟨1, _⟩ => show (R.val * 1024 + d.val) / 1024 % 512 = t.val; omega
  | ⟨2, _⟩ => show (R.val * 1024 + d.val) % 1024 = d.val; omega

/-- The mask of blocks in use. -/
theorem mask (z : S1.Idx) (h1 : 1 ≤ (x1 z).toNat) (h2 : (x1 z).toNat ≤ 320) (t : Fin 512) (d : Fin 1024) :
    val_main_call1_v1 (F := Ideal) x1 (ix3 b t d) = if b.val < (x1 z).toNat then 1#1 else 0#1 := by
  have hz : ∀ w : S1.Idx, w = z := fun w => by
    funext x
    obtain rfl : x = 0 := Subsingleton.elim _ _
    exact (Subsingleton.elim (α := Fin 1) (w 0) (z 0))
  rw [val_main_call1_v1_apply, val_main_v73_apply, val_main_v72_apply, val_main_v69_apply, val_main_v71_apply]
  have hv : ∀ i, val_main_v70 (F := Ideal) x1 i = x1 z := fun i => congrArg x1 (hz _)
  rw [hv]
  show BitVec.ofBool ((BitVec.ofNat 32 b.val).slt (x1 z)) = _
  have hb : b.val < 320 := b.isLt
  have hn : (x1 z).toInt = ((x1 z).toNat : Int) := by
    rw [BitVec.toInt_eq_toNat_cond]; split <;> omega
  rw [BitVec.slt_eq_decide, WordCmp.toInt_ofNat_of_lt (by omega), hn]
  by_cases hlt : b.val < (x1 z).toNat
  · rw [if_pos hlt, decide_eq_true (by omega)]; rfl
  · rw [if_neg hlt, decide_eq_false (by omega)]; rfl

include h in
/-- The reference at a row and a column. -/
theorem result (z : S1.Idx) (h1 : 1 ≤ (x1 z).toNat) (h2 : (x1 z).toNat ≤ 320) (t : Fin 512) (d : Fin 1024) (R : Fin 163840)
    (hR : R.val = b.val * 512 + t.val) :
    val_main_v75 (F := Ideal) x0 x1 x2 x3 x4 x5 x6 x7 x8 (ix2 R d)
      = if b.val < (x1 z).toNat then
          out (fun k => x2 (ix2 R k)) (fun k f => x3 (ix3 e k f)) (fun k f => x4 (ix3 e k f)) (fun f => x5 (ix3 e (0 : Fin 1) f))
            (fun f => x6 (ix3 e (0 : Fin 1) f)) (fun f d => x7 (ix3 e f d)) (fun d => x8 (ix3 e (0 : Fin 1) d)) d
        else Ideal.ofBits .f32 0x00000000#32 := by
  rw [val_main_v75_apply, split b t d R hR, val_main_v74_apply, mask x1 b z h1 h2 t d, val_main_call1_v2_apply]
  by_cases hlt : b.val < (x1 z).toNat
  · rw [if_pos hlt, if_pos hlt, answer x0 x2 x3 x4 x5 x6 x7 x8 b e h t d R hR]
    rfl
  · rw [if_neg hlt, if_neg hlt]
    rfl

end Cert.Reference2Ideal.Rows

end
-- ==== Proof.ExpertsArray.lean ====
/-
  What the result array of the experts' call holds after the run: the reference's answer, row by row.
-/
module

public import proofs.«01_k».proof.Proof.ExpertsFrame
public import proofs.«01_k».proof.Proof.ExpertsTables
public import proofs.«01_k».proof.Proof.ExpertsBlock
public import proofs.«01_k».proof.Proof.ExpertsReference
public import Idealize.ShloMosaic.Lib.Pipeline.ValueKit

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen Cert.Swiglu

attribute [local irreducible] tbl

variable (m : (ℓ : Loc nD τ sig) → Buf (Elt Ideal) ℓ) (hO : Ok m) (c : Dev nD)

/-- The block of rows of point `t`, read at a row and a column. -/
theorem read0 (g : Good (experts (tbl m)) (used (tbl m))) (t : Fin (cfgM m hO).N) (r : Fin 512) (k : Fin 1024) (R : Fin 163840)
    (h : R.val = min t.val ((used (tbl m)).toNat - 1) * 512 + r.val) :
    iblk m hO c 0 t (ix2 r k) = m ((c : Thread nD τ).loc main_arg2) (ix2 R k) := by
  refine Eq.trans ?_ (congrFun (V_arg2 m c) _)
  have e : ((cfgM m hO).win 0).index t = ![min t.val ((used (tbl m)).toNat - 1), 0] := by
    rw [← coord_val t]; exact rows_val (tbl m) (grid0.coords t) g.pos g.le
  generalize min t.val ((used (tbl m)).toNat - 1) = q at e h
  blk_ext [iblk, e]

/-- The gate's matrix of point `t`. -/
theorem read1 (t : Fin (cfgM m hO).N) (e : Fin 64) (h : (experts (tbl m) (place (grid0.coords t))).toNat = e.val) (k f : Fin 1024) :
    iblk m hO c 1 t (ix3 (0 : Fin 1) k f) = m ((c : Thread nD τ).loc main_arg3) (ix3 e k f) := by
  refine Eq.trans ?_ (congrFun (V_arg3 m c) _)
  have he : ((cfgM m hO).win 1).index t = ![e.val, 0, 0] := by
    rw [← h]; exact expert1_val (tbl m) (grid0.coords t)
  blk_ext [iblk, he]

/-- The linear half's matrix of point `t`. -/
theorem read2 (t : Fin (cfgM m hO).N) (e : Fin 64) (h : (experts (tbl m) (place (grid0.coords t))).toNat = e.val) (k f : Fin 1024) :
    iblk m hO c 2 t (ix3 (0 : Fin 1) k f) = m ((c : Thread nD τ).loc main_arg4) (ix3 e k f) := by
  refine Eq.trans ?_ (congrFun (V_arg4 m c) _)
  have he : ((cfgM m hO).win 2).index t = ![e.val, 0, 0] := by
    rw [← h]; exact expert1_val (tbl m) (grid0.coords t)
  blk_ext [iblk, he]

/-- The gate's bias of point `t`. -/
theorem read3 (t : Fin (cfgM m hO).N) (e : Fin 64) (h : (experts (tbl m) (place (grid0.coords t))).toNat = e.val) (f : Fin 1024) :
    iblk m hO c 3 t (ix3 (0 : Fin 1) (0 : Fin 1) f) = m ((c : Thread nD τ).loc main_arg5) (ix3 e (0 : Fin 1) f) := by
  refine Eq.trans ?_ (congrFun (V_arg5 m c) _)
  have he : ((cfgM m hO).win 3).index t = ![e.val, 0, 0] := by
    rw [← h]; exact expert3_val (tbl m) (grid0.coords t)
  blk_ext [iblk, he]

/-- The linear half's bias of point `t`. -/
theorem read4 (t : Fin (cfgM m hO).N) (e : Fin 64) (h : (experts (tbl m) (place (grid0.coords t))).toNat = e.val) (f : Fin 1024) :
    iblk m hO c 4 t (ix3 (0 : Fin 1) (0 : Fin 1) f) = m ((c : Thread nD τ).loc main_arg6) (ix3 e (0 : Fin 1) f) := by
  refine Eq.trans ?_ (congrFun (V_arg6 m c) _)
  have he : ((cfgM m hO).win 4).index t = ![e.val, 0, 0] := by
    rw [← h]; exact expert3_val (tbl m) (grid0.coords t)
  blk_ext [iblk, he]

/-- The down-projection of point `t`. -/
theorem read5 (t : Fin (cfgM m hO).N) (e : Fin 64) (h : (experts (tbl m) (place (grid0.coords t))).toNat = e.val) (f d : Fin 1024) :
    iblk m hO c 5 t (ix3 (0 : Fin 1) f d) = m ((c : Thread nD τ).loc main_arg7) (ix3 e f d) := by
  refine Eq.trans ?_ (congrFun (V_arg7 m c) _)
  have he : ((cfgM m hO).win 5).index t = ![e.val, 0, 0] := by
    rw [← h]; exact expert1_val (tbl m) (grid0.coords t)
  blk_ext [iblk, he]

/-- The down-projection's bias of point `t`. -/
theorem read6 (t : Fin (cfgM m hO).N) (e : Fin 64) (h : (experts (tbl m) (place (grid0.coords t))).toNat = e.val) (d : Fin 1024) :
    iblk m hO c 6 t (ix3 (0 : Fin 1) (0 : Fin 1) d) = m ((c : Thread nD τ).loc main_arg8) (ix3 e (0 : Fin 1) d) := by
  refine Eq.trans ?_ (congrFun (V_arg8 m c) _)
  have he : ((cfgM m hO).win 6).index t = ![e.val, 0, 0] := by
    rw [← h]; exact expert3_val (tbl m) (grid0.coords t)
  blk_ext [iblk, he]

/-- The result's block of point `t` is the `t`-th. -/
theorem index7 (t : Fin (cfgM m hO).N) : ((cfgM m hO).win 7).index t = ![t.val, 0] := by
  show cc0_transform_7 (grid0.coords t) = _
  have h := coord_val t
  have hl : t.val < 320 := lt_of_lt_of_eq t.isLt N_0
  unfold cc0_transform_7
  dsimp only
  rw [h, BitVec.toNat_ofNat, Nat.mod_eq_of_lt (by omega)]
  rfl

/-- Every point writes its block back. -/
theorem flush7 (t : Fin (cfgM m hO).N) : ((cfgM m hO).win 7).flush t = true :=
  (fun t => (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _)
    : ∀ t : Fin grid0.N, Pipeline.Window.flushOf grid0 true cc0_transform_7 t = true) t

/-- Every element of the result is in some point's block. -/
theorem cover7 (i : S163840x1024.Idx) : ∃ t : Fin (cfgM m hO).N, ((cfgM m hO).win 7).flush t = true ∧ i ∈ (((cfgM m hO).win 7).blk t).view.set := by
  have h0 : (i 0).val < 163840 := (i 0).isLt
  have h1 : (i 1).val < 1024 := (i 1).isLt
  refine ⟨⟨(i 0).val / 512, lt_of_lt_of_eq (by omega : (i 0).val / 512 < 320) N_0.symm⟩, flush7 m hO _, ?_⟩
  have e := index7 m hO ⟨(i 0).val / 512, lt_of_lt_of_eq (by omega : (i 0).val / 512 < 320) N_0.symm⟩
  refine (Pipeline.Window.emb_mem_blk_iff ((cfgM m hO).win 7) _ i rfl).mpr fun a => ?_
  rw [e]
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- The run's block at a row and a column is the reference's row. -/
theorem block_eq (g : Good (experts (tbl m)) (used (tbl m))) (z : S1.Idx)
    (hb : ∀ b, ((m (((0 : Dev nD) : Thread nD τ).loc main_arg0) : IVec S320 32) b).toNat < 64)
    (h1 : 1 ≤ ((m (((0 : Dev nD) : Thread nD τ).loc main_arg1) : IVec S1 32) z).toNat)
    (h2 : ((m (((0 : Dev nD) : Thread nD τ).loc main_arg1) : IVec S1 32) z).toNat ≤ 320)
    (t : Fin (cfgM m hO).N) (r : Fin 512) (d : Fin 1024) (R : Fin 163840) (hR : R.val = t.val * 512 + r.val) :
    outAt m hO (0 : Dev nD) t (ix2 r d)
      = Cert.Reference2Ideal.Read.val_main_v75 (F := Ideal) (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) (m (((0 : Dev nD) : Thread nD τ).loc main_arg4))
          (m (((0 : Dev nD) : Thread nD τ).loc main_arg5)) (m (((0 : Dev nD) : Thread nD τ).loc main_arg6)) (m (((0 : Dev nD) : Thread nD τ).loc main_arg7))
          (m (((0 : Dev nD) : Thread nD τ).loc main_arg8)) (ix2 R d) := by
  have hl : t.val < 320 := lt_of_lt_of_eq t.isLt N_0
  have hu := used_tbl m z
  have hc := cond2_iff (grid0.coords t) (used (tbl m)) g.le
  have ht := coord_val t
  rw [Cert.Reference2Ideal.Rows.result _ _ _ _ _ _ _ _ _ ⟨t.val, hl⟩
    ⟨((m (((0 : Dev nD) : Thread nD τ).loc main_arg0) : IVec S320 32) (ix1 (⟨t.val, hl⟩ : Fin 320))).toNat, hb _⟩ rfl z h1 h2 r d R hR]
  unfold outAt
  by_cases hlt : t.val < ((m (((0 : Dev nD) : Thread nD τ).loc main_arg1) : IVec S1 32) z).toNat
  · have hlt' : t.val < (used (tbl m)).toNat := by rw [hu]; exact hlt
    rw [if_pos (hc.mpr (by rw [ht]; exact hlt')), if_pos hlt]
    unfold keptAt
    refine (block_val _ _ _ _ _ _ _ r d).trans ?_
    have hx : (experts (tbl m) (place (grid0.coords t))).toNat
        = ((m (((0 : Dev nD) : Thread nD τ).loc main_arg0) : IVec S320 32) (ix1 (⟨t.val, hl⟩ : Fin 320))).toNat :=
      congrArg BitVec.toNat (experts_tbl m z h1 h2 (place (grid0.coords t)) (ix1 (⟨t.val, hl⟩ : Fin 320)) (by
        show t.val = min (grid0.coords t 0).val _
        rw [ht]; omega))
    have hR' : R.val = min t.val ((used (tbl m)).toNat - 1) * 512 + r.val := by
      rw [Nat.min_eq_left (by omega)]; exact hR
    simp only [read0 m hO (0 : Dev nD) g t r _ R hR', read1 m hO (0 : Dev nD) t ⟨_, hb _⟩ hx, read2 m hO (0 : Dev nD) t ⟨_, hb _⟩ hx,
      read3 m hO (0 : Dev nD) t ⟨_, hb _⟩ hx, read4 m hO (0 : Dev nD) t ⟨_, hb _⟩ hx, read5 m hO (0 : Dev nD) t ⟨_, hb _⟩ hx,
      read6 m hO (0 : Dev nD) t ⟨_, hb _⟩ hx]
  · have hlt' : ¬ t.val < (used (tbl m)).toNat := by rw [hu]; exact hlt
    rw [if_neg (fun h => hlt' (by rw [← ht]; exact hc.mp h)), if_neg hlt, zero_val]

/-- After the run the result array holds the reference's answer. -/
theorem array_eq (g : Good (experts (tbl m)) (used (tbl m))) (z : S1.Idx)
    (hb : ∀ b, ((m (((0 : Dev nD) : Thread nD τ).loc main_arg0) : IVec S320 32) b).toNat < 64)
    (h1 : 1 ≤ ((m (((0 : Dev nD) : Thread nD τ).loc main_arg1) : IVec S1 32) z).toNat)
    (h2 : ((m (((0 : Dev nD) : Thread nD τ).loc main_arg1) : IVec S1 32) z).toNat ≤ 320) :
    (dats m hO 0 (0 : Dev nD)).arrAt 7 (cfgM m hO).N
      = Cert.Reference2Ideal.Read.val_main_v75 (F := Ideal) (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) (m (((0 : Dev nD) : Thread nD τ).loc main_arg4))
          (m (((0 : Dev nD) : Thread nD τ).loc main_arg5)) (m (((0 : Dev nD) : Thread nD τ).loc main_arg6)) (m (((0 : Dev nD) : Thread nD τ).loc main_arg7))
          (m (((0 : Dev nD) : Thread nD τ).loc main_arg8)) := by
  refine (dats m hO 0 (0 : Dev nD)).arrAt_eq_of_emb 7 _ (fun t hf (y : S512x1024.Idx) => ?_) (cover7 m hO)
  have e := index7 m hO t
  have hl : t.val < 320 := lt_of_lt_of_eq t.isLt N_0
  have hy0 : (y 0).val < 512 := (y 0).isLt
  have hy : (y : S512x1024.Idx) = ix2 (y 0) (y 1) := by
    funext a
    match a with
    | ⟨0, _⟩ => rfl
    | ⟨1, _⟩ => rfl
  have hi : (((cfgM m hO).win 7).blk t).view.emb y = ix2 (⟨t.val * 512 + (y 0).val, by omega⟩ : Fin 163840) (y 1) := by
    funext a; apply Fin.ext
    refine (Rect.emb_apply (((cfgM m hO).win 7).rect t) y a).trans ?_
    show ((cfgM m hO).win 7).kind.off (((cfgM m hO).win 7).index t a) (((cfgM m hO).win 7).size a) + 1 * (y a).val = _
    rw [e]
    match a with
    | ⟨0, _⟩ => show t.val * 512 + 1 * (y 0).val = t.val * 512 + (y 0).val; omega
    | ⟨1, _⟩ => show 0 * 1024 + 1 * (y 1).val = (y 1).val; omega
  rw [hi, after7]
  exact (congrArg (outAt m hO (0 : Dev nD) t) hy).trans (block_eq m hO g z hb h1 h2 t (y 0) (y 1) _ rfl)

/-- Every execution of the call ends with its result array as the pipeline leaves it and its arguments unchanged. -/
theorem run_result (ρ : Dev nD → PrngReg) (g : Good (experts (tbl m)) (used (tbl m))) :
    θ_run defs (onTc (τ := τ) (main (F := Ideal))) ⟨m, fun _ => 0, ρ⟩ (fun r => ∀ c : Dev nD,
      r.2.mem ((c.tc : Thread nD τ).loc main_v12) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  have hr := (θ_run defs _ _).mono (fun _ h => h.1) (run_main m ρ hO g)
  have hf := (θ_run defs _ _).mono (fun _ h => h.1) (frame m ρ g)
  (θ_run defs _ _).mono (fun r h c => ⟨(h.1 c).1 7, h.2 c⟩) (θ_run_and hr hf)

end Cert.Kernel2Ideal.Experts

end
-- ==== Proof.LatentRange.lean ====
/-
  The experts' precondition read back: every entry of the table of experts names one of the 64 experts, and between one and all 288 blocks are in use.
  (Of the second layer, whose rows are the latent ones only: 288 blocks.)
-/
module

public import proofs.«01_k».proof.Defs
public import Idealize.ShloMosaic.Lib.ReduceAll
public import Idealize.ShloMosaic.Lib.Affine
public import Idealize.ShloMosaic.Lib.Decide

@[expose] public section

noncomputable section

namespace Cert.LatentRange

open Idealize.ShloMosaic Cert.Pre_latent_experts_in_range

/-- The side conditions of the precondition's operations. -/
instance facts : Cert.Pre_latent_experts_in_range.Facts where
  bcast_S_S288 := by decide
  reducesTo_S288_S_d0 := by decide
  h_S_ := by decide
  shapeCasts_S1_S_ := by decide

instance : Subsingleton S_.Idx := ⟨fun a b => funext fun i => i.elim0⟩

/-- A truth value that is true as a word is true. -/
theorem bool_of_word (b : Bool) (h : BitVec.ofBool b = 1#1) : b = true := by
  cases b
  · exact absurd h (by decide)
  · rfl

/-- A word at least zero and below 64 as a signed number is below 64. -/
theorem lt_of_signed (x : BitVec 32) (h0 : (0#32).sle x = true) (h1 : x.slt 64#32 = true) : x.toNat < 64 := by
  rw [BitVec.sle_eq_decide, decide_eq_true_iff] at h0
  rw [BitVec.slt_eq_decide, decide_eq_true_iff] at h1
  have e0 : (0#32 : BitVec 32).toInt = 0 := by decide
  have e1 : (64#32 : BitVec 32).toInt = 64 := by decide
  rw [e0] at h0; rw [e1] at h1
  rw [BitVec.toInt_eq_toNat_cond] at h0 h1
  have := x.isLt
  split at h0 <;> omega

/-- A word between 1 and 288 as a signed number is between them. -/
theorem between_of_signed (x : BitVec 32) (h0 : (1#32).sle x = true) (h1 : x.sle 288#32 = true) : 1 ≤ x.toNat ∧ x.toNat ≤ 288 := by
  rw [BitVec.sle_eq_decide, decide_eq_true_iff] at h0 h1
  have e0 : (1#32 : BitVec 32).toInt = 1 := by decide
  have e1 : (288#32 : BitVec 32).toInt = 288 := by decide
  rw [e0] at h0; rw [e1] at h1
  rw [BitVec.toInt_eq_toNat_cond] at h0 h1
  have := x.isLt
  split at h0 <;> omega

variable {F : FTy → Type} [FloatOps F]

/-- The precondition says that every entry of the table is below 64 and the number of blocks in use between 1 and 288. -/
theorem ranges (be : IVec S288 32) (nu : IVec S1 32) (a2 : FVec F S147456x1024 .f32) (a3 a4 : FVec F S64x1024x1024 .bf16)
    (a5 a6 : FVec F S64x1x1024 .f32) (a7 : FVec F S64x1024x1024 .f32) (a8 : FVec F S64x1x1024 .f32)
    (h : fn be nu a2 a3 a4 a5 a6 a7 a8 (Shape.Idx.first Facts.h_S_) = 1#1) :
    (∀ b, (be b).toNat < 64) ∧ ∀ z, 1 ≤ (nu z).toNat ∧ (nu z).toNat ≤ 288 := by
  unfold fn at h
  obtain ⟨h12, h3⟩ := IntOp.andi_eq_one.1 h
  obtain ⟨h1, h2⟩ := IntOp.andi_eq_one.1 h12
  refine ⟨fun b => ?_, fun z => ?_⟩
  · obtain ⟨ha, hb⟩ := IntOp.andi_eq_one.1 (Host.reduce_andi_all _ _ _ _ _ h1 b)
    exact lt_of_signed (be b) (bool_of_word _ ha) (bool_of_word _ hb)
  · have e : ∀ w : S1.Idx, w = z := fun w => by
      funext x
      obtain rfl : x = 0 := Subsingleton.elim _ _
      exact (Subsingleton.elim (α := Fin 1) (w 0) (z 0))
    have h2' := bool_of_word _ h2
    have h3' := bool_of_word _ h3
    have k2 : (1#32).sle (nu z) = true := (congrArg (fun w => (1#32 : BitVec 32).sle w) (congrArg nu (e _))).symm.trans h2'
    have k3 : (nu z).sle 288#32 = true := (congrArg (fun w => BitVec.sle w (288#32 : BitVec 32)) (congrArg nu (e _))).symm.trans h3'
    exact between_of_signed _ k2 k3

end Cert.LatentRange

end
-- ==== Proof.LatentRun.lean ====
/-
  One grid point of the experts' kernel: what the body does on its staging buffers, the two prefetched tables and the down-projection it keeps between points, in each of the four ways its branches can go.
  (Of the second layer, whose rows are the latent ones only: 288 blocks.)
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The table of experts, one entry per block of rows, as the body is handed it. -/
abbrev expertsTab : Memref sig .tc .smem S288 .i32 := Memref.whole main_v11
/-- The number of blocks in use, as the body is handed it. -/
abbrev usedTab : Memref sig .tc .smem S1 .i32 := Memref.whole main_arg1
/-- The buffer the body keeps the rounded down-projection in between points. -/
abbrev kept : Memref sig .tc .vmem S1024x1024 .bf16 := Memref.whole cc0_scratch0

/-- What a table's buffer holds on core `c`, and half of it held at contents `f`. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The number of blocks in use, as the body reads it. -/
abbrev usedWord (c : Dev nD) (T1 : TabBuf (F := F) c usedTab) : BitVec 32 :=
  View.readAt (Elt F) usedTab.view (Rect.unit (s := S1) ![0] S1.size inb_S1_S1_0).toLoadRect T1 (Shape.Idx.first (numel1_S1.symm ▸ Nat.one_pos))
/-- The expert of the point and of the point before it, as the body reads them. -/
abbrev thisWord (c : Dev nD) (i : grid0.Coords) (T0 : TabBuf (F := F) c expertsTab) (n : BitVec 32) (hn : k0_chk1 i n) : BitVec 32 :=
  View.readAt (Elt F) expertsTab.view (Rect.unit (s := S288) (k0_off2 i n) S1.size (k0_off2_inb i n hn)).toLoadRect T0 (Shape.Idx.first (numel1_S1.symm ▸ Nat.one_pos))
abbrev lastWord (c : Dev nD) (i : grid0.Coords) (T0 : TabBuf (F := F) c expertsTab) (n : BitVec 32) (hn : k0_chk1 i n) : BitVec 32 :=
  View.readAt (Elt F) expertsTab.view (Rect.unit (s := S288) (k0_off3 i n) S1.size (k0_off3_inb i n hn)).toLoadRect T0 (Shape.Idx.first (numel1_S1.symm ▸ Nat.one_pos))

/-- The body's first branch: the first point, or a point whose expert is not the one of the point before it. -/
abbrev changed (i : grid0.Coords) (e e' : BitVec 32) : Prop :=
  (Scalar.cmpi .ne (Scalar.extui (Scalar.ori (Scalar.cmpi .eq (BitVec.ofNat 32 (i 0).val) 0#32) (Scalar.cmpi .ne e e'))) 0#32) = 1#1

/-- A load of a whole buffer's own sizes reads what the buffer holds. -/
theorem load_whole {κ : Kind} {sp : Space} {s : Shape} {e : EltTy} {M : Memref sig κ sp s e} (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full M.view _ inb).trans (h.read_unread x)

/-- The output block of equal operands. -/
theorem out_congr {x0 y0 : Vec F S512x1024 .f32} {x1 y1 x2 y2 : Vec F S1x1024x1024 .bf16} {x3 y3 x4 y4 : Vec F S1x1x1024 .f32}
    {s s' : Vec F S1024x1024 .bf16} {x6 y6 : Vec F S1x1x1024 .f32} (e0 : x0 = y0) (e1 : x1 = y1) (e3 : x3 = y3) (e2 : x2 = y2) (e4 : x4 = y4)
    (es : s = s') (e6 : x6 = y6) : k0_pay2 (k0_pay4 x0 x1 x3 x2 x4 s) x6 = k0_pay2 (k0_pay4 y0 y1 y3 y2 y4 s') y6 := by
  subst e0 e1 e2 e3 e4 es e6; rfl

set_option maxHeartbeats 4000000 in
/-- A point of a new expert, in use: the down-projection is rounded and kept, and the result block is the expert's output on the point's rows. -/
theorem run_new_used (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (hn : k0_chk1 i (usedWord c T1))
    (h1 : (changed i (thisWord c i T0 (usedWord c T1) hn) (lastWord c i T0 (usedWord c T1) hn)))
    (h2 : (k0_cond2 i (usedWord c T1) = 1#1)) (h3 : ¬(k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) kept fullShare d) ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay2 (k0_pay4 x0 x1 x3 x2 x4 (k0_pay1 x5)) x6) ∗ owns (c : Thread nD τ) kept fullShare (k0_pay1 x5) ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    sl_unfold_words
    rw [View.read_writes_full]
    exact out_congr (load_whole harg3 x0 _) (load_whole harg4 x1 _) (load_whole harg6 x3 _) (load_whole harg5 x2 _) (load_whole harg7 x4 _)
      ((View.readCov_full _ _ _ _ _).trans (congrArg k0_pay1 (load_whole harg8 x5 _))) (load_whole harg9 x6 _)
  isplitl [HS]
  · iexists _; isplitr; swap; · iexact HS
    ipureintro
    sl_unfold_words
    rw [View.read_writes_full]
    exact congrArg k0_pay1 (load_whole harg8 x5 _)
  isplitl [HT0]; · iexact HT0
  iexact HT1

set_option maxHeartbeats 4000000 in
/-- A point of the same expert as the one before, in use: the down-projection kept is used as it stands. -/
theorem run_same_used (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (s : Vec F S1024x1024 .bf16) (hn : k0_chk1 i (usedWord c T1))
    (h1 : ¬(changed i (thisWord c i T0 (usedWord c T1) hn) (lastWord c i T0 (usedWord c T1) hn)))
    (h2 : (k0_cond2 i (usedWord c T1) = 1#1)) (h3 : ¬(k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) kept fullShare s ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay2 (k0_pay4 x0 x1 x3 x2 x4 s) x6) ∗ owns (c : Thread nD τ) kept fullShare s ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  obtain rfl := hkept.eq_unread hfs
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    sl_unfold_words
    rw [View.read_writes_full]
    exact out_congr (load_whole harg3 x0 _) (load_whole harg4 x1 _) (load_whole harg6 x3 _) (load_whole harg5 x2 _) (load_whole harg7 x4 _)
      (load_whole hkept s _) (load_whole harg9 x6 _)
  isplitl [HS]
  · iexists _; isplitr; swap; · iexact HS
    ipureintro
    exact hkept.read_unread _
  isplitl [HT0]; · iexact HT0
  iexact HT1

set_option maxHeartbeats 4000000 in
/-- A point of a new expert, not in use: the down-projection is rounded and kept, the result block is zero. -/
theorem run_new_unused (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (hn : k0_chk1 i (usedWord c T1))
    (h1 : (changed i (thisWord c i T0 (usedWord c T1) hn) (lastWord c i T0 (usedWord c T1) hn)))
    (h2 : ¬(k0_cond2 i (usedWord c T1) = 1#1)) (h3 : (k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) kept fullShare d) ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay3 (F := F)) ∗ owns (c : Thread nD τ) kept fullShare (k0_pay1 x5) ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact View.read_writes_full _ _ _ _ _
  isplitl [HS]
  · iexists _; isplitr; swap; · iexact HS
    ipureintro
    sl_unfold_words
    rw [View.read_writes_full]
    exact congrArg k0_pay1 (load_whole harg8 x5 _)
  isplitl [HT0]; · iexact HT0
  iexact HT1

set_option maxHeartbeats 4000000 in
/-- A point of the same expert as the one before, not in use: the result block is zero. -/
theorem run_same_unused (c : Dev nD) (i : grid0.Coords)
    (arg3 : Memref sig .tc .vmem S512x1024 .f32) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32) (harg8 : arg8.IsWhole)
    (arg9 : Memref sig .tc .vmem S1x1x1024 .f32) (harg9 : arg9.IsWhole) (arg10 : Memref sig .tc .vmem S512x1024 .f32) (harg10 : arg10.IsWhole)
    (T0 : TabBuf (F := F) c expertsTab) (T1 : TabBuf (F := F) c usedTab)
    (x0 : Vec F S512x1024 .f32) (x1 x2 : Vec F S1x1024x1024 .bf16) (x3 x4 : Vec F S1x1x1024 .f32) (x5 : Vec F S1x1024x1024 .f32) (x6 : Vec F S1x1x1024 .f32)
    (s : Vec F S1024x1024 .bf16) (hn : k0_chk1 i (usedWord c T1))
    (h1 : ¬(changed i (thisWord c i T0 (usedWord c T1) hn) (lastWord c i T0 (usedWord c T1) hn)))
    (h2 : ¬(k0_cond2 i (usedWord c T1) = 1#1)) (h3 : (k0_cond3 i (usedWord c T1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) kept fullShare s ∗ tabPt c expertsTab T0 ∗ tabPt c usedTab T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k0_pay3 (F := F)) ∗ owns (c : Thread nD τ) kept fullShare s ∗ tabPt c expertsTab T0 ∗ tabPt c usedTab T1) -∗ K ⟨⟩))
      ⊢ wp frame (wpE (defs₀ (F := F)) Variants.none c none) E
          (cc0_moe_experts i expertsTab (Memref.isWhole_whole _) usedTab (Memref.isWhole_whole _) arg3 harg3 arg4 harg4 arg5 harg5 arg6 harg6 arg7 harg7 arg8 harg8 arg9 harg9 arg10 harg10 kept (Memref.isWhole_whole _)) K := by
  have hkept : kept.IsWhole := Memref.isWhole_whole _
  have htab0 : expertsTab.IsWhole := Memref.isWhole_whole _
  have htab1 : usedTab.IsWhole := Memref.isWhole_whole _
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  obtain rfl := hkept.eq_unread hfs
  sl_exec! (disch := first | (guard_target = k0_chk1 _ _; exact hn) | (guard_target = Scalar.cmpi .. = _; exact h1) | (guard_target = ¬(Scalar.cmpi .. = _); exact h1) | (guard_target = k0_cond2 _ _ = _; exact h2) | (guard_target = ¬(k0_cond2 _ _ = _); exact h2) | (guard_target = k0_cond3 _ _ = _; exact h3) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact View.read_writes_full _ _ _ _ _
  isplitl [HS]
  · iexists _; isplitr; swap; · iexact HS
    ipureintro
    exact hkept.read_unread _
  isplitl [HT0]; · iexact HT0
  iexact HT1

end Cert.Kernel3Ideal.Experts

end
-- ==== Proof.LatentWords.lean ====
/-
  The words of the experts' two prefetched tables: the kernel's index arithmetic over them, and what follows of the two tables for its checks, its branches and its blocks.
  (Of the second layer, whose rows are the latent ones only: 288 blocks.)
-/
module

public import proofs.«01_k».proof.Proof.LatentRun

@[expose] public section

set_option maxRecDepth 16384

noncomputable section

namespace Cert.Kernel3Ideal.Experts

open Idealize.ShloMosaic Idealize.ShloMosaic.TcCoe
open Cert.Kernel3Ideal Cert.Kernel3Ideal.Gen

/-- What the proof takes of the two tables: between one and all 288 blocks are in use, every entry names one of the 64 experts,
    and the entries from the last block in use on are all that block's. -/
structure Good (T : S288.Idx → BitVec 32) (n : BitVec 32) : Prop where
  pos : 1 ≤ n.toNat
  le : n.toNat ≤ 288
  expert : ∀ b, (T b).toNat < 64
  clamp : ∀ b b' : S288.Idx, (b' 0).val = min (b 0).val (n.toNat - 1) → T b' = T b

/-- A word is the word of its number. -/
theorem word_eq (n : BitVec 32) : n = BitVec.ofNat 32 n.toNat := by simp

/-- The smaller of a small index and a small positive count less one. -/
theorem min_word (k : ℕ) (n : BitVec 32) (hk : k < 288) (h1 : 1 ≤ n.toNat) (h2 : n.toNat ≤ 288) :
    (Scalar.minsi (BitVec.ofNat 32 k) (Scalar.subi n 1#32)).toNat = min k (n.toNat - 1) := by
  have e : Scalar.subi n 1#32 = BitVec.ofNat 32 (n.toNat - 1) := by
    apply BitVec.eq_of_toNat_eq
    show (n - 1#32).toNat = _
    simp only [BitVec.toNat_sub, BitVec.toNat_ofNat]; omega
  rw [e]
  show (if (BitVec.ofNat 32 k).slt (BitVec.ofNat 32 (n.toNat - 1)) then BitVec.ofNat 32 k else BitVec.ofNat 32 (n.toNat - 1)).toNat = _
  have hs : (BitVec.ofNat 32 k).slt (BitVec.ofNat 32 (n.toNat - 1)) = decide (k < n.toNat - 1) := by
    rw [BitVec.slt_eq_decide, WordCmp.toInt_ofNat_of_lt (by omega), WordCmp.toInt_ofNat_of_lt (by omega)]
    simp
  rw [hs]
  by_cases h : k < n.toNat - 1
  · rw [if_pos (by simpa using h), WordCmp.toNat_ofNat_of_lt (by omega)]; omega
  · rw [if_neg (by simpa using h), WordCmp.toNat_ofNat_of_lt (by omega)]; omega

/-- The index less one, or zero. -/
theorem pred_word (k : ℕ) (hk : k < 288) :
    Scalar.maxsi (Scalar.subi (BitVec.ofNat 32 k) 1#32) 0#32 = BitVec.ofNat 32 (k - 1) := by
  rcases Nat.eq_zero_or_pos k with rfl | h
  · rfl
  · have e : Scalar.subi (BitVec.ofNat 32 k) 1#32 = BitVec.ofNat 32 (k - 1) := by
      apply BitVec.eq_of_toNat_eq
      show (BitVec.ofNat 32 k - 1#32).toNat = _
      simp only [BitVec.toNat_sub, BitVec.toNat_ofNat]; omega
    rw [e]
    show (if (0#32).slt (BitVec.ofNat 32 (k - 1)) then BitVec.ofNat 32 (k - 1) else 0#32) = _
    have hs : (0#32).slt (BitVec.ofNat 32 (k - 1)) = decide (0 < k - 1) := by
      rw [BitVec.slt_eq_decide, WordCmp.toInt_ofNat_of_lt (a := 0) (by omega), WordCmp.toInt_ofNat_of_lt (a := k - 1) (by omega)]
      simp
    rw [hs]
    by_cases h' : 0 < k - 1
    · rw [if_pos (by simpa using h')]
    · rw [if_neg (by simpa using h'), show k - 1 = 0 by omega]

/-- Where the body reads the point's expert, and the expert of the point before. -/
theorem off2_val (i : grid0.Coords) (n : BitVec 32) (h1 : 1 ≤ n.toNat) (h2 : n.toNat ≤ 288) (a : Fin 1) :
    k0_off2 i n a = min (i 0).val (n.toNat - 1) := by
  have hi : (i 0).val < 288 := (i 0).isLt
  obtain rfl : a = 0 := Subsingleton.elim _ _
  exact min_word _ n hi h1 h2

theorem off3_val (i : grid0.Coords) (n : BitVec 32) (h1 : 1 ≤ n.toNat) (h2 : n.toNat ≤ 288) (a : Fin 1) :
    k0_off3 i n a = min ((i 0).val - 1) (n.toNat - 1) := by
  have hi : (i 0).val < 288 := (i 0).isLt
  obtain rfl : a = 0 := Subsingleton.elim _ _
  show (Scalar.minsi (Scalar.maxsi (Scalar.subi (BitVec.ofNat 32 (i 0).val) 1#32) 0#32) (Scalar.subi n 1#32)).toNat = _
  rw [pred_word _ hi]
  exact min_word _ n (by omega) h1 h2

/-- Both places are in the table. -/
theorem chk (i : grid0.Coords) (n : BitVec 32) (h1 : 1 ≤ n.toNat) (h2 : n.toNat ≤ 288) : k0_chk1 i n := by
  have hi : (i 0).val < 288 := (i 0).isLt
  unfold k0_chk1
  refine ⟨fun a => ?_, fun a => ?_⟩
  · rw [off2_val i n h1 h2 a]
    obtain rfl : a = 0 := Subsingleton.elim _ _
    show min (i 0).val (n.toNat - 1) + 1 ≤ 288; omega
  · rw [off3_val i n h1 h2 a]
    obtain rfl : a = 0 := Subsingleton.elim _ _
    show min ((i 0).val - 1) (n.toNat - 1) + 1 ≤ 288; omega

/-- The second branch is taken at the blocks in use, the third at the others. -/
theorem cond2_iff (i : grid0.Coords) (n : BitVec 32) (h2 : n.toNat ≤ 288) : k0_cond2 i n = 1#1 ↔ (i 0).val < n.toNat := by
  have hi : (i 0).val < 288 := (i 0).isLt
  rw [word_eq n]
  generalize n.toNat = k at h2 ⊢
  unfold k0_cond2
  simp only [WordCmp.toNat_ofNat_of_lt (show k < 2 ^ 32 by omega)]
  simp (disch := omega) only [hlo_ix]

theorem cond3_iff (i : grid0.Coords) (n : BitVec 32) (h2 : n.toNat ≤ 288) : k0_cond3 i n = 1#1 ↔ ¬(i 0).val < n.toNat := by
  have hi : (i 0).val < 288 := (i 0).isLt
  rw [word_eq n]
  generalize n.toNat = k at h2 ⊢
  unfold k0_cond3
  simp only [WordCmp.toNat_ofNat_of_lt (show k < 2 ^ 32 by omega)]
  simp (disch := omega) only [hlo_ix]
  omega

/-- Where the first branch is not taken, the point is not the first and its expert is the last point's. -/
theorem of_not_changed (i : grid0.Coords) (e e' : BitVec 32) (h : ¬changed i e e') : (i 0).val ≠ 0 ∧ e = e' := by
  have hi : (i 0).val < 288 := (i 0).isLt
  unfold changed at h
  rw [WordCmp.scalar_cmpi_eq, WordCmp.scalar_cmpi_eq, WordCmp.scalar_cmpi_eq] at h
  by_contra hn
  apply h
  by_cases h0 : (i 0).val = 0
  · rw [h0]
    have : IntOp.cmpi .eq (BitVec.ofNat 32 0) 0#32 = 1#1 := by decide
    rw [this]
    rcases (by decide : ∀ x : BitVec 1, x = 0#1 ∨ x = 1#1) (IntOp.cmpi .ne e e') with hx | hx <;> rw [hx] <;> decide
  · have hne : e ≠ e' := fun he => hn ⟨h0, he⟩
    have : IntOp.cmpi .ne e e' = 1#1 := by rw [WordCmp.cmpi_ne_eq]; simp [hne]
    rw [this]
    rcases (by decide : ∀ x : BitVec 1, x = 0#1 ∨ x = 1#1) (IntOp.cmpi .eq (BitVec.ofNat 32 (i 0).val) 0#32) with hx | hx <;> rw [hx] <;> decide

end Cert.Kernel3Ideal.Experts

end
-- ==== Proof.LatentKit.lean ====
/-
  The launch of the experts' call: what the host operations before it leave in memory, the two prefetched tables read off it, the windows' blocks, and what the tables must satisfy for the call to run.
  (Of the second layer, whose rows are the latent ones only: 288 blocks.)
-/
module

public import proofs.«01_k».proof.Proof.LatentWords
public import Idealize.ShloMosaic.Lib.Pipeline.Kit

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of core `c` holds when the call starts: the launch memory after the host operations. -/
abbrev V (c : Dev nD) (b : Ref sig .tc) : Buf (Elt F) ((c : Thread nD τ).loc b) := StableHlo.after hostOps0 (fun b => m (c, b)) b

/-- No host operation needs fresh memory. -/
theorem hostOps0_fresh : (hostOps0 : List (HloOp τ sig (Elt F))).Forall fun op => op.fresh = ∅ := by
  simp only [List.Forall]; repeat' constructor

set_option maxHeartbeats 800000 in
/-- The program up to the call: its host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations do not write argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 7. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host operations do not write argument 8. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The two tables' contents when the call starts, on the one device; on every device they are these. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The one place of a table of one entry. -/
theorem place1_eq (a b : S1.Idx) : a = b := by
  funext x
  obtain rfl : x = 0 := Subsingleton.elim _ _
  exact (Subsingleton.elim (α := Fin 1) (a 0) (b 0))

/-- The table of experts and the number of blocks in use. -/
abbrev experts (pf : pre0.Contents (Elt F)) : S288.Idx → BitVec 32 := pf 0
abbrev usedTable (pf : pre0.Contents (Elt F)) : S1.Idx → BitVec 32 := pf 1
abbrev used (pf : pre0.Contents (Elt F)) : BitVec 32 := usedTable pf (fun _ => ⟨0, by simp [S1]⟩)

/-- The call's side condition of the tables: every window's block lies in its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables the body is lent, one by one. -/
theorem lent_eq (c : Dev nD) : (Pipeline.ΦT pre0 (tbl m) c : sProp 𝕄) = iprop(tabPt c expertsTab (tbl m 0) ∗ tabPt c usedTab (tbl m 1)) := by
  unfold Pipeline.ΦT Pipeline.prefHeld
  rw [show (Finset.univ : Finset (Fin 2)) = insert (0 : Fin 2) {(1 : Fin 2)} from by decide, bigSep_insert (by decide), bigSep_singleton]
  rfl

/-- What the body owns beside its windows: the kept buffer at anything and the generator's register. -/
theorem rest_eq (c : Dev nD) :
    (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point. -/
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point. -/
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run whose arrays start as the call finds them leaves every argument as it was. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats 0 c).arrAt_in 0 rfl _).trans ((hA c 0).trans (V_arg2 m c))),
      ((h c).1 1).trans (((dats 0 c).arrAt_in 1 rfl _).trans ((hA c 1).trans (V_arg3 m c))),
      ((h c).1 2).trans (((dats 0 c).arrAt_in 2 rfl _).trans ((hA c 2).trans (V_arg4 m c))),
      ((h c).1 3).trans (((dats 0 c).arrAt_in 3 rfl _).trans ((hA c 3).trans (V_arg5 m c))),
      ((h c).1 4).trans (((dats 0 c).arrAt_in 4 rfl _).trans ((hA c 4).trans (V_arg6 m c))),
      ((h c).1 5).trans (((dats 0 c).arrAt_in 5 rfl _).trans ((hA c 5).trans (V_arg7 m c))),
      ((h c).1 6).trans (((dats 0 c).arrAt_in 6 rfl _).trans ((hA c 6).trans (V_arg8 m c)))⟩) h

theorem live0 (hO : Ok m) : ∀ t : Fin (cfgM m hO).N, (cfgM m hO).idle 0 (grid0.coords t) = false := fun _ => rfl
theorem live1 (hO : Ok m) : ∀ t : Fin (cfgM m hO).N, (cfgM m hO).idle 1 (grid0.coords t) = false := fun _ => rfl
theorem live2 (hO : Ok m) : ∀ t : Fin (cfgM m hO).N, (cfgM m hO).idle 2 (grid0.coords t) = false := fun _ => rfl
theorem live3 (hO : Ok m) : ∀ t : Fin (cfgM m hO).N, (cfgM m hO).idle 3 (grid0.coords t) = false := fun _ => rfl
theorem live4 (hO : Ok m) : ∀ t : Fin (cfgM m hO).N, (cfgM m hO).idle 4 (grid0.coords t) = false := fun _ => rfl
theorem live5 (hO : Ok m) : ∀ t : Fin (cfgM m hO).N, (cfgM m hO).idle 5 (grid0.coords t) = false := fun _ => rfl
theorem live6 (hO : Ok m) : ∀ t : Fin (cfgM m hO).N, (cfgM m hO).idle 6 (grid0.coords t) = false := fun _ => rfl

/-- The number of blocks in use as the body reads it is the table's. -/
theorem usedWord_eq (pf : pre0.Contents (Elt F)) (c : Dev nD) : usedWord c (pf 1) = used pf := by
  show usedTable pf _ = usedTable pf _
  exact congrArg (usedTable pf) (place1_eq _ _)

end Cert.Kernel3Ideal.Experts

end
-- ==== Proof.LatentOk.lean ====
/-
  What good tables give the experts' call: every block lies in its array, every point writes its block of the result, and a point that does not refill the kept buffer works with the expert of the point before it.
  (Of the second layer, whose rows are the latent ones only: 288 blocks.)
-/
module

public import proofs.«01_k».proof.Proof.LatentKit
public import Idealize.ShloMosaic.Lib.Pipeline.Kit

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (pf : pre0.Contents (Elt F))

/-- Equal places in the table. -/
theorem place_eq {a b : S288.Idx} (h : (a 0).val = (b 0).val) : a = b := by
  funext x; obtain rfl : x = 0 := Subsingleton.elim _ _; exact Fin.ext h

/-- The place of point `i` in the table of experts. -/
abbrev place (i : grid0.Coords) : S288.Idx := fun x => ⟨(i 0).val, by obtain rfl : x = 0 := Subsingleton.elim _ _; exact (i 0).isLt⟩

/-- The block of rows a point reads. -/
theorem rows_val (i : grid0.Coords) (h1 : 1 ≤ (used pf).toNat) (h2 : (used pf).toNat ≤ 288) :
    cc0_transform_0 inb_S1_S1_0 numel1_S1 pf i = ![min (i 0).val ((used pf).toNat - 1), 0] := by
  have e : pf.at 1 (Rect.unit (s := S1) ![0] S1.size inb_S1_S1_0) numel1_S1 = used pf := by
    show usedTable pf _ = usedTable pf _
    exact congrArg (usedTable pf) (place1_eq _ _)
  have hm := min_word (i 0).val (used pf) (i 0).isLt h1 h2
  funext a
  fin_cases a
  · show (Scalar.minsi (BitVec.ofNat 32 (i 0).val) (Scalar.subi (pf.at 1 (Rect.unit (s := S1) ![0] S1.size inb_S1_S1_0) numel1_S1) 1#32)).toNat = _
    rw [e]; exact hm
  · rfl

/-- The expert's block a point reads, of any of the six weight arrays. -/
theorem expert_at (i : grid0.Coords) :
    pf.at 0 (Rect.unit (s := S288) ![(Scalar.indexCast (BitVec.ofNat 32 (i 0).val) : BitVec 32).toNat] S1.size (k0_off1_inb i)) numel1_S1 = experts pf (place i) := by
  show experts pf _ = experts pf _
  congr 1
  apply place_eq
  show (BitVec.ofNat 32 (i 0).val).toNat + _ = (i 0).val
  have hi : (i 0).val < 288 := (i 0).isLt
  rw [WordCmp.toNat_ofNat_of_lt (by omega)]
  simp [Shape.Idx.first]

theorem expert1_val (i : grid0.Coords) : cc0_transform_1 k0_off1_inb numel1_S1 pf i = ![(experts pf (place i)).toNat, 0, 0] := by
  rw [← expert_at]; rfl
theorem expert3_val (i : grid0.Coords) : cc0_transform_3 k0_off1_inb numel1_S1 pf i = ![(experts pf (place i)).toNat, 0, 0] := by
  rw [← expert_at]; rfl

/-- A point's blocks lie in their arrays. -/
theorem rows_inside (g : Good (experts pf) (used pf)) (i : grid0.Coords) :
    ∃ h : (∀ a, (cc0_transform_0 inb_S1_S1_0 numel1_S1 pf i a + 1) * S512x1024.size a ≤ S147456x1024.size a), EltTy.bits .f32 = 32 ∨ (Rect.block (s := S147456x1024) S512x1024.size (cc0_transform_0 inb_S1_S1_0 numel1_S1 pf i) h).WholeWords (EltTy.packing .f32) := by
  refine ⟨?_, .inl rfl⟩
  rw [rows_val pf i g.pos g.le]
  have hi : (i 0).val < 288 := (i 0).isLt
  intro a
  fin_cases a
  · show (min (i 0).val ((used pf).toNat - 1) + 1) * 512 ≤ 147456; omega
  · show (0 + 1) * 1024 ≤ 1024; omega

theorem matrix_inside (g : Good (experts pf) (used pf)) (i : grid0.Coords) (a : Fin 3) :
    (cc0_transform_1 k0_off1_inb numel1_S1 pf i a + 1) * S1x1024x1024.size a ≤ S64x1024x1024.size a := by
  rw [expert1_val]
  have he := g.expert (place i)
  fin_cases a
  · show ((experts pf (place i)).toNat + 1) * 1 ≤ 64; omega
  · show (0 + 1) * 1024 ≤ 1024; omega
  · show (0 + 1) * 1024 ≤ 1024; omega

theorem bias_inside (g : Good (experts pf) (used pf)) (i : grid0.Coords) (a : Fin 3) :
    (cc0_transform_3 k0_off1_inb numel1_S1 pf i a + 1) * S1x1x1024.size a ≤ S64x1x1024.size a := by
  rw [expert3_val]
  have he := g.expert (place i)
  fin_cases a
  · show ((experts pf (place i)).toNat + 1) * 1 ≤ 64; omega
  · show (0 + 1) * 1 ≤ 1; omega
  · show (0 + 1) * 1024 ≤ 1024; omega

/-- Good tables meet the call's side condition. -/
theorem ok_of_good (g : Good (experts pf) (used pf)) : ok0 (F := F) pf := by
  unfold ok0
  refine ⟨rows_inside pf g, fun i => ⟨matrix_inside pf g i, .inr ?_⟩, fun i => ⟨matrix_inside pf g i, .inr ?_⟩, fun i => ⟨bias_inside pf g i, .inl rfl⟩,
    fun i => ⟨bias_inside pf g i, .inl rfl⟩, fun i => ⟨matrix_inside pf g i, .inl rfl⟩, fun i => ⟨bias_inside pf g i, .inl rfl⟩⟩
  · exact .inr ⟨by decide, rfl, rfl, rfl⟩
  · exact .inr ⟨by decide, rfl, rfl, rfl⟩

/-- Every point writes its block of the result. -/
theorem written (g : Good (experts pf) (used pf)) (i : grid0.Coords) : idle0 pf 7 i = false := by
  show (!(k0_cond2 i (pf.atD 1 ![0]) == 1#1) && !(k0_cond3 i (pf.atD 1 ![0]) == 1#1)) = false
  have e : pf.atD 1 ![0] = used pf := by
    unfold Pipeline.Prefetch.Contents.atD
    refine (dif_pos (show ∀ a : Fin 1, (![0] : Fin 1 → ℕ) a + 1 ≤ S1.size a from fun a => by obtain rfl : a = 0 := Subsingleton.elim _ _; exact Nat.le_refl _)).trans ?_
    exact congrArg (usedTable pf) (place1_eq _ _)
  rw [e]
  have h2 := cond2_iff i (used pf) g.le
  have h3 := cond3_iff i (used pf) g.le
  by_cases h : (i 0).val < (used pf).toNat
  · rw [h2.mpr h]; rfl
  · rw [h3.mpr h]; simp

/-- The point's expert as the body reads it, and the expert of the point before. -/
theorem thisWord_eq (c : Dev nD) (g : Good (experts pf) (used pf)) (i : grid0.Coords) (hn : k0_chk1 i (used pf)) :
    thisWord c i (pf 0) (used pf) hn = experts pf (place i) := by
  show experts pf _ = experts pf _
  apply g.clamp
  show k0_off2 i (used pf) 0 + _ = _
  rw [off2_val i _ g.pos g.le 0]
  simp [Shape.Idx.first]

theorem lastWord_eq (c : Dev nD) (g : Good (experts pf) (used pf)) (i : grid0.Coords) (hn : k0_chk1 i (used pf)) (b : S288.Idx)
    (hb : (b 0).val = (i 0).val - 1) : lastWord c i (pf 0) (used pf) hn = experts pf b := by
  show experts pf _ = experts pf _
  apply g.clamp
  show k0_off3 i (used pf) 0 + _ = _
  rw [off3_val i _ g.pos g.le 0, hb]
  simp [Shape.Idx.first]

/-- The same facts of the number of blocks in use as the body reads it. -/
theorem chk_used (c : Dev nD) (g : Good (experts pf) (used pf)) (i : grid0.Coords) : k0_chk1 i (usedWord c (pf 1)) :=
  (usedWord_eq pf c).symm ▸ chk i _ g.pos g.le

theorem unused_iff (c : Dev nD) (g : Good (experts pf) (used pf)) (i : grid0.Coords) :
    k0_cond3 i (usedWord c (pf 1)) = 1#1 ↔ ¬k0_cond2 i (usedWord c (pf 1)) = 1#1 := by
  rw [usedWord_eq pf c, cond2_iff _ _ g.le, cond3_iff _ _ g.le]

/-- A point that does not refill the kept buffer is not the first, and the point before it works with the same expert. -/
theorem same_expert (c : Dev nD) (g : Good (experts pf) (used pf)) (i i' : grid0.Coords) (hi : (i' 0).val = (i 0).val - 1) (hn : k0_chk1 i (usedWord c (pf 1)))
    (h : ¬changed i (thisWord c i (pf 0) (usedWord c (pf 1)) hn) (lastWord c i (pf 0) (usedWord c (pf 1)) hn)) :
    experts pf (place i') = experts pf (place i) := by
  have he := (of_not_changed _ _ _ h).2
  have key : ∀ n (hn : k0_chk1 i n), n = used pf → thisWord c i (pf 0) n hn = lastWord c i (pf 0) n hn → experts pf (place i') = experts pf (place i) := by
    rintro n hn rfl h
    rw [← thisWord_eq pf c g i hn, h, lastWord_eq pf c g i hn (place i') hi]
  exact key _ hn (usedWord_eq pf c) he

end Cert.Kernel3Ideal.Experts

end
-- ==== Proof.LatentPoint.lean ====
/-
  What every grid point of the experts' call leaves in its staging buffers and in the buffer kept between points.
  (Of the second layer, whose rows are the latent ones only: 288 blocks.)
-/
module

public import proofs.«01_k».proof.Proof.LatentOk
public import Idealize.ShloMosaic.Lib.Pipeline.Kit

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

attribute [local irreducible] tbl

variable (m : (ℓ : Loc nD τ sig) → Buf (Elt F) ℓ) (ρ : Dev nD → PrngReg)

/-! Each window's staging buffer at a point. -/

abbrev ms0 (hO : Ok m) (t : Fin (cfgM m hO).N) : Memref sig .tc .vmem S512x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1024 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x1024 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x1024 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x1024 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S512x1024 .f32 := spec0_7.stage ((cfgM m hO).slots t 7)
abbrev hs7 (hO : Ok m) (t : Fin (cfgM m hO).N) : (ms7 m hO t).IsWhole := hstage0_7 (((cfgM m hO).slots t 7).cast nbuf0_7)

/-- The body at a point, on the buffers the pipeline passes it. -/
abbrev bodyAt (hO : Ok m) (t : Fin (cfgM m hO).N) : Prog (TpuEff nD τ sig (Elt F) Λ₀ .tc) PUnit :=
  cc0_moe_experts (grid0.coords t) expertsTab (Memref.isWhole_whole _) usedTab (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) kept (Memref.isWhole_whole _)

/-- The kept buffer after point `t`: the point's down-projection, rounded. -/
def keptAt (hO : Ok m) (c : Dev nD) (t : Fin (cfgM m hO).N) : Vec F S1024x1024 .bf16 := k0_pay1 (iblk m hO c 5 t)

/-- The block of the result point `t` writes: the experts' rows where the block is in use, zeros elsewhere. -/
def outAt (hO : Ok m) (c : Dev nD) (t : Fin (cfgM m hO).N) : Vec F S512x1024 .f32 :=
  if k0_cond2 (grid0.coords t) (used (tbl m)) = 1#1 then
    k0_pay2 (k0_pay4 (iblk m hO c 0 t) (iblk m hO c 1 t) (iblk m hO c 3 t) (iblk m hO c 2 t) (iblk m hO c 4 t) (keptAt m hO c t)) (iblk m hO c 6 t)
  else k0_pay3 (F := F)

/-- The point's place on the grid. -/
theorem coord_val (t : Fin grid0.N) : (grid0.coords t 0).val = t.val := by
  have ht : t.val < 288 := Nat.lt_of_lt_of_eq t.isLt N_0
  have e : (grid0.coords t 0).val = t.val / 1 % 288 := Pipeline.Grid.coords_val t 0 (by decide) rfl
  omega

/-- Where two points work with the same expert they keep the same down-projection. -/
theorem keptAt_congr (hO : Ok m) (c : Dev nD) (t t' : Fin (cfgM m hO).N)
    (h : experts (tbl m) (place (grid0.coords t)) = experts (tbl m) (place (grid0.coords t'))) : keptAt m hO c t = keptAt m hO c t' := by
  have hi : ((cfgM m hO).win 5).index t = ((cfgM m hO).win 5).index t' := by
    show cc0_transform_1 k0_off1_inb numel1_S1 (tbl m) (grid0.coords t) = cc0_transform_1 k0_off1_inb numel1_S1 (tbl m) (grid0.coords t')
    rw [expert1_val, expert1_val, h]
  unfold keptAt
  refine congrArg k0_pay1 ?_
  funext y
  unfold iblk
  rw [View.read_apply, View.read_apply]
  show _root_.cast _ (V m c (Pipeline.arrRef spec0 5) (((cfgM m hO).win 5).arr.view.emb ((((cfgM m hO).win 5).rect t).emb y)))
    = _root_.cast _ (V m c (Pipeline.arrRef spec0 5) (((cfgM m hO).win 5).arr.view.emb ((((cfgM m hO).win 5).rect t').emb y)))
  congr 3
  funext a; apply Fin.ext
  rw [Rect.emb_apply, Rect.emb_apply]
  show ((cfgM m hO).win 5).kind.off (((cfgM m hO).win 5).index t a) (((cfgM m hO).win 5).size a) + 1 * (y a).val
    = ((cfgM m hO).win 5).kind.off (((cfgM m hO).win 5).index t' a) (((cfgM m hO).win 5).size a) + 1 * (y a).val
  rw [hi]

/-- The invariant between points: the kept buffer at what the last point left (at anything before the first), the generator's register, and the tables' halves. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) kept fullShare (keptAt m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) kept fullShare (keptAt m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) kept fullShare (keptAt m hO c ⟨n - 1, by omega⟩)) ∗ (∃ r, prngReg c r)) ∗ Pipeline.ΦT pre0 (tbl m) c) := by
  cases n with
  | zero => exact absurd rfl hz
  | succ n => rfl

/-- Whatever the point, the invariant holds the kept buffer at something. -/
theorem PhiS_any (hO : Ok m) (c : Dev nD) (n : ℕ) (h : n ≤ (cfgM m hO).N) :
    PhiS m hO c n h ⊢ iprop(iprop(iprop((∃ d, owns (c : Thread nD τ) kept fullShare d)) ∗ (∃ r, prngReg c r)) ∗ Pipeline.ΦT pre0 (tbl m) c) := by
  cases n with
  | zero => rw [PhiS_zero m hO c 0 h rfl, rest_eq]
  | succ n =>
    rw [PhiS_succ]
    iintro ⟨⟨HS, Hg⟩, HT⟩
    isplitl [HS Hg]
    · isplitl [HS]
      · iexists _; iexact HS
      iexact Hg
    iexact HT

/-- What the pipeline's rule takes: the arrays as the call finds them, and what each point leaves in each window's buffer. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = outAt m hO c t := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
theorem before4 (hO : Ok m) (c : Dev nD) (t : Fin (cfgM m hO).N) (d) : (dats m hO 0 c).before 4 t d = iblk m hO c 4 t :=
  before4_of m hO (dats m hO 0 c) (A_eq m hO c 4) (after4 m hO c) t d
theorem before5 (hO : Ok m) (c : Dev nD) (t : Fin (cfgM m hO).N) (d) : (dats m hO 0 c).before 5 t d = iblk m hO c 5 t :=
  before5_of m hO (dats m hO 0 c) (A_eq m hO c 5) (after5 m hO c) t d
theorem before6 (hO : Ok m) (c : Dev nD) (t : Fin (cfgM m hO).N) (d) : (dats m hO 0 c).before 6 t d = iblk m hO c 6 t :=
  before6_of m hO (dats m hO 0 c) (A_eq m hO c 6) (after6 m hO c) t d

/-- What the body is called with at point `t`, window by window, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 6400000 in
/-- The body at any point: of its four runs the one whose branches the point takes. -/
theorem sound_body (hO : Ok m) (g : Good (experts (tbl m)) (used (tbl m))) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6]
  rw [show (dats m hO 0 c).owesAt () t.succ = (dats m hO 0 c).owesAt () t.castSucc from rfl]
  rw [show (dats m hO 0 c).Φ t.succ = PhiS m hO c (t.val + 1) t.isLt from rfl, PhiS_succ, lent_eq]
  rw [show (dats m hO 0 c).leavesExact 0 t = owns (c : Thread nD τ) (ms0 m hO t) fullShare ((dats m hO 0 c).after 0 t) from by
    unfold Dat.leavesExact; rw [live0 m hO t]; try rfl, after0]
  rw [show (dats m hO 0 c).leavesExact 1 t = owns (c : Thread nD τ) (ms1 m hO t) fullShare ((dats m hO 0 c).after 1 t) from by
    unfold Dat.leavesExact; rw [live1 m hO t]; try rfl, after1]
  rw [show (dats m hO 0 c).leavesExact 2 t = owns (c : Thread nD τ) (ms2 m hO t) fullShare ((dats m hO 0 c).after 2 t) from by
    unfold Dat.leavesExact; rw [live2 m hO t]; try rfl, after2]
  rw [show (dats m hO 0 c).leavesExact 3 t = owns (c : Thread nD τ) (ms3 m hO t) fullShare ((dats m hO 0 c).after 3 t) from by
    unfold Dat.leavesExact; rw [live3 m hO t]; try rfl, after3]
  rw [show (dats m hO 0 c).leavesExact 4 t = owns (c : Thread nD τ) (ms4 m hO t) fullShare ((dats m hO 0 c).after 4 t) from by
    unfold Dat.leavesExact; rw [live4 m hO t]; try rfl, after4]
  rw [show (dats m hO 0 c).leavesExact 5 t = owns (c : Thread nD τ) (ms5 m hO t) fullShare ((dats m hO 0 c).after 5 t) from by
    unfold Dat.leavesExact; rw [live5 m hO t]; try rfl, after5]
  rw [show (dats m hO 0 c).leavesExact 6 t = owns (c : Thread nD τ) (ms6 m hO t) fullShare ((dats m hO 0 c).after 6 t) from by
    unfold Dat.leavesExact; rw [live6 m hO t]; try rfl, after6]
  rw [show (dats m hO 0 c).leavesExact 7 t = owns (c : Thread nD τ) (ms7 m hO t) fullShare ((dats m hO 0 c).after 7 t) from by
    unfold Dat.leavesExact; rw [show (cfgM m hO).idle 7 ((cfgM m hO).grid.coords t) = false from written (tbl m) g (grid0.coords t)]; try rfl, after7]
  have hu := usedWord_eq (tbl m) c
  have hn := chk_used (tbl m) c g (grid0.coords t)
  have h23 := unused_iff (tbl m) c g (grid0.coords t)
  have hold : ∀ h2 : k0_cond2 (grid0.coords t) (usedWord c (tbl m 1)) = 1#1, outAt m hO c t
      = k0_pay2 (k0_pay4 (iblk m hO c 0 t) (iblk m hO c 1 t) (iblk m hO c 3 t) (iblk m hO c 2 t) (iblk m hO c 4 t) (keptAt m hO c t)) (iblk m hO c 6 t) := fun h2 => by
    unfold outAt; rw [if_pos (hu ▸ h2)]
  have hzero : ∀ h2 : ¬k0_cond2 (grid0.coords t) (usedWord c (tbl m 1)) = 1#1, outAt m hO c t = k0_pay3 (F := F) := fun h2 => by
    unfold outAt; rw [if_neg (fun h => h2 (hu.symm ▸ h))]
  rw [PhiS_castSucc m hO c t]
  by_cases hch : changed (grid0.coords t) (thisWord c (grid0.coords t) (tbl m 0) (usedWord c (tbl m 1)) hn) (lastWord c (grid0.coords t) (tbl m 0) (usedWord c (tbl m 1)) hn)
  · by_cases h2 : k0_cond2 (grid0.coords t) (usedWord c (tbl m 1)) = 1#1
    · have h3 := fun h => h23.mp h h2
      rw [hold h2]
      refine (sep_mono_left (PhiS_any m hO c _ _)).trans ?_
      rw [lent_eq]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_new_used c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h3 := h23.mpr h2
      rw [hzero h2]
      refine (sep_mono_left (PhiS_any m hO c _ _)).trans ?_
      rw [lent_eq]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_new_unused c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := coord_val t ▸ (of_not_changed _ _ _ hch).1
    have ht : t.val < grid0.N := t.isLt
    have hk : keptAt m hO c ⟨t.val - 1, show t.val - 1 < grid0.N by omega⟩ = keptAt m hO c t :=
      keptAt_congr m hO c _ _ (same_expert (tbl m) c g (grid0.coords t) (grid0.coords ⟨t.val - 1, by omega⟩) (by rw [coord_val, coord_val]) hn hch)
    rw [PhiS_pos m hO c _ _ hz, hk, lent_eq]
    by_cases h2 : k0_cond2 (grid0.coords t) (usedWord c (tbl m 1)) = 1#1
    · have h3 := fun h => h23.mp h h2
      rw [hold h2]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_same_used c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) (keptAt m hO c t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h3 := h23.mpr h2
      rw [hzero h2]
      iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_same_unused c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t) (ms7 m hO t) (hs7 m hO t) (tbl m 0) (tbl m 1)
        (iblk m hO c 0 t) (iblk m hO c 1 t) (iblk m hO c 2 t) (iblk m hO c 3 t) (iblk m hO c 4 t) (iblk m hO c 5 t) (iblk m hO c 6 t) (keptAt m hO c t) hn hch h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      isplitl [HT0]; · iexact HT0
      isplitl [HT1]; · iexact HT1
      iintro ⟨H0, H1, H2, H3, H4, H5, H6, H7, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.Kernel3Ideal.Experts

end
-- ==== Proof.LatentFrame.lean ====
/-
  The experts' call from start to end: the run of all its grid points, with its arguments unchanged.
  (Of the second layer, whose rows are the latent ones only: 288 blocks.)
-/
module

public import proofs.«01_k».proof.Proof.LatentPoint
public import Idealize.ShloMosaic.Lib.Claim

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

attribute [local irreducible] tbl

variable (m : (ℓ : Loc nD τ sig) → Buf (Elt F) ℓ) (ρ : Dev nD → PrngReg)

/-- The body table's row at a point is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (g : Good (experts (tbl m)) (used (tbl m))) (c : Dev nD) :
    BodyObligation (dats (F := F) m hO 0 c) (defs₀ (F := F)) Variants.none () Set.univ := fun t => by
  rw [bigSep_W0, bigSep_W0, defs₀_row m hO]
  exact triple_restated (sound_body m hO g c t) rfl .rfl fun _ => .rfl

/-- What the launch hands over is the invariant before the first point; after the last, the invariant gives the buffers back. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl,
    PhiS_pos m hO c _ _ (by rw [Fin.val_last]; have : (cfgM m hO).N = 288 := N_0; omega), rest_eq]
  iintro ⟨⟨HS0, Hg⟩, -⟩
  isplitl [HS0]
  · iexists _; iexact HS0
  iexact Hg

-- the rule's implicit arguments are found by unifying its conclusion with this one
set_option backward.isDefEq.respectTransparency.types false in
/-- The run: every execution ends, the arrays as the pipeline leaves them and every counter at zero. -/
theorem run_main (hO : Ok m) (g : Good (experts (tbl m)) (used (tbl m))) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO g c).loose) (hshare := fun c => (dats m hO 0 c).share_full fun _ => rfl)
    (howed := fun _ _ => rfl) (V := V m) (hmain := hmain m Variants.none) (hA := A_eq m hO) (hpf := V_pre m)
    (hin := hin m hO) (hout := hout m hO)

/-- With good tables every execution of the call ends with its arguments unchanged and every counter at zero. -/
theorem frame (g : Good (experts (tbl m)) (used (tbl m))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  have hO := ok_of_good (tbl m) g
  θ_run_and (unchanged_of m ρ hO (dats m hO) (A_eq m hO) ((θ_run defs _ _).mono (fun _ h => h.1) (run_main m ρ hO g)))
    ((θ_run defs _ _).mono (fun _ h => h.2) (run_main m ρ hO g))

end Cert.Kernel3Ideal.Experts

end
-- ==== Proof.LatentTables.lean ====
/-
  The two tables the experts' call prefetches, from the arguments: entry `b` of the first is the argument's entry at the smaller of `b` and the last block in use, and the second is the argument.
  With the precondition's ranges the tables are good ones.
  (Of the second layer, whose rows are the latent ones only: 288 blocks.)
-/
module

public import proofs.«01_k».proof.Proof.LatentKit
public import Idealize.ShloMosaic.Lib.StableHlo.Predicate
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Experts

open Idealize.ShloMosaic Idealize.ShloMosaic.TcCoe Idealize.SL.Sem
open Cert.Kernel3Ideal Cert.Kernel3Ideal.Gen StableHlo

variable {F : FTy → Type} [FloatOps F]

/-- The smaller of each place's index and the last block in use. -/
def lastOrOwn (nu : IVec S1 32) : IVec S288 32 :=
  minsi (iotaInDim S288 32 0) (broadcastInDim S288 ![] bcast_S_S288 (subi (shapeCast S_ nu shapeCasts_S1_S_) (constantI S_ 32 1#32)))

/-- The places the table of experts is read at. -/
def readAt (nu : IVec S1 32) : IVec S288x1 32 :=
  broadcastInDim S288x1 ![0] bcast_S288_S288x1_0
    (select (cmpi .slt (lastOrOwn nu) (broadcastInDim S288 ![] bcast_S_S288 (constantI S_ 32 0#32)))
      (addi (lastOrOwn nu) (broadcastInDim S288 ![] bcast_S_S288 (constantI S_ 32 288#32))) (lastOrOwn nu))

variable (m : (ℓ : Loc nD τ sig) → Buf (Elt F) ℓ)

set_option maxHeartbeats 1600000 in
/-- The first table the call prefetches. -/
theorem V_experts (c : Dev nD) : V m c main_v11
    = Host.gather gather_S288_S288x1_S288_n_0_n_n_0_1_1 (m ((c : Thread nD τ).loc main_arg0)) (readAt (m ((c : Thread nD τ).loc main_arg1))) := by
  unfold V
  simp only [List.flatten_cons, List.flatten_nil, List.append_nil, List.cons_append, List.nil_append, hostOps0, TRef.unary, TRef.binary, TRef.toBuf, TRef.ofBuf, cast_eq]
  after_results_simp
  after_results_loop
  rfl

/-- One entry of the clamped index. -/
theorem lastOrOwn_val (nu : IVec S1 32) (z : S1.Idx) (h1 : 1 ≤ (nu z).toNat) (h2 : (nu z).toNat ≤ 288) (b : S288.Idx) :
    lastOrOwn nu b = BitVec.ofNat 32 (min (b 0).val ((nu z).toNat - 1)) := by
  have hb : (b 0).val < 288 := (b 0).isLt
  have e : lastOrOwn nu b = Scalar.minsi (BitVec.ofNat 32 (b 0).val) (Scalar.subi (nu z) 1#32) :=
    congrArg (fun w => Scalar.minsi (BitVec.ofNat 32 (b 0).val) (Scalar.subi w 1#32)) (congrArg nu (place1_eq _ z))
  rw [e, ← min_word _ _ hb h1 h2]
  exact word_eq _

/-- One place the table of experts is read at: the index is never negative. -/
theorem readAt_val (nu : IVec S1 32) (z : S1.Idx) (h1 : 1 ≤ (nu z).toNat) (h2 : (nu z).toNat ≤ 288) (p : Fin 288) :
    readAt nu (Predicate.ixP p) = BitVec.ofNat 32 (min p.val ((nu z).toNat - 1)) := by
  have hp : p.val < 288 := p.isLt
  have hv : lastOrOwn nu (Shape.Idx.ofFin p) = BitVec.ofNat 32 (min p.val ((nu z).toNat - 1)) := lastOrOwn_val nu z h1 h2 _
  have e : readAt nu (Predicate.ixP p) = (if IntOp.cmpi .slt (lastOrOwn nu (Shape.Idx.ofFin p)) 0#32 = 1#1 then
      IntOp.addi (lastOrOwn nu (Shape.Idx.ofFin p)) 288#32 else lastOrOwn nu (Shape.Idx.ofFin p)) := by
    have ei : ∀ q : S288.Idx, (q 0).val = p.val → q = Shape.Idx.ofFin p := fun q h => by
      funext x; obtain rfl : x = 0 := Subsingleton.elim _ _; exact Fin.ext h
    unfold readAt
    rw [← ei (ix1 (Predicate.ixP p 0)) rfl]
    pointwise
    rfl
  rw [e, hv]
  have hs : IntOp.cmpi .slt (BitVec.ofNat 32 (min p.val ((nu z).toNat - 1))) 0#32 = 0#1 := by
    show BitVec.ofBool ((BitVec.ofNat 32 (min p.val ((nu z).toNat - 1))).slt 0#32) = 0#1
    rw [BitVec.slt_eq_decide, WordCmp.toInt_ofNat_of_lt (by omega), show (0#32 : BitVec 32).toInt = 0 from by decide, decide_eq_false (by omega)]
    rfl
  rw [hs, if_neg (by decide)]

/-- Every entry of the first table is the argument's, at the smaller of its place and the last block in use. -/
theorem gathered (be : IVec S288 32) (nu : IVec S1 32) (z : S1.Idx) (h1 : 1 ≤ (nu z).toNat) (h2 : (nu z).toNat ≤ 288) (b b' : S288.Idx)
    (hb : (b' 0).val = min (b 0).val ((nu z).toNat - 1)) :
    Host.gather gather_S288_S288x1_S288_n_0_n_n_0_1_1 be (readAt nu) b = be b' := by
  have hlt : (b 0).val < 288 := (b 0).isLt
  have ei : ∀ (q q' : S288.Idx), (q 0).val = (q' 0).val → q = q' := fun q q' h => by
    funext x; obtain rfl : x = 0 := Subsingleton.elim _ _; exact Fin.ext h
  obtain ⟨p, hp⟩ : ∃ p : Fin 288, p.val = (b 0).val := ⟨⟨(b 0).val, hlt⟩, rfl⟩
  rw [ei b (Shape.Idx.ofFin p) hp.symm, Predicate.gather_take gather_S288_S288x1_S288_n_0_n_n_0_1_1 rfl rfl rfl rfl be (readAt nu) p (by decide)]
  refine congrArg be (ei _ _ ?_)
  show min (readAt nu (Predicate.ixP p)).toInt.toNat (288 - 1) = (b' 0).val
  rw [readAt_val nu z h1 h2 p, WordCmp.toInt_ofNat_of_lt (by omega), hb, hp]
  omega

variable (m : (ℓ : Loc nD τ sig) → Buf (Elt F) ℓ)

/-- The number of blocks in use is the argument's. -/
theorem used_tbl (z : S1.Idx) : used (tbl m) = m (((0 : Dev nD) : Thread nD τ).loc main_arg1) z := by
  have e : usedTable (tbl m) = m (((0 : Dev nD) : Thread nD τ).loc main_arg1) := V_arg1 m 0
  show usedTable (tbl m) _ = _
  rw [e]; exact congrArg _ (place1_eq _ _)

/-- The table of experts is the argument's, at the smaller of each place and the last block in use. -/
theorem experts_tbl (z : S1.Idx) (h1 : 1 ≤ ((m (((0 : Dev nD) : Thread nD τ).loc main_arg1) : IVec S1 32) z).toNat)
    (h2 : ((m (((0 : Dev nD) : Thread nD τ).loc main_arg1) : IVec S1 32) z).toNat ≤ 288) (b b' : S288.Idx)
    (hb : (b' 0).val = min (b 0).val (((m (((0 : Dev nD) : Thread nD τ).loc main_arg1) : IVec S1 32) z).toNat - 1)) :
    experts (tbl m) b = (m (((0 : Dev nD) : Thread nD τ).loc main_arg0) : IVec S288 32) b' := by
  have e : experts (tbl m) = _ := V_experts m 0
  rw [e]; exact gathered _ _ z h1 h2 b b' hb

/-- Arguments in range make good tables. -/
theorem good_of_ranges (hb : ∀ b, ((m (((0 : Dev nD) : Thread nD τ).loc main_arg0) : IVec S288 32) b).toNat < 64)
    (hn : ∀ z, 1 ≤ ((m (((0 : Dev nD) : Thread nD τ).loc main_arg1) : IVec S1 32) z).toNat ∧ ((m (((0 : Dev nD) : Thread nD τ).loc main_arg1) : IVec S1 32) z).toNat ≤ 288) :
    Good (experts (tbl m)) (used (tbl m)) := by
  obtain ⟨z⟩ : Nonempty S1.Idx := ⟨fun _ => ⟨0, by simp [S1]⟩⟩
  obtain ⟨h1, h2⟩ := hn z
  have hmk : ∀ k : ℕ, k < 288 → ∃ q : S288.Idx, (q 0).val = k := fun k hk => ⟨Shape.Idx.ofFin ⟨k, hk⟩, rfl⟩
  have hat : ∀ b : S288.Idx, ∃ q : S288.Idx, (q 0).val = min (b 0).val (((m (((0 : Dev nD) : Thread nD τ).loc main_arg1) : IVec S1 32) z).toNat - 1)
      ∧ experts (tbl m) b = (m (((0 : Dev nD) : Thread nD τ).loc main_arg0) : IVec S288 32) q := fun b => by
    have hlt : (b 0).val < 288 := (b 0).isLt
    obtain ⟨q, hq⟩ := hmk (min (b 0).val (((m (((0 : Dev nD) : Thread nD τ).loc main_arg1) : IVec S1 32) z).toNat - 1)) (by omega)
    exact ⟨q, hq, experts_tbl m z h1 h2 b q hq⟩
  refine ⟨by rw [used_tbl m z]; exact h1, by rw [used_tbl m z]; exact h2, fun b => ?_, fun b b' h => ?_⟩
  · obtain ⟨q, -, hq⟩ := hat b
    rw [hq]; exact hb q
  · rw [used_tbl m z] at h
    obtain ⟨q, hq, e⟩ := hat b
    rw [e]
    exact experts_tbl m z h1 h2 b' q (by rw [hq, h]; omega)

end Cert.Kernel3Ideal.Experts

end
-- ==== Proof.LatentBlock.lean ====
/-
  What one point of the experts' call writes into its block of the result: each row through the point's expert.
  (Of the second layer, whose rows are the latent ones only: 288 blocks.)
-/
module

public import proofs.«01_k».proof.Proof.Gen.Kernel3Ideal.Skeleton
public import proofs.«01_k».proof.Proof.ExpertsSwiglu
public import Idealize.ShloMosaic.Lib.Pipeline.ValueKit
public import Idealize.ShloMosaic.Lib.Pointwise

@[expose] public section

set_option maxRecDepth 16384

noncomputable section

namespace Cert.Kernel3Ideal.Experts

open Idealize.ShloMosaic Idealize.ShloMosaic.TcCoe Idealize.SL.Sem
open Cert.Kernel3Ideal Cert.Kernel3Ideal.Gen Cert.Swiglu

variable (X : FVec Ideal S512x1024 .f32) (Wg Wl : FVec Ideal S1x1024x1024 .bf16) (bg bl : FVec Ideal S1x1x1024 .f32)
  (Wd : FVec Ideal S1x1024x1024 .f32) (bd : FVec Ideal S1x1x1024 .f32)

/-- The kept down-projection, entry by entry. -/
theorem kept_val (f d : Fin 1024) : k0_pay1 (F := Ideal) Wd (ix2 f d) = Wd (ix3 (0 : Fin 1) f d) := by
  pointwise [k0_pay1]
  blk_ext

/-- The product with the kept down-projection, entry by entry. -/
theorem product_val (D : FVec Ideal S1024x1024 .bf16) (r : Fin 512) (d : Fin 1024) :
    k0_pay4 (F := Ideal) X Wg bg Wl bl D (ix2 r d)
      = ∑ f : Fin 1024, unit ((∑ k, X (ix2 r k) * Wg (ix3 (0 : Fin 1) k f)) + bg (ix3 (0 : Fin 1) (0 : Fin 1) f))
          ((∑ k, X (ix2 r k) * Wl (ix3 (0 : Fin 1) k f)) + bl (ix3 (0 : Fin 1) (0 : Fin 1) f)) * D (ix2 f d) := by
  pointwise [k0_pay4]
  refine Finset.sum_congr rfl fun f _ => ?_
  unfold unit
  rw [← logistic_eq, one_eq]
  rfl

/-- A used point's block, entry by entry: the point's expert's answer to each row. -/
theorem block_val (r : Fin 512) (d : Fin 1024) :
    k0_pay2 (F := Ideal) (k0_pay4 (F := Ideal) X Wg bg Wl bl (k0_pay1 (F := Ideal) Wd)) bd (ix2 r d)
      = out (fun k => X (ix2 r k)) (fun k f => Wg (ix3 (0 : Fin 1) k f)) (fun k f => Wl (ix3 (0 : Fin 1) k f)) (fun f => bg (ix3 (0 : Fin 1) (0 : Fin 1) f))
          (fun f => bl (ix3 (0 : Fin 1) (0 : Fin 1) f)) (fun f d => Wd (ix3 (0 : Fin 1) f d)) (fun d => bd (ix3 (0 : Fin 1) (0 : Fin 1) d)) d := by
  have e := product_val X Wg Wl bg bl (k0_pay1 (F := Ideal) Wd) r d
  generalize k0_pay4 (F := Ideal) X Wg bg Wl bl (k0_pay1 (F := Ideal) Wd) = P at e ⊢
  pointwise [k0_pay2]
  rw [e]
  unfold out
  simp only [kept_val]

/-- An unused point's block is zero. -/
theorem zero_val (i : S512x1024.Idx) : k0_pay3 (F := Ideal) i = Ideal.ofBits .f32 0x00000000#32 := rfl

end Cert.Kernel3Ideal.Experts

end
-- ==== Proof.LatentReference.lean ====
/-
  What the experts' reference computes at a row and a column: the row's own expert's answer where its block is in use, zero elsewhere.
  (Of the second layer, whose rows are the latent ones only: 288 blocks.)
-/
module

public import proofs.«01_k».proof.Proof.Gen.Reference3Ideal.Read
public import proofs.«01_k».proof.Proof.ExpertsGather
public import proofs.«01_k».proof.Proof.ExpertsSwiglu
public import Idealize.ShloMosaic.Lib.Pipeline.ValueKit
public import Idealize.ShloMosaic.Lib.Pointwise
public import Idealize.ShloMosaic.Lib.WordCmp

@[expose] public section

set_option maxRecDepth 16384

noncomputable section

namespace Cert.Reference3Ideal.Rows

open Idealize.ShloMosaic Idealize.ShloMosaic.TcCoe Idealize.SL.Sem
open Cert.Reference3Ideal Cert.Reference3Ideal.Gen Cert.Reference3Ideal.Read Cert.Swiglu

variable (x0 : IVec S288 32) (x1 : IVec S1 32) (x2 : FVec Ideal S147456x1024 .f32) (x3 x4 : FVec Ideal S64x1024x1024 .bf16)
  (x5 x6 : FVec Ideal S64x1x1024 .f32) (x7 : FVec Ideal S64x1024x1024 .f32) (x8 : FVec Ideal S64x1x1024 .f32)

/-- A word below 64 is not negative as a signed number, and its signed number is its number. -/
theorem toInt_small (w : BitVec 32) (h : w.toNat < 64) : w.toInt = (w.toNat : Int) := by
  rw [BitVec.toInt_eq_toNat_cond]
  split <;> omega

/-- The column of experts' numbers the slabs are picked by. -/
theorem column (b : Fin 288) (e : Fin 64) (h : (x0 (ix1 b)).toNat = e.val) :
    (val_main_v6 (F := Ideal) x0 (ix2 b (0 : Fin 1))).toInt = (e.val : Int) := by
  have hlt := e.isLt
  have hs : IntOp.cmpi .slt (x0 (ix1 b)) 0#32 = 0#1 := by
    show BitVec.ofBool ((x0 (ix1 b)).slt 0#32) = 0#1
    rw [BitVec.slt_eq_decide, toInt_small _ (by omega), show (0#32 : BitVec 32).toInt = 0 from by decide, decide_eq_false (by omega)]
    rfl
  have hv : val_main_v6 (F := Ideal) x0 (ix2 b (0 : Fin 1)) = Scalar.select (IntOp.cmpi .slt (x0 (ix1 b)) 0#32) (IntOp.addi (x0 (ix1 b)) 64#32) (x0 (ix1 b)) := by
    pointwise [val_main_v6, val_main_v5, val_main_v4, val_main_v3, val_main_v2, val_main_v1, val_main_c, val_main_c_0]
  rw [hv, hs]
  show (x0 (ix1 b)).toInt = _
  rw [toInt_small _ (by omega), h]

variable (b : Fin 288) (e : Fin 64) (h : (x0 (ix1 b)).toNat = e.val)

include h in
/-- A picked matrix is the expert's. -/
theorem matrix {α : Type} (x : S64x1024x1024.Idx → α) (k f : Fin 1024) :
    Host.gather gather_S64x1024x1024_S288x1_S288x1024x1024_12_0_n_n_0_1_110241024 x (val_main_v6 (F := Ideal) x0) (ix3 b k f) = x (ix3 e k f) :=
  Cert.Slab.pick _ x _ b k f e (column x0 b e h)

include h in
/-- A picked bias is the expert's. -/
theorem bias {α : Type} (x : S64x1x1024.Idx → α) (k : Fin 1) (f : Fin 1024) :
    Host.gather gather_S64x1x1024_S288x1_S288x1x1024_12_0_n_n_0_1_111024 x (val_main_v6 (F := Ideal) x0) (ix3 b k f) = x (ix3 e k f) :=
  Cert.Slab.pick _ x _ b k f e (column x0 b e h)

/-- The blocks of rows. -/
theorem rows (t : Fin 512) (k : Fin 1024) (R : Fin 147456) (hR : R.val = b.val * 512 + t.val) :
    val_main_v0 (F := Ideal) x2 (ix3 b t k) = x2 (ix2 R k) := by
  rw [val_main_v0_apply]
  congr 1
  funext a
  refine Fin.ext ?_
  match a with
  | ⟨0, _⟩ => show ((b.val * 512 + t.val) * 1024 + k.val) / 1024 = R.val; omega
  | ⟨1, _⟩ => show ((b.val * 512 + t.val) * 1024 + k.val) % 1024 = k.val; omega

include h in
/-- The gate's affine map. -/
theorem gates (t : Fin 512) (f : Fin 1024) (R : Fin 147456) (hR : R.val = b.val * 512 + t.val) :
    val_main_v18 (F := Ideal) x0 x2 x3 x5 (ix3 b t f) = (∑ k, x2 (ix2 R k) * x3 (ix3 e k f)) + x5 (ix3 e (0 : Fin 1) f) := by
  have hm : ∀ k, val_main_v7 (F := Ideal) x0 x3 (ix3 b k f) = x3 (ix3 e k f) := fun k => matrix x0 b e h x3 k f
  have hb : ∀ k, val_main_v16 (F := Ideal) x0 x5 (ix3 b k f) = x5 (ix3 e k f) := fun k => bias x0 b e h x5 k f
  have hr : ∀ k, val_main_v0 (F := Ideal) x2 (ix3 b t k) = x2 (ix2 R k) := fun k => rows x2 b t k R hR
  pointwise [val_main_v18, val_main_v9, val_main_v8, val_main_v17]
  simp only [hm, hb, hr]

include h in
/-- The values' affine map. -/
theorem values (t : Fin 512) (f : Fin 1024) (R : Fin 147456) (hR : R.val = b.val * 512 + t.val) :
    val_main_v36 (F := Ideal) x0 x2 x4 x6 (ix3 b t f) = (∑ k, x2 (ix2 R k) * x4 (ix3 e k f)) + x6 (ix3 e (0 : Fin 1) f) := by
  have hm : ∀ k, val_main_v25 (F := Ideal) x0 x4 (ix3 b k f) = x4 (ix3 e k f) := fun k => matrix x0 b e h x4 k f
  have hb : ∀ k, val_main_v34 (F := Ideal) x0 x6 (ix3 b k f) = x6 (ix3 e k f) := fun k => bias x0 b e h x6 k f
  have hr : ∀ k, val_main_v0 (F := Ideal) x2 (ix3 b t k) = x2 (ix2 R k) := fun k => rows x2 b t k R hR
  pointwise [val_main_v36, val_main_v27, val_main_v26, val_main_v35]
  simp only [hm, hb, hr]

/-- The clamped gated unit of the two. -/
theorem units (i : S288x512x1024.Idx) :
    val_main_v51 (F := Ideal) x0 x2 x3 x4 x5 x6 i = unit (val_main_v18 (F := Ideal) x0 x2 x3 x5 i) (val_main_v36 (F := Ideal) x0 x2 x4 x6 i) := by
  rw [val_main_v51_apply, val_main_v48_apply, val_main_v50_apply, val_main_v47_apply, val_main_v45_apply, val_main_v43_apply, val_main_v42_apply,
    val_main_v41_apply, val_main_v38_apply, val_main_v39_apply, val_main_call0_v2_apply, val_main_v37_apply, val_main_v40_apply, val_main_v44_apply,
    val_main_v46_apply, val_main_v49_apply, val_main_call0_v1_apply, val_main_call0_v4_apply]
  rfl

include h in
/-- The expert's answer. -/
theorem answer (t : Fin 512) (d : Fin 1024) (R : Fin 147456) (hR : R.val = b.val * 512 + t.val) :
    val_main_v68 (F := Ideal) x0 x2 x3 x4 x5 x6 x7 x8 (ix3 b t d)
      = out (fun k => x2 (ix2 R k)) (fun k f => x3 (ix3 e k f)) (fun k f => x4 (ix3 e k f)) (fun f => x5 (ix3 e (0 : Fin 1) f))
          (fun f => x6 (ix3 e (0 : Fin 1) f)) (fun f d => x7 (ix3 e f d)) (fun d => x8 (ix3 e (0 : Fin 1) d)) d := by
  have hm : ∀ f, val_main_v58 (F := Ideal) x0 x7 (ix3 b f d) = x7 (ix3 e f d) := fun f => matrix x0 b e h x7 f d
  have hb : ∀ k, val_main_v66 (F := Ideal) x0 x8 (ix3 b k d) = x8 (ix3 e k d) := fun k => bias x0 b e h x8 k d
  have hu : ∀ f, val_main_v51 (F := Ideal) x0 x2 x3 x4 x5 x6 (ix3 b t f) = unit ((∑ k, x2 (ix2 R k) * x3 (ix3 e k f)) + x5 (ix3 e (0 : Fin 1) f))
      ((∑ k, x2 (ix2 R k) * x4 (ix3 e k f)) + x6 (ix3 e (0 : Fin 1) f)) := fun f => by
    rw [units, gates x0 x2 x3 x5 b e h t f R hR, values x0 x2 x4 x6 b e h t f R hR]
  unfold out
  pointwise [val_main_v68, val_main_v59, val_main_v67]
  simp only [hm, hb, hu]

/-- The place of a row and a column among the blocks. -/
theorem split (t : Fin 512) (d : Fin 1024) (R : Fin 147456) (hR : R.val = b.val * 512 + t.val) :
    idx_main_v75 (ix2 R d) = ix3 b t d := by
  funext a
  refine Fin.ext ?_
  match a with
  | ⟨0, _⟩ => show (R.val * 1024 + d.val) / 524288 = b.val; omega
  | ⟨1, _⟩ => show (R.val * 1024 + d.val) / 1024 % 512 = t.val; omega
  | ⟨2, _⟩ => show (R.val * 1024 + d.val) % 1024 = d.val; omega

/-- The mask of blocks in use. -/
theorem mask (z : S1.Idx) (h1 : 1 ≤ (x1 z).toNat) (h2 : (x1 z).toNat ≤ 288) (t : Fin 512) (d : Fin 1024) :
    val_main_call1_v1 (F := Ideal) x1 (ix3 b t d) = if b.val < (x1 z).toNat then 1#1 else 0#1 := by
  have hz : ∀ w : S1.Idx, w = z := fun w => by
    funext x
    obtain rfl : x = 0 := Subsingleton.elim _ _
    exact (Subsingleton.elim (α := Fin 1) (w 0) (z 0))
  rw [val_main_call1_v1_apply, val_main_v73_apply, val_main_v72_apply, val_main_v69_apply, val_main_v71_apply]
  have hv : ∀ i, val_main_v70 (F := Ideal) x1 i = x1 z := fun i => congrArg x1 (hz _)
  rw [hv]
  show BitVec.ofBool ((BitVec.ofNat 32 b.val).slt (x1 z)) = _
  have hb : b.val < 288 := b.isLt
  have hn : (x1 z).toInt = ((x1 z).toNat : Int) := by
    rw [BitVec.toInt_eq_toNat_cond]; split <;> omega
  rw [BitVec.slt_eq_decide, WordCmp.toInt_ofNat_of_lt (by omega), hn]
  by_cases hlt : b.val < (x1 z).toNat
  · rw [if_pos hlt, decide_eq_true (by omega)]; rfl
  · rw [if_neg hlt, decide_eq_false (by omega)]; rfl

include h in
/-- The reference at a row and a column. -/
theorem result (z : S1.Idx) (h1 : 1 ≤ (x1 z).toNat) (h2 : (x1 z).toNat ≤ 288) (t : Fin 512) (d : Fin 1024) (R : Fin 147456)
    (hR : R.val = b.val * 512 + t.val) :
    val_main_v75 (F := Ideal) x0 x1 x2 x3 x4 x5 x6 x7 x8 (ix2 R d)
      = if b.val < (x1 z).toNat then
          out (fun k => x2 (ix2 R k)) (fun k f => x3 (ix3 e k f)) (fun k f => x4 (ix3 e k f)) (fun f => x5 (ix3 e (0 : Fin 1) f))
            (fun f => x6 (ix3 e (0 : Fin 1) f)) (fun f d => x7 (ix3 e f d)) (fun d => x8 (ix3 e (0 : Fin 1) d)) d
        else Ideal.ofBits .f32 0x00000000#32 := by
  rw [val_main_v75_apply, split b t d R hR, val_main_v74_apply, mask x1 b z h1 h2 t d, val_main_call1_v2_apply]
  by_cases hlt : b.val < (x1 z).toNat
  · rw [if_pos hlt, if_pos hlt, answer x0 x2 x3 x4 x5 x6 x7 x8 b e h t d R hR]
    rfl
  · rw [if_neg hlt, if_neg hlt]
    rfl

end Cert.Reference3Ideal.Rows

end
-- ==== Proof.LatentArray.lean ====
/-
  What the result array of the experts' call holds after the run: the reference's answer, row by row.
  (Of the second layer, whose rows are the latent ones only: 288 blocks.)
-/
module

public import proofs.«01_k».proof.Proof.LatentFrame
public import proofs.«01_k».proof.Proof.LatentTables
public import proofs.«01_k».proof.Proof.LatentBlock
public import proofs.«01_k».proof.Proof.LatentReference
public import Idealize.ShloMosaic.Lib.Pipeline.ValueKit

@[expose] public section

set_option maxRecDepth 16384

noncomputable section

namespace Cert.Kernel3Ideal.Experts

open Idealize.ShloMosaic Idealize.ShloMosaic.TcCoe Idealize.SL.Sem
open Cert.Kernel3Ideal Cert.Kernel3Ideal.Gen Cert.Swiglu

attribute [local irreducible] tbl

variable (m : (ℓ : Loc nD τ sig) → Buf (Elt Ideal) ℓ) (hO : Ok m) (c : Dev nD)

/-- The block of rows of point `t`, read at a row and a column. -/
theorem read0 (g : Good (experts (tbl m)) (used (tbl m))) (t : Fin (cfgM m hO).N) (r : Fin 512) (k : Fin 1024) (R : Fin 147456)
    (h : R.val = min t.val ((used (tbl m)).toNat - 1) * 512 + r.val) :
    iblk m hO c 0 t (ix2 r k) = m ((c : Thread nD τ).loc main_arg2) (ix2 R k) := by
  refine Eq.trans ?_ (congrFun (V_arg2 m c) _)
  have e : ((cfgM m hO).win 0).index t = ![min t.val ((used (tbl m)).toNat - 1), 0] := by
    rw [← coord_val t]; exact rows_val (tbl m) (grid0.coords t) g.pos g.le
  generalize min t.val ((used (tbl m)).toNat - 1) = q at e h
  blk_ext [iblk, e]

/-- The gate's matrix of point `t`. -/
theorem read1 (t : Fin (cfgM m hO).N) (e : Fin 64) (h : (experts (tbl m) (place (grid0.coords t))).toNat = e.val) (k f : Fin 1024) :
    iblk m hO c 1 t (ix3 (0 : Fin 1) k f) = m ((c : Thread nD τ).loc main_arg3) (ix3 e k f) := by
  refine Eq.trans ?_ (congrFun (V_arg3 m c) _)
  have he : ((cfgM m hO).win 1).index t = ![e.val, 0, 0] := by
    rw [← h]; exact expert1_val (tbl m) (grid0.coords t)
  blk_ext [iblk, he]

/-- The linear half's matrix of point `t`. -/
theorem read2 (t : Fin (cfgM m hO).N) (e : Fin 64) (h : (experts (tbl m) (place (grid0.coords t))).toNat = e.val) (k f : Fin 1024) :
    iblk m hO c 2 t (ix3 (0 : Fin 1) k f) = m ((c : Thread nD τ).loc main_arg4) (ix3 e k f) := by
  refine Eq.trans ?_ (congrFun (V_arg4 m c) _)
  have he : ((cfgM m hO).win 2).index t = ![e.val, 0, 0] := by
    rw [← h]; exact expert1_val (tbl m) (grid0.coords t)
  blk_ext [iblk, he]

/-- The gate's bias of point `t`. -/
theorem read3 (t : Fin (cfgM m hO).N) (e : Fin 64) (h : (experts (tbl m) (place (grid0.coords t))).toNat = e.val) (f : Fin 1024) :
    iblk m hO c 3 t (ix3 (0 : Fin 1) (0 : Fin 1) f) = m ((c : Thread nD τ).loc main_arg5) (ix3 e (0 : Fin 1) f) := by
  refine Eq.trans ?_ (congrFun (V_arg5 m c) _)
  have he : ((cfgM m hO).win 3).index t = ![e.val, 0, 0] := by
    rw [← h]; exact expert3_val (tbl m) (grid0.coords t)
  blk_ext [iblk, he]

/-- The linear half's bias of point `t`. -/
theorem read4 (t : Fin (cfgM m hO).N) (e : Fin 64) (h : (experts (tbl m) (place (grid0.coords t))).toNat = e.val) (f : Fin 1024) :
    iblk m hO c 4 t (ix3 (0 : Fin 1) (0 : Fin 1) f) = m ((c : Thread nD τ).loc main_arg6) (ix3 e (0 : Fin 1) f) := by
  refine Eq.trans ?_ (congrFun (V_arg6 m c) _)
  have he : ((cfgM m hO).win 4).index t = ![e.val, 0, 0] := by
    rw [← h]; exact expert3_val (tbl m) (grid0.coords t)
  blk_ext [iblk, he]

/-- The down-projection of point `t`. -/
theorem read5 (t : Fin (cfgM m hO).N) (e : Fin 64) (h : (experts (tbl m) (place (grid0.coords t))).toNat = e.val) (f d : Fin 1024) :
    iblk m hO c 5 t (ix3 (0 : Fin 1) f d) = m ((c : Thread nD τ).loc main_arg7) (ix3 e f d) := by
  refine Eq.trans ?_ (congrFun (V_arg7 m c) _)
  have he : ((cfgM m hO).win 5).index t = ![e.val, 0, 0] := by
    rw [← h]; exact expert1_val (tbl m) (grid0.coords t)
  blk_ext [iblk, he]

/-- The down-projection's bias of point `t`. -/
theorem read6 (t : Fin (cfgM m hO).N) (e : Fin 64) (h : (experts (tbl m) (place (grid0.coords t))).toNat = e.val) (d : Fin 1024) :
    iblk m hO c 6 t (ix3 (0 : Fin 1) (0 : Fin 1) d) = m ((c : Thread nD τ).loc main_arg8) (ix3 e (0 : Fin 1) d) := by
  refine Eq.trans ?_ (congrFun (V_arg8 m c) _)
  have he : ((cfgM m hO).win 6).index t = ![e.val, 0, 0] := by
    rw [← h]; exact expert3_val (tbl m) (grid0.coords t)
  blk_ext [iblk, he]

/-- The result's block of point `t` is the `t`-th. -/
theorem index7 (t : Fin (cfgM m hO).N) : ((cfgM m hO).win 7).index t = ![t.val, 0] := by
  show cc0_transform_7 (grid0.coords t) = _
  have h := coord_val t
  have hl : t.val < 288 := lt_of_lt_of_eq t.isLt N_0
  unfold cc0_transform_7
  dsimp only
  rw [h, BitVec.toNat_ofNat, Nat.mod_eq_of_lt (by omega)]
  rfl

/-- Every point writes its block back. -/
theorem flush7 (t : Fin (cfgM m hO).N) : ((cfgM m hO).win 7).flush t = true :=
  (fun t => (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _)
    : ∀ t : Fin grid0.N, Pipeline.Window.flushOf grid0 true cc0_transform_7 t = true) t

/-- Every element of the result is in some point's block. -/
theorem cover7 (i : S147456x1024.Idx) : ∃ t : Fin (cfgM m hO).N, ((cfgM m hO).win 7).flush t = true ∧ i ∈ (((cfgM m hO).win 7).blk t).view.set := by
  have h0 : (i 0).val < 147456 := (i 0).isLt
  have h1 : (i 1).val < 1024 := (i 1).isLt
  refine ⟨⟨(i 0).val / 512, lt_of_lt_of_eq (by omega : (i 0).val / 512 < 288) N_0.symm⟩, flush7 m hO _, ?_⟩
  have e := index7 m hO ⟨(i 0).val / 512, lt_of_lt_of_eq (by omega : (i 0).val / 512 < 288) N_0.symm⟩
  refine (Pipeline.Window.emb_mem_blk_iff ((cfgM m hO).win 7) _ i rfl).mpr fun a => ?_
  rw [e]
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- The run's block at a row and a column is the reference's row. -/
theorem block_eq (g : Good (experts (tbl m)) (used (tbl m))) (z : S1.Idx)
    (hb : ∀ b, ((m (((0 : Dev nD) : Thread nD τ).loc main_arg0) : IVec S288 32) b).toNat < 64)
    (h1 : 1 ≤ ((m (((0 : Dev nD) : Thread nD τ).loc main_arg1) : IVec S1 32) z).toNat)
    (h2 : ((m (((0 : Dev nD) : Thread nD τ).loc main_arg1) : IVec S1 32) z).toNat ≤ 288)
    (t : Fin (cfgM m hO).N) (r : Fin 512) (d : Fin 1024) (R : Fin 147456) (hR : R.val = t.val * 512 + r.val) :
    outAt m hO (0 : Dev nD) t (ix2 r d)
      = Cert.Reference3Ideal.Read.val_main_v75 (F := Ideal) (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) (m (((0 : Dev nD) : Thread nD τ).loc main_arg4))
          (m (((0 : Dev nD) : Thread nD τ).loc main_arg5)) (m (((0 : Dev nD) : Thread nD τ).loc main_arg6)) (m (((0 : Dev nD) : Thread nD τ).loc main_arg7))
          (m (((0 : Dev nD) : Thread nD τ).loc main_arg8)) (ix2 R d) := by
  have hl : t.val < 288 := lt_of_lt_of_eq t.isLt N_0
  have hu := used_tbl m z
  have hc := cond2_iff (grid0.coords t) (used (tbl m)) g.le
  have ht := coord_val t
  rw [Cert.Reference3Ideal.Rows.result _ _ _ _ _ _ _ _ _ ⟨t.val, hl⟩
    ⟨((m (((0 : Dev nD) : Thread nD τ).loc main_arg0) : IVec S288 32) (ix1 (⟨t.val, hl⟩ : Fin 288))).toNat, hb _⟩ rfl z h1 h2 r d R hR]
  unfold outAt
  by_cases hlt : t.val < ((m (((0 : Dev nD) : Thread nD τ).loc main_arg1) : IVec S1 32) z).toNat
  · have hlt' : t.val < (used (tbl m)).toNat := by rw [hu]; exact hlt
    rw [if_pos (hc.mpr (by rw [ht]; exact hlt')), if_pos hlt]
    unfold keptAt
    refine (block_val _ _ _ _ _ _ _ r d).trans ?_
    have hx : (experts (tbl m) (place (grid0.coords t))).toNat
        = ((m (((0 : Dev nD) : Thread nD τ).loc main_arg0) : IVec S288 32) (ix1 (⟨t.val, hl⟩ : Fin 288))).toNat :=
      congrArg BitVec.toNat (experts_tbl m z h1 h2 (place (grid0.coords t)) (ix1 (⟨t.val, hl⟩ : Fin 288)) (by
        show t.val = min (grid0.coords t 0).val _
        rw [ht]; omega))
    have hR' : R.val = min t.val ((used (tbl m)).toNat - 1) * 512 + r.val := by
      rw [Nat.min_eq_left (by omega)]; exact hR
    simp only [read0 m hO (0 : Dev nD) g t r _ R hR', read1 m hO (0 : Dev nD) t ⟨_, hb _⟩ hx, read2 m hO (0 : Dev nD) t ⟨_, hb _⟩ hx,
      read3 m hO (0 : Dev nD) t ⟨_, hb _⟩ hx, read4 m hO (0 : Dev nD) t ⟨_, hb _⟩ hx, read5 m hO (0 : Dev nD) t ⟨_, hb _⟩ hx,
      read6 m hO (0 : Dev nD) t ⟨_, hb _⟩ hx]
  · have hlt' : ¬ t.val < (used (tbl m)).toNat := by rw [hu]; exact hlt
    rw [if_neg (fun h => hlt' (by rw [← ht]; exact hc.mp h)), if_neg hlt, zero_val]

/-- After the run the result array holds the reference's answer. -/
theorem array_eq (g : Good (experts (tbl m)) (used (tbl m))) (z : S1.Idx)
    (hb : ∀ b, ((m (((0 : Dev nD) : Thread nD τ).loc main_arg0) : IVec S288 32) b).toNat < 64)
    (h1 : 1 ≤ ((m (((0 : Dev nD) : Thread nD τ).loc main_arg1) : IVec S1 32) z).toNat)
    (h2 : ((m (((0 : Dev nD) : Thread nD τ).loc main_arg1) : IVec S1 32) z).toNat ≤ 288) :
    (dats m hO 0 (0 : Dev nD)).arrAt 7 (cfgM m hO).N
      = Cert.Reference3Ideal.Read.val_main_v75 (F := Ideal) (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) (m (((0 : Dev nD) : Thread nD τ).loc main_arg4))
          (m (((0 : Dev nD) : Thread nD τ).loc main_arg5)) (m (((0 : Dev nD) : Thread nD τ).loc main_arg6)) (m (((0 : Dev nD) : Thread nD τ).loc main_arg7))
          (m (((0 : Dev nD) : Thread nD τ).loc main_arg8)) := by
  refine (dats m hO 0 (0 : Dev nD)).arrAt_eq_of_emb 7 _ (fun t hf (y : S512x1024.Idx) => ?_) (cover7 m hO)
  have e := index7 m hO t
  have hl : t.val < 288 := lt_of_lt_of_eq t.isLt N_0
  have hy0 : (y 0).val < 512 := (y 0).isLt
  have hy : (y : S512x1024.Idx) = ix2 (y 0) (y 1) := by
    funext a
    match a with
    | ⟨0, _⟩ => rfl
    | ⟨1, _⟩ => rfl
  have hi : (((cfgM m hO).win 7).blk t).view.emb y = ix2 (⟨t.val * 512 + (y 0).val, by omega⟩ : Fin 147456) (y 1) := by
    funext a; apply Fin.ext
    refine (Rect.emb_apply (((cfgM m hO).win 7).rect t) y a).trans ?_
    show ((cfgM m hO).win 7).kind.off (((cfgM m hO).win 7).index t a) (((cfgM m hO).win 7).size a) + 1 * (y a).val = _
    rw [e]
    match a with
    | ⟨0, _⟩ => show t.val * 512 + 1 * (y 0).val = t.val * 512 + (y 0).val; omega
    | ⟨1, _⟩ => show 0 * 1024 + 1 * (y 1).val = (y 1).val; omega
  rw [hi, after7]
  exact (congrArg (outAt m hO (0 : Dev nD) t) hy).trans (block_eq m hO g z hb h1 h2 t (y 0) (y 1) _ rfl)

/-- Every execution of the call ends with its result array as the pipeline leaves it and its arguments unchanged. -/
theorem run_result (ρ : Dev nD → PrngReg) (g : Good (experts (tbl m)) (used (tbl m))) :
    θ_run defs (onTc (τ := τ) (main (F := Ideal))) ⟨m, fun _ => 0, ρ⟩ (fun r => ∀ c : Dev nD,
      r.2.mem ((c.tc : Thread nD τ).loc main_v12) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  have hr := (θ_run defs _ _).mono (fun _ h => h.1) (run_main m ρ hO g)
  have hf := (θ_run defs _ _).mono (fun _ h => h.1) (frame m ρ g)
  (θ_run defs _ _).mono (fun r h c => ⟨(h.1 c).1 7, h.2 c⟩) (θ_run_and hr hf)

end Cert.Kernel3Ideal.Experts

end
-- ==== Proof.OutRow.lean ====
/-
  One row through the output projection: the normalised and gated heads, the projection of the three mixers, the gated
  residual, and the modulated norm.
-/
module

public import Idealize.ShloMosaic.PureOps.Ideal
public import Idealize.ShloMosaic.Lib.Pipeline.ValueKit

@[expose] public section

noncomputable section

namespace Cert.OutRow

open Idealize.ShloMosaic

/-- The norm's floor, and the two row lengths, as their words read. -/
def eps : EReal := Ideal.ofBits .f32 0x358637BD#32
def len128 : EReal := Ideal.ofBits .f32 0x43000000#32
def len1024 : EReal := Ideal.ofBits .f32 0x44800000#32

/-- The reciprocal root of a sum of squares over a length. -/
def scale (n s : EReal) : EReal := Ideal.rsqrt (Ideal.div s n + eps)

/-- Entry `j` of the head of entry `k`. -/
def lane (k : Fin 512) (j : Fin 128) : Fin 512 := ⟨k.val / 128 * 128 + j.val, by omega⟩

/-- The heads' outputs, each head normalised, with the gain `g` and the gate `z`. -/
def gated (o z g : Fin 512 → EReal) (k : Fin 512) : EReal :=
  o k * scale len128 (∑ j, o (lane k j) * o (lane k j)) * g k * (z k * Ideal.logistic (z k))

/-- The projection of the three mixers' rows. -/
def proj (a : Fin 256 → EReal) (b c : Fin 512 → EReal) (wa : Fin 256 → Fin 1024 → EReal) (wb wc : Fin 512 → Fin 1024 → EReal)
    (d : Fin 1024) : EReal :=
  ∑ k, a k * wa k d + ∑ k, b k * wb k d + ∑ k, c k * wc k d

/-- The residual: the row `x` plus the gate times the projection. -/
def resid (x g y : Fin 1024 → EReal) (d : Fin 1024) : EReal := x d + g d * y d

/-- The modulated norm of a row. -/
def normed (x g s b : Fin 1024 → EReal) (d : Fin 1024) : EReal :=
  x d * scale len1024 (∑ j, x j * x j) * g d * (1 + s d) + b d

end Cert.OutRow

end
-- ==== Proof.OutBlock.lean ====
/-
  The two blocks the output projection's body leaves: each row through the row formulas.
-/
module

public import proofs.«01_k».proof.Proof.Gen.Kernel4Ideal.Value
public import proofs.«01_k».proof.Proof.OutRow

@[expose] public section

set_option maxRecDepth 16384

noncomputable section

namespace Cert.Kernel4Ideal.Block

open Idealize.ShloMosaic Idealize.ShloMosaic.TcCoe Idealize.SL.Sem
open Cert.Kernel4Ideal Cert.Kernel4Ideal.Gen Cert.OutRow

/-- The bits a lane's own sum reads, from any spelling of the lane's indices. -/
theorem head (o : Fin 512 → EReal) (k q : Fin 512) (f : Fin 128 → Fin 512) (hq : q.val = k.val)
    (hf : ∀ j, (f j).val = k.val / 128 * 128 + j.val) :
    o q * Ideal.rsqrt (Ideal.div (∑ j, o (f j) * o (f j)) (Ideal.ofBits .f32 0x43000000#32) + Ideal.ofBits .f32 0x358637BD#32)
      = o k * scale len128 (∑ j, o (lane k j) * o (lane k j)) := by
  obtain rfl : q = k := Fin.ext hq
  obtain rfl : f = lane q := funext fun j => Fin.ext (hf j)
  rfl

/-- The upper row group's projection. -/
theorem proj0 (O P Z : FVec Ideal S256x512 .f32) (G : FVec Ideal S1x512 .f32)
    (OA : FVec Ideal S256x256 .bf16) (WA : FVec Ideal S256x1024 .bf16) (WB : FVec Ideal S512x1024 .bf16)
    (OC : FVec Ideal S256x512 .bf16) (WC : FVec Ideal S512x1024 .bf16) (r : Fin 256) (d : Fin 1024) :
    k0_pay9 (F := Ideal) Z (k0_pay4 O P) (k0_pay5 O P) (k0_pay6 O P) (k0_pay7 O P) (k0_pay8 O P) G OA WA WB OC WC (ix2 r d)
      = proj (fun k => OA (ix2 r k)) (gated (fun k => O (ix2 r k) + P (ix2 r k)) (fun k => Z (ix2 r k)) (fun k => G (ix2 0 k)))
          (fun k => OC (ix2 r k)) (fun k j => WA (ix2 k j)) (fun k j => WB (ix2 k j)) (fun k j => WC (ix2 k j)) d := by
  pointwise [k0_pay9, k0_pay4, k0_pay5, k0_pay6, k0_pay7, k0_pay8, k0_pay3]
  unfold proj gated
  refine congrArg (· + _) (congrArg (_ + ·) (Finset.sum_congr rfl fun k _ => ?_))
  refine congrArg (· * _) (congrArg (· * _) (congrArg (· * _) ?_))
  have hk := k.isLt
  split
  · exact head (fun k => O (ix2 r k) + P (ix2 r k)) k _ _ (by simp only []) (fun j => by simp only []; omega)
  split
  · exact head (fun k => O (ix2 r k) + P (ix2 r k)) k _ _ (by simp only []; omega) (fun j => by simp only []; omega)
  split
  · exact head (fun k => O (ix2 r k) + P (ix2 r k)) k _ _ (by simp only []; omega) (fun j => by simp only []; omega)
  · exact head (fun k => O (ix2 r k) + P (ix2 r k)) k _ _ (by simp only []; omega) (fun j => by simp only []; omega)

/-- The lower row group's projection. -/
theorem proj1 (O P Z : FVec Ideal S256x512 .f32) (G : FVec Ideal S1x512 .f32)
    (OA : FVec Ideal S256x256 .bf16) (WA : FVec Ideal S256x1024 .bf16) (WB : FVec Ideal S512x1024 .bf16)
    (OC : FVec Ideal S256x512 .bf16) (WC : FVec Ideal S512x1024 .bf16) (r : Fin 256) (d : Fin 1024) :
    k0_pay15 (F := Ideal) Z (k0_pay13 (k0_pay10 O P) (k0_pay11 O P) (k0_pay12 O P) G) (k0_pay14 Z) OA WA WB OC WC (ix2 r d)
      = proj (fun k => OA (ix2 r k)) (gated (fun k => O (ix2 r k) + P (ix2 r k)) (fun k => Z (ix2 r k)) (fun k => G (ix2 0 k)))
          (fun k => OC (ix2 r k)) (fun k j => WA (ix2 k j)) (fun k j => WB (ix2 k j)) (fun k j => WC (ix2 k j)) d := by
  pointwise [k0_pay15, k0_pay13, k0_pay10, k0_pay11, k0_pay12, k0_pay14]
  unfold proj gated
  refine congrArg (· + _) (congrArg (_ + ·) (Finset.sum_congr rfl fun k _ => ?_))
  refine congrArg (· * _) (congrArg (· * _) (congrArg (· * _) ?_))
  have hk := k.isLt
  split
  · exact head (fun k => O (ix2 r k) + P (ix2 r k)) k _ _ (by simp only []) (fun j => by simp only []; omega)
  split
  · exact head (fun k => O (ix2 r k) + P (ix2 r k)) k _ _ (by simp only []; omega) (fun j => by simp only []; omega)
  split
  · exact head (fun k => O (ix2 r k) + P (ix2 r k)) k _ _ (by simp only []; omega) (fun j => by simp only []; omega)
  · exact head (fun k => O (ix2 r k) + P (ix2 r k)) k _ _ (by simp only []; omega) (fun j => by simp only []; omega)

/-- The row a tile adds to: a latent one below tile 64. -/
def base (n : ℕ) (x y : EReal) : EReal := if n < 64 then x else y

theorem select_tile (n : ℕ) (h : n < 72) (x y : EReal) :
    Scalar.select (IntOp.cmpi CmpIPredicate.slt (IntOp.addi (0#32) (BitVec.ofNat 32 n)) 64#32) x y = base n x y := by
  unfold base
  interval_cases n <;> rfl

/-- The upper row group's residual. -/
theorem resid0 (n : ℕ) (h : n < 72) (M : FVec Ideal S1x6x1024 .f32) (Y X1 X2 : FVec Ideal S256x1024 .f32) (r : Fin 256) (d : Fin 1024) :
    k0_pay16 (F := Ideal) (BitVec.ofNat 32 n) (k0_pay2 M) Y X1 X2 (ix2 r d)
      = resid (fun d => base n (X1 (ix2 r d)) (X2 (ix2 r d))) (fun d => M (ix3 0 2 d)) (fun d => Y (ix2 r d)) d := by
  pointwise [k0_pay16, k0_pay2]
  rw [select_tile n h]
  rfl

theorem resid1 (n : ℕ) (h : n < 72) (M : FVec Ideal S1x6x1024 .f32) (Y X1 X2 : FVec Ideal S256x1024 .f32) (r : Fin 256) (d : Fin 1024) :
    k0_pay22 (F := Ideal) (BitVec.ofNat 32 n) (k0_pay2 M) Y X1 X2 (ix2 r d)
      = resid (fun d => base n (X1 (ix2 r d)) (X2 (ix2 r d))) (fun d => M (ix3 0 2 d)) (fun d => Y (ix2 r d)) d := by
  pointwise [k0_pay22, k0_pay2]
  rw [select_tile n h]
  rfl

/-- The upper row group's modulated norm. -/
theorem normed0 (i : BitVec 32) (M : FVec Ideal S1x6x1024 .f32) (G : FVec Ideal S1x1024 .f32) (Y X1 X2 : FVec Ideal S256x1024 .f32)
    (r : Fin 256) (d : Fin 1024) :
    k0_pay21 (F := Ideal) (k0_pay16 i (k0_pay2 M) Y X1 X2) (k0_pay17 G) (k0_pay18 (k0_pay2 M)) (k0_pay19 (k0_pay2 M))
        (k0_pay20 i (k0_pay2 M) Y X1 X2) (ix2 r d)
      = normed (fun d => k0_pay16 (F := Ideal) i (k0_pay2 M) Y X1 X2 (ix2 r d)) (fun d => G (ix2 0 d)) (fun d => M (ix3 0 4 d))
          (fun d => M (ix3 0 3 d)) d := by
  unfold k0_pay20
  generalize k0_pay16 (F := Ideal) i (k0_pay2 M) Y X1 X2 = X
  pointwise [k0_pay21, k0_pay17, k0_pay18, k0_pay19, k0_pay2]
  rfl

theorem normed1 (i : BitVec 32) (M : FVec Ideal S1x6x1024 .f32) (G : FVec Ideal S1x1024 .f32) (Y X1 X2 : FVec Ideal S256x1024 .f32)
    (r : Fin 256) (d : Fin 1024) :
    k0_pay1 (F := Ideal) (k0_pay22 i (k0_pay2 M) Y X1 X2) (k0_pay23 G) (k0_pay24 (k0_pay2 M)) (k0_pay25 (k0_pay2 M))
        (k0_pay26 i (k0_pay2 M) Y X1 X2) (Scalar.ofBits .f32 0x358637BD#32) (ix2 r d)
      = normed (fun d => k0_pay22 (F := Ideal) i (k0_pay2 M) Y X1 X2 (ix2 r d)) (fun d => G (ix2 0 d)) (fun d => M (ix3 0 4 d))
          (fun d => M (ix3 0 3 d)) d := by
  unfold k0_pay26
  generalize k0_pay22 (F := Ideal) i (k0_pay2 M) Y X1 X2 = X
  pointwise [k0_pay1, k0_pay23, k0_pay24, k0_pay25, k0_pay2]
  rfl

/-- Row `r` of the first result's block. -/
def rowX (n : ℕ) (X0 : FVec Ideal S512x256 .bf16) (X1 X2 X3 : FVec Ideal S512x512 .f32) (X4 : FVec Ideal S512x512 .bf16)
    (X5 X6 : FVec Ideal S512x1024 .f32) (X7 : FVec Ideal S256x1024 .bf16) (X8 X9 : FVec Ideal S512x1024 .bf16)
    (X10 : FVec Ideal S1x512 .f32) (X12 : FVec Ideal S1x6x1024 .f32) (r : Fin 512) (d : Fin 1024) : EReal :=
  resid (fun d => base n (X5 (ix2 r d)) (X6 (ix2 r d))) (fun d => X12 (ix3 0 2 d))
    (fun d => proj (fun k => X0 (ix2 r k)) (gated (fun k => X1 (ix2 r k) + X2 (ix2 r k)) (fun k => X3 (ix2 r k)) (fun k => X10 (ix2 0 k)))
      (fun k => X4 (ix2 r k)) (fun k j => X7 (ix2 k j)) (fun k j => X8 (ix2 k j)) (fun k j => X9 (ix2 k j)) d) d

/-- Row `r` of the second result's block, from the first's row. -/
def rowH (X : Fin 1024 → EReal) (X11 : FVec Ideal S1x1024 .f32) (X12 : FVec Ideal S1x6x1024 .f32) (d : Fin 1024) : EReal :=
  normed X (fun d => X11 (ix2 0 d)) (fun d => X12 (ix3 0 4 d)) (fun d => X12 (ix3 0 3 d)) d

/-- A row of the upper row group, and one of the lower. -/
def upper (r : Fin 256) : Fin 512 := ⟨r.val, by omega⟩
def lower (r : Fin 256) : Fin 512 := ⟨256 + r.val, by omega⟩

theorem ld0 (x : Vec Ideal S1x6x1024 .f32) (q : Fin 6) (d : Fin 1024) : View.ld (Val := Elt Ideal) x r0_0 (ix3 0 q d) = x (ix3 0 q d) :=
  View.ld_unit_apply_of x _ _ _ _ _ fun a => match a with | ⟨0, _⟩ => rfl | ⟨1, _⟩ => by show q.val = 0 + q.val; omega | ⟨2, _⟩ => by show d.val = 0 + d.val; omega
theorem ld1 (x : Vec Ideal S512x512 .f32) (r : Fin 256) (d : Fin 512) : View.ld (Val := Elt Ideal) x r0_1 (ix2 r d) = x (ix2 (upper r) d) :=
  View.ld_unit_apply_of x _ _ _ _ _ fun a => match a with | ⟨0, _⟩ => by show r.val = 0 + r.val; omega | ⟨1, _⟩ => by show d.val = 0 + d.val; omega
theorem ld1b (x : Vec Ideal S512x512 .bf16) (r : Fin 256) (d : Fin 512) : View.ld (Val := Elt Ideal) x r0_1 (ix2 r d) = x (ix2 (upper r) d) :=
  View.ld_unit_apply_of x _ _ _ _ _ fun a => match a with | ⟨0, _⟩ => by show r.val = 0 + r.val; omega | ⟨1, _⟩ => by show d.val = 0 + d.val; omega
theorem ld2 (x : Vec Ideal S1x512 .f32) (d : Fin 512) : View.ld (Val := Elt Ideal) x r0_2 (ix2 0 d) = x (ix2 0 d) :=
  View.ld_unit_apply_of x _ _ _ _ _ fun a => match a with | ⟨0, _⟩ => rfl | ⟨1, _⟩ => by show d.val = 0 + d.val; omega
theorem ld3 (x : Vec Ideal S512x256 .bf16) (r : Fin 256) (d : Fin 256) : View.ld (Val := Elt Ideal) x r0_3 (ix2 r d) = x (ix2 (upper r) d) :=
  View.ld_unit_apply_of x _ _ _ _ _ fun a => match a with | ⟨0, _⟩ => by show r.val = 0 + r.val; omega | ⟨1, _⟩ => by show d.val = 0 + d.val; omega
theorem ld4 (x : Vec Ideal S256x1024 .bf16) (r : Fin 256) (d : Fin 1024) : View.ld (Val := Elt Ideal) x r0_4 (ix2 r d) = x (ix2 r d) :=
  View.ld_unit_apply_of x _ _ _ _ _ fun a => match a with | ⟨0, _⟩ => by show r.val = 0 + r.val; omega | ⟨1, _⟩ => by show d.val = 0 + d.val; omega
theorem ld5 (x : Vec Ideal S512x1024 .bf16) (r : Fin 512) (d : Fin 1024) : View.ld (Val := Elt Ideal) x r0_5 (ix2 r d) = x (ix2 r d) :=
  View.ld_unit_apply_of x _ _ _ _ _ fun a => match a with | ⟨0, _⟩ => by show r.val = 0 + r.val; omega | ⟨1, _⟩ => by show d.val = 0 + d.val; omega
theorem ld6 (x : Vec Ideal S512x512 .f32) (r : Fin 256) (d : Fin 512) : View.ld (Val := Elt Ideal) x r0_6 (ix2 r d) = x (ix2 (lower r) d) :=
  View.ld_unit_apply_of x _ _ _ _ _ fun a => match a with | ⟨0, _⟩ => rfl | ⟨1, _⟩ => by show d.val = 0 + d.val; omega
theorem ld6b (x : Vec Ideal S512x512 .bf16) (r : Fin 256) (d : Fin 512) : View.ld (Val := Elt Ideal) x r0_6 (ix2 r d) = x (ix2 (lower r) d) :=
  View.ld_unit_apply_of x _ _ _ _ _ fun a => match a with | ⟨0, _⟩ => rfl | ⟨1, _⟩ => by show d.val = 0 + d.val; omega
theorem ld7 (x : Vec Ideal S512x256 .bf16) (r : Fin 256) (d : Fin 256) : View.ld (Val := Elt Ideal) x r0_7 (ix2 r d) = x (ix2 (lower r) d) :=
  View.ld_unit_apply_of x _ _ _ _ _ fun a => match a with | ⟨0, _⟩ => rfl | ⟨1, _⟩ => by show d.val = 0 + d.val; omega
theorem ld8 (x : Vec Ideal S512x1024 .f32) (r : Fin 256) (d : Fin 1024) : View.ld (Val := Elt Ideal) x r0_8 (ix2 r d) = x (ix2 (upper r) d) :=
  View.ld_unit_apply_of x _ _ _ _ _ fun a => match a with | ⟨0, _⟩ => by show r.val = 0 + r.val; omega | ⟨1, _⟩ => by show d.val = 0 + d.val; omega
theorem ld9 (x : Vec Ideal S1x1024 .f32) (d : Fin 1024) : View.ld (Val := Elt Ideal) x r0_9 (ix2 0 d) = x (ix2 0 d) :=
  View.ld_unit_apply_of x _ _ _ _ _ fun a => match a with | ⟨0, _⟩ => rfl | ⟨1, _⟩ => by show d.val = 0 + d.val; omega
theorem ld10 (x : Vec Ideal S512x1024 .f32) (r : Fin 256) (d : Fin 1024) : View.ld (Val := Elt Ideal) x r0_10 (ix2 r d) = x (ix2 (lower r) d) :=
  View.ld_unit_apply_of x _ _ _ _ _ fun a => match a with | ⟨0, _⟩ => rfl | ⟨1, _⟩ => by show d.val = 0 + d.val; omega

/-- The upper row group's residual row, from vectors that read the blocks at its rows. -/
theorem gather0 (n : ℕ) (h : n < 72) (X0 : FVec Ideal S512x256 .bf16) (X1 X2 X3 : FVec Ideal S512x512 .f32) (X4 : FVec Ideal S512x512 .bf16)
    (X5 X6 : FVec Ideal S512x1024 .f32) (X7 : FVec Ideal S256x1024 .bf16) (X8 X9 : FVec Ideal S512x1024 .bf16)
    (X10 : FVec Ideal S1x512 .f32) (X12 : FVec Ideal S1x6x1024 .f32) (r : Fin 256) (d : Fin 1024)
    (Y0 : FVec Ideal S256x256 .bf16) (Y1 Y2 Y3 : FVec Ideal S256x512 .f32) (Y4 : FVec Ideal S256x512 .bf16)
    (Y5 Y6 : FVec Ideal S256x1024 .f32) (Y7 : FVec Ideal S256x1024 .bf16) (Y8 Y9 : FVec Ideal S512x1024 .bf16)
    (Y10 : FVec Ideal S1x512 .f32) (Y12 : FVec Ideal S1x6x1024 .f32)
    (h0 : ∀ r d, Y0 (ix2 r d) = X0 (ix2 (upper r) d)) (h1 : ∀ r d, Y1 (ix2 r d) = X1 (ix2 (upper r) d))
    (h2 : ∀ r d, Y2 (ix2 r d) = X2 (ix2 (upper r) d)) (h3 : ∀ r d, Y3 (ix2 r d) = X3 (ix2 (upper r) d))
    (h4 : ∀ r d, Y4 (ix2 r d) = X4 (ix2 (upper r) d)) (h5 : ∀ r d, Y5 (ix2 r d) = X5 (ix2 (upper r) d))
    (h6 : ∀ r d, Y6 (ix2 r d) = X6 (ix2 (upper r) d)) (h7 : ∀ r d, Y7 (ix2 r d) = X7 (ix2 r d))
    (h8 : ∀ r d, Y8 (ix2 r d) = X8 (ix2 r d)) (h9 : ∀ r d, Y9 (ix2 r d) = X9 (ix2 r d))
    (h10 : ∀ d, Y10 (ix2 0 d) = X10 (ix2 0 d)) (h12 : ∀ a d, Y12 (ix3 0 a d) = X12 (ix3 0 a d)) :
    k0_pay16 (F := Ideal) (BitVec.ofNat 32 n) (k0_pay2 Y12)
        (k0_pay9 Y3 (k0_pay4 Y1 Y2) (k0_pay5 Y1 Y2) (k0_pay6 Y1 Y2) (k0_pay7 Y1 Y2) (k0_pay8 Y1 Y2) Y10 Y0 Y7 Y8 Y4 Y9) Y5 Y6 (ix2 r d)
      = rowX n X0 X1 X2 X3 X4 X5 X6 X7 X8 X9 X10 X12 (upper r) d := by
  refine (resid0 _ h _ _ _ _ r d).trans ?_
  simp only [proj0, h0, h1, h2, h3, h4, h5, h6, h7, h8, h9, h10, h12]
  rfl

/-- The lower row group's residual row, from vectors that read the blocks at its rows. -/
theorem gather1 (n : ℕ) (h : n < 72) (X0 : FVec Ideal S512x256 .bf16) (X1 X2 X3 : FVec Ideal S512x512 .f32) (X4 : FVec Ideal S512x512 .bf16)
    (X5 X6 : FVec Ideal S512x1024 .f32) (X7 : FVec Ideal S256x1024 .bf16) (X8 X9 : FVec Ideal S512x1024 .bf16)
    (X10 : FVec Ideal S1x512 .f32) (X12 : FVec Ideal S1x6x1024 .f32) (r : Fin 256) (d : Fin 1024)
    (Y0 : FVec Ideal S256x256 .bf16) (Y1 Y2 Y3 : FVec Ideal S256x512 .f32) (Y4 : FVec Ideal S256x512 .bf16)
    (Y5 Y6 : FVec Ideal S256x1024 .f32) (Y7 : FVec Ideal S256x1024 .bf16) (Y8 Y9 : FVec Ideal S512x1024 .bf16)
    (Y10 : FVec Ideal S1x512 .f32) (Y12 : FVec Ideal S1x6x1024 .f32)
    (h0 : ∀ r d, Y0 (ix2 r d) = X0 (ix2 (lower r) d)) (h1 : ∀ r d, Y1 (ix2 r d) = X1 (ix2 (lower r) d))
    (h2 : ∀ r d, Y2 (ix2 r d) = X2 (ix2 (lower r) d)) (h3 : ∀ r d, Y3 (ix2 r d) = X3 (ix2 (lower r) d))
    (h4 : ∀ r d, Y4 (ix2 r d) = X4 (ix2 (lower r) d)) (h5 : ∀ r d, Y5 (ix2 r d) = X5 (ix2 (lower r) d))
    (h6 : ∀ r d, Y6 (ix2 r d) = X6 (ix2 (lower r) d)) (h7 : ∀ r d, Y7 (ix2 r d) = X7 (ix2 r d))
    (h8 : ∀ r d, Y8 (ix2 r d) = X8 (ix2 r d)) (h9 : ∀ r d, Y9 (ix2 r d) = X9 (ix2 r d))
    (h10 : ∀ d, Y10 (ix2 0 d) = X10 (ix2 0 d)) (h12 : ∀ a d, Y12 (ix3 0 a d) = X12 (ix3 0 a d)) :
    k0_pay22 (F := Ideal) (BitVec.ofNat 32 n) (k0_pay2 Y12)
        (k0_pay15 Y3 (k0_pay13 (k0_pay10 Y1 Y2) (k0_pay11 Y1 Y2) (k0_pay12 Y1 Y2) Y10) (k0_pay14 Y3) Y0 Y7 Y8 Y4 Y9) Y5 Y6 (ix2 r d)
      = rowX n X0 X1 X2 X3 X4 X5 X6 X7 X8 X9 X10 X12 (lower r) d := by
  refine (resid1 _ h _ _ _ _ r d).trans ?_
  simp only [proj1, h0, h1, h2, h3, h4, h5, h6, h7, h8, h9, h10, h12]
  rfl

theorem rows0 (n : ℕ) (h : n < 72) (X0 : FVec Ideal S512x256 .bf16) (X1 X2 X3 : FVec Ideal S512x512 .f32) (X4 : FVec Ideal S512x512 .bf16)
    (X5 X6 : FVec Ideal S512x1024 .f32) (X7 : FVec Ideal S256x1024 .bf16) (X8 X9 : FVec Ideal S512x1024 .bf16)
    (X10 : FVec Ideal S1x512 .f32) (X12 : FVec Ideal S1x6x1024 .f32) (r : Fin 256) (d : Fin 1024) :
    k0_pay16 (F := Ideal) (BitVec.ofNat 32 n) (k0_pay2 (View.ld (Val := Elt Ideal) X12 r0_0))
        (k0_pay9 (View.ld (Val := Elt Ideal) X3 r0_1) (k0_pay4 (View.ld (Val := Elt Ideal) X1 r0_1) (View.ld (Val := Elt Ideal) X2 r0_1)) (k0_pay5 (View.ld (Val := Elt Ideal) X1 r0_1) (View.ld (Val := Elt Ideal) X2 r0_1))
          (k0_pay6 (View.ld (Val := Elt Ideal) X1 r0_1) (View.ld (Val := Elt Ideal) X2 r0_1)) (k0_pay7 (View.ld (Val := Elt Ideal) X1 r0_1) (View.ld (Val := Elt Ideal) X2 r0_1))
          (k0_pay8 (View.ld (Val := Elt Ideal) X1 r0_1) (View.ld (Val := Elt Ideal) X2 r0_1)) (View.ld (Val := Elt Ideal) X10 r0_2) (View.ld (Val := Elt Ideal) X0 r0_3) (View.ld (Val := Elt Ideal) X7 r0_4) (View.ld (Val := Elt Ideal) X8 r0_5)
          (View.ld (Val := Elt Ideal) X4 r0_1) (View.ld (Val := Elt Ideal) X9 r0_5)) (View.ld (Val := Elt Ideal) X5 r0_8) (View.ld (Val := Elt Ideal) X6 r0_8) (ix2 r d)
      = rowX n X0 X1 X2 X3 X4 X5 X6 X7 X8 X9 X10 X12 (upper r) d :=
  gather0 n h X0 X1 X2 X3 X4 X5 X6 X7 X8 X9 X10 X12 r d _ _ _ _ _ _ _ _ _ _ _ _ (ld3 X0) (ld1 X1) (ld1 X2) (ld1 X3) (ld1b X4) (ld8 X5) (ld8 X6)
    (ld4 X7) (ld5 X8) (ld5 X9) (ld2 X10) (ld0 X12)

theorem rows1 (n : ℕ) (h : n < 72) (X0 : FVec Ideal S512x256 .bf16) (X1 X2 X3 : FVec Ideal S512x512 .f32) (X4 : FVec Ideal S512x512 .bf16)
    (X5 X6 : FVec Ideal S512x1024 .f32) (X7 : FVec Ideal S256x1024 .bf16) (X8 X9 : FVec Ideal S512x1024 .bf16)
    (X10 : FVec Ideal S1x512 .f32) (X12 : FVec Ideal S1x6x1024 .f32) (r : Fin 256) (d : Fin 1024) :
    k0_pay22 (F := Ideal) (BitVec.ofNat 32 n) (k0_pay2 (View.ld (Val := Elt Ideal) X12 r0_0))
        (k0_pay15 (View.ld (Val := Elt Ideal) X3 r0_6) (k0_pay13 (k0_pay10 (View.ld (Val := Elt Ideal) X1 r0_6) (View.ld (Val := Elt Ideal) X2 r0_6)) (k0_pay11 (View.ld (Val := Elt Ideal) X1 r0_6) (View.ld (Val := Elt Ideal) X2 r0_6))
          (k0_pay12 (View.ld (Val := Elt Ideal) X1 r0_6) (View.ld (Val := Elt Ideal) X2 r0_6)) (View.ld (Val := Elt Ideal) X10 r0_2)) (k0_pay14 (View.ld (Val := Elt Ideal) X3 r0_6)) (View.ld (Val := Elt Ideal) X0 r0_7)
          (View.ld (Val := Elt Ideal) X7 r0_4) (View.ld (Val := Elt Ideal) X8 r0_5) (View.ld (Val := Elt Ideal) X4 r0_6) (View.ld (Val := Elt Ideal) X9 r0_5)) (View.ld (Val := Elt Ideal) X5 r0_10) (View.ld (Val := Elt Ideal) X6 r0_10) (ix2 r d)
      = rowX n X0 X1 X2 X3 X4 X5 X6 X7 X8 X9 X10 X12 (lower r) d :=
  gather1 n h X0 X1 X2 X3 X4 X5 X6 X7 X8 X9 X10 X12 r d _ _ _ _ _ _ _ _ _ _ _ _ (ld7 X0) (ld6 X1) (ld6 X2) (ld6 X3) (ld6b X4) (ld10 X5) (ld10 X6)
    (ld4 X7) (ld5 X8) (ld5 X9) (ld2 X10) (ld0 X12)

/-- What the body leaves in the first result's block. -/
theorem block_x (i : grid0.Coords) (X0 : FVec Ideal S512x256 .bf16) (X1 X2 X3 : FVec Ideal S512x512 .f32) (X4 : FVec Ideal S512x512 .bf16)
    (X5 X6 : FVec Ideal S512x1024 .f32) (X7 : FVec Ideal S256x1024 .bf16) (X8 X9 : FVec Ideal S512x1024 .bf16)
    (X10 : FVec Ideal S1x512 .f32) (X11 : FVec Ideal S1x1024 .f32) (X12 : FVec Ideal S1x6x1024 .f32) (y : S512x1024.Idx) :
    out0_13 (F := Ideal) i X0 X1 X2 X3 X4 X5 X6 X7 X8 X9 X10 X11 X12 y
      = rowX (i 0).val X0 X1 X2 X3 X4 X5 X6 X7 X8 X9 X10 X12 (y 0) (y 1) := by
  have hi : (i 0).val < 72 := (i 0).isLt
  unfold_out out0_13
  generalize (i 0).val = n at hi
  canon_tiles x h
  case' piece0 =>
    rw [eq_ix2 x]
    refine (rows1 _ hi _ _ _ _ _ _ _ _ _ _ _ _ (x 0) (x 1)).trans ?_
    rw [show y 0 = lower (x 0) from Fin.ext h0, show y 1 = x 1 from Fin.ext h1]
  case' piece1 =>
    rw [eq_ix2 x]
    refine (rows0 _ hi _ _ _ _ _ _ _ _ _ _ _ _ (x 0) (x 1)).trans ?_
    rw [show y 0 = upper (x 0) from Fin.ext h0, show y 1 = x 1 from Fin.ext h1]

/-- What the body leaves in the second result's block. -/
theorem block_h (i : grid0.Coords) (X0 : FVec Ideal S512x256 .bf16) (X1 X2 X3 : FVec Ideal S512x512 .f32) (X4 : FVec Ideal S512x512 .bf16)
    (X5 X6 : FVec Ideal S512x1024 .f32) (X7 : FVec Ideal S256x1024 .bf16) (X8 X9 : FVec Ideal S512x1024 .bf16)
    (X10 : FVec Ideal S1x512 .f32) (X11 : FVec Ideal S1x1024 .f32) (X12 : FVec Ideal S1x6x1024 .f32) (y : S512x1024.Idx) :
    out0_14 (F := Ideal) i X0 X1 X2 X3 X4 X5 X6 X7 X8 X9 X10 X11 X12 y
      = rowH (rowX (i 0).val X0 X1 X2 X3 X4 X5 X6 X7 X8 X9 X10 X12 (y 0)) X11 X12 (y 1) := by
  have hi : (i 0).val < 72 := (i 0).isLt
  unfold_out out0_14
  generalize (i 0).val = n at hi
  canon_tiles x h
  case' piece0 =>
    rw [eq_ix2 x]
    refine (normed1 _ _ _ _ _ _ (x 0) (x 1)).trans ?_
    rw [show y 0 = lower (x 0) from Fin.ext h0, show y 1 = x 1 from Fin.ext h1]
    exact congrFun (congr (congr (congr (congrArg normed (funext fun d => rows1 _ hi _ _ _ _ _ _ _ _ _ _ _ _ (x 0) d)) (funext fun d => ld9 X11 d))
      (funext fun d => ld0 X12 4 d)) (funext fun d => ld0 X12 3 d)) (x 1)
  case' piece1 =>
    rw [eq_ix2 x]
    refine (normed0 _ _ _ _ _ _ (x 0) (x 1)).trans ?_
    rw [show y 0 = upper (x 0) from Fin.ext h0, show y 1 = x 1 from Fin.ext h1]
    exact congrFun (congr (congr (congr (congrArg normed (funext fun d => rows0 _ hi _ _ _ _ _ _ _ _ _ _ _ _ (x 0) d)) (funext fun d => ld9 X11 d))
      (funext fun d => ld0 X12 4 d)) (funext fun d => ld0 X12 3 d)) (x 1)

end Cert.Kernel4Ideal.Block

end
-- ==== Proof.OutArray.lean ====
/-
  What the output projection's two arrays hold after the run: each token's row through the row formulas.
-/
module

public import proofs.«01_k».proof.Proof.OutBlock

@[expose] public section

set_option maxRecDepth 16384

noncomputable section

namespace Cert.OutRow

open Idealize.ShloMosaic

/-- The column of the gate in the projections' row. -/
def gateCol (k : Fin 512) : Fin 2048 := ⟨1536 + k.val, by omega⟩

/-- The column of a head's gain. -/
def gainCol (k : Fin 512) : Fin 128 := ⟨k.val % 128, Nat.mod_lt _ (by decide)⟩

/-- The modulation row of a token: its batch element's, or the context's. -/
def group (R : Fin 36864) : Fin 24 := ⟨if R.val < 32768 then R.val / 2048 else 16, by split <;> omega⟩

/-- The residual stream's row: a latent token's, or a context token's. -/
def stream (L : Fin 32768 → Fin 1024 → EReal) (C : Fin 4096 → Fin 1024 → EReal) (R : Fin 36864) (d : Fin 1024) : EReal :=
  if h : R.val < 32768 then L ⟨R.val, h⟩ d else C ⟨R.val - 32768, by omega⟩ d

/-- The first result at token `R` and column `d`: the residual stream plus the gated projection of the token's mixers. -/
def tokenX (a0 : Fin 36864 → Fin 256 → EReal) (a1 a2 : Fin 36864 → Fin 512 → EReal) (a3 : Fin 36864 → Fin 2048 → EReal)
    (a4 : Fin 36864 → Fin 512 → EReal) (a5 : Fin 32768 → Fin 1024 → EReal) (a6 : Fin 4096 → Fin 1024 → EReal)
    (a7 : Fin 256 → Fin 1024 → EReal) (a8 a9 : Fin 512 → Fin 1024 → EReal) (a10 : Fin 128 → EReal)
    (a12 : Fin 24 → Fin 6 → Fin 1024 → EReal) (R : Fin 36864) (d : Fin 1024) : EReal :=
  resid (stream a5 a6 R) (a12 (group R) 2)
    (proj (a0 R) (gated (fun k => a1 R k + a2 R k) (fun k => a3 R (gateCol k)) (fun k => a10 (gainCol k))) (a4 R) a7 a8 a9) d

/-- The second result at token `R`: the modulated norm of the first. -/
def tokenH (x : Fin 36864 → Fin 1024 → EReal) (a11 : Fin 1024 → EReal) (a12 : Fin 24 → Fin 6 → Fin 1024 → EReal) (R : Fin 36864)
    (d : Fin 1024) : EReal :=
  normed (x R) a11 (a12 (group R) 4) (a12 (group R) 3) d

end Cert.OutRow

namespace Cert.Kernel4Ideal.Array

open Idealize.ShloMosaic Idealize.ShloMosaic.TcCoe Idealize.SL.Sem
open Cert.Kernel4Ideal Cert.Kernel4Ideal.Gen Cert.OutRow Cert.Kernel4Ideal.Block

/-- Which block each window stages at point `t`. -/
theorem idx : ∀ t : Fin cfg0.N,
    ((grid0.coords t) 0).val = t.val ∧
    win0_0.index t = ![t.val, 0] ∧ win0_1.index t = ![t.val, 0] ∧ win0_2.index t = ![t.val, 0] ∧ win0_3.index t = ![t.val, 3]
      ∧ win0_4.index t = ![t.val, 0] ∧ win0_5.index t = ![min t.val 63, 0] ∧ win0_6.index t = ![t.val - 64, 0]
      ∧ win0_7.index t = ![0, 0] ∧ win0_8.index t = ![0, 0] ∧ win0_9.index t = ![0, 0] ∧ win0_10.index t = ![0, 0]
      ∧ win0_11.index t = ![0, 0] ∧ win0_12.index t = ![min (t.val / 4) 16, 0, 0] ∧ win0_13.index t = ![t.val, 0]
      ∧ win0_14.index t = ![t.val, 0] :=
  (by decide +kernel : ∀ t : Fin grid0.N, _)

variable (m : (ℓ : Loc nD τ sig) → Buf (Elt Ideal) ℓ) (c : Dev nD)

theorem read0 (t : Fin cfg0.N) (r : Fin 512) (k : Fin 256) (R : Fin 36864) (h : R.val = t.val * 512 + r.val) :
    iblk m c 0 t (ix2 r k) = m ((c : Thread nD τ).loc main_arg0) (ix2 R k) := by
  refine Eq.trans ?_ (congrFun (V_main_arg0 m c) _)
  have e := (idx t).2.1
  blk_ext [iblk, e]

theorem read1 (t : Fin cfg0.N) (r : Fin 512) (k : Fin 512) (R : Fin 36864) (h : R.val = t.val * 512 + r.val) :
    iblk m c 1 t (ix2 r k) = m ((c : Thread nD τ).loc main_arg1) (ix2 R k) := by
  refine Eq.trans ?_ (congrFun (V_main_arg1 m c) _)
  have e := (idx t).2.2.1
  blk_ext [iblk, e]

theorem read2 (t : Fin cfg0.N) (r : Fin 512) (k : Fin 512) (R : Fin 36864) (h : R.val = t.val * 512 + r.val) :
    iblk m c 2 t (ix2 r k) = m ((c : Thread nD τ).loc main_arg2) (ix2 R k) := by
  refine Eq.trans ?_ (congrFun (V_main_arg2 m c) _)
  have e := (idx t).2.2.2.1
  blk_ext [iblk, e]

theorem read4 (t : Fin cfg0.N) (r : Fin 512) (k : Fin 512) (R : Fin 36864) (h : R.val = t.val * 512 + r.val) :
    iblk m c 4 t (ix2 r k) = m ((c : Thread nD τ).loc main_arg4) (ix2 R k) := by
  refine Eq.trans ?_ (congrFun (V_main_arg4 m c) _)
  have e := (idx t).2.2.2.2.2.1
  blk_ext [iblk, e]

theorem read3 (t : Fin cfg0.N) (r : Fin 512) (k : Fin 512) (R : Fin 36864) (h : R.val = t.val * 512 + r.val) :
    iblk m c 3 t (ix2 r k) = m ((c : Thread nD τ).loc main_arg3) (ix2 R (gateCol k)) := by
  refine Eq.trans ?_ (congrFun (V_main_arg3 m c) _)
  have e := (idx t).2.2.2.2.1
  unfold gateCol
  blk_ext [iblk, e]

theorem read5 (t : Fin cfg0.N) (r : Fin 512) (k : Fin 1024) (R : Fin 32768) (h : R.val = t.val * 512 + r.val) (ht : t.val < 64) :
    iblk m c 5 t (ix2 r k) = m ((c : Thread nD τ).loc main_arg5) (ix2 R k) := by
  refine Eq.trans ?_ (congrFun (V_main_arg5 m c) _)
  have e := (idx t).2.2.2.2.2.2.1
  rw [show min t.val 63 = t.val by omega] at e
  blk_ext [iblk, e]

theorem read6 (t : Fin cfg0.N) (r : Fin 512) (k : Fin 1024) (R : Fin 4096) (h : R.val = (t.val - 64) * 512 + r.val) :
    iblk m c 6 t (ix2 r k) = m ((c : Thread nD τ).loc main_arg6) (ix2 R k) := by
  refine Eq.trans ?_ (congrFun (V_main_arg6 m c) _)
  have e := (idx t).2.2.2.2.2.2.2.1
  generalize t.val - 64 = q at e h
  blk_ext [iblk, e]

theorem read12 (t : Fin cfg0.N) (g : Fin 6) (d : Fin 1024) (G : Fin 24) (h : G.val = min (t.val / 4) 16) :
    iblk m c 12 t (ix3 0 g d) = m ((c : Thread nD τ).loc main_arg12) (ix3 G g d) := by
  refine Eq.trans ?_ (congrFun (V_main_arg12 m c) _)
  have e := (idx t).2.2.2.2.2.2.2.2.2.2.2.2.2.1
  generalize min (t.val / 4) 16 = q at e h
  blk_ext [iblk, e]

theorem read7 (t : Fin cfg0.N) (r : Fin 256) (k : Fin 1024) :
    iblk m c 7 t (ix2 r k) = m ((c : Thread nD τ).loc main_arg7) (ix2 r k) := by
  refine Eq.trans ?_ (congrFun (V_main_arg7 m c) _)
  have e := (idx t).2.2.2.2.2.2.2.2.1
  blk_ext [iblk, e]

theorem read8 (t : Fin cfg0.N) (r : Fin 512) (k : Fin 1024) :
    iblk m c 8 t (ix2 r k) = m ((c : Thread nD τ).loc main_arg8) (ix2 r k) := by
  refine Eq.trans ?_ (congrFun (V_main_arg8 m c) _)
  have e := (idx t).2.2.2.2.2.2.2.2.2.1
  blk_ext [iblk, e]

theorem read9 (t : Fin cfg0.N) (r : Fin 512) (k : Fin 1024) :
    iblk m c 9 t (ix2 r k) = m ((c : Thread nD τ).loc main_arg9) (ix2 r k) := by
  refine Eq.trans ?_ (congrFun (V_main_arg9 m c) _)
  have e := (idx t).2.2.2.2.2.2.2.2.2.2.1
  blk_ext [iblk, e]

theorem read10 (t : Fin cfg0.N) (k : Fin 512) :
    iblk m c 10 t (ix2 0 k) = m ((c : Thread nD τ).loc main_arg10) (ix1 (gainCol k)) := by
  have e := (idx t).2.2.2.2.2.2.2.2.2.2.2.1
  unfold gainCol
  blk_ext! [iblk, V, e]

theorem read11 (t : Fin cfg0.N) (k : Fin 1024) :
    iblk m c 11 t (ix2 0 k) = m ((c : Thread nD τ).loc main_arg11) (ix1 k) := by
  have e := (idx t).2.2.2.2.2.2.2.2.2.2.2.2.1
  blk_ext! [iblk, V, e]

/-- The two results, from the arguments. -/
def X : Fin 36864 → Fin 1024 → EReal :=
  tokenX (fun R k => m ((c : Thread nD τ).loc main_arg0) (ix2 R k)) (fun R k => m ((c : Thread nD τ).loc main_arg1) (ix2 R k))
    (fun R k => m ((c : Thread nD τ).loc main_arg2) (ix2 R k)) (fun R k => m ((c : Thread nD τ).loc main_arg3) (ix2 R k))
    (fun R k => m ((c : Thread nD τ).loc main_arg4) (ix2 R k)) (fun R k => m ((c : Thread nD τ).loc main_arg5) (ix2 R k))
    (fun R k => m ((c : Thread nD τ).loc main_arg6) (ix2 R k)) (fun R k => m ((c : Thread nD τ).loc main_arg7) (ix2 R k))
    (fun R k => m ((c : Thread nD τ).loc main_arg8) (ix2 R k)) (fun R k => m ((c : Thread nD τ).loc main_arg9) (ix2 R k))
    (fun k => m ((c : Thread nD τ).loc main_arg10) (ix1 k)) (fun R g k => m ((c : Thread nD τ).loc main_arg12) (ix3 R g k))
def H : Fin 36864 → Fin 1024 → EReal :=
  tokenH (X m c) (fun k => m ((c : Thread nD τ).loc main_arg11) (ix1 k)) (fun R g k => m ((c : Thread nD τ).loc main_arg12) (ix3 R g k))

theorem group_tile (t : Fin cfg0.N) (r : Fin 512) (R : Fin 36864) (h : R.val = t.val * 512 + r.val) :
    (group R).val = min (t.val / 4) 16 := by
  have := r.isLt
  have := t.isLt.trans_eq N_0
  show (if R.val < 32768 then R.val / 2048 else 16) = _
  split <;> omega

/-- A row of the first result's block is the token's. -/
theorem rows_x (t : Fin cfg0.N) (r : Fin 512) (d : Fin 1024) (R : Fin 36864) (h : R.val = t.val * 512 + r.val) :
    rowX ((grid0.coords t) 0).val (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 12 t) r d = X m c R d := by
  have hr := r.isLt
  rw [(idx t).1]
  unfold rowX X tokenX
  refine congrFun (congr (congr (congrArg resid ?_) ?_) ?_) d
  · funext d
    unfold base stream
    split
    · rw [dif_pos (by omega)]
      exact read5 m c t r d ⟨R.val, by omega⟩ h (by assumption)
    · rw [dif_neg (by omega)]
      exact read6 m c t r d ⟨R.val - 32768, by omega⟩ (by show R.val - 32768 = _; omega)
  · funext d
    exact read12 m c t 2 d _ (group_tile t r R h)
  · refine congr (congr (congr (congr (congr (congrArg proj ?_) ?_) ?_) ?_) ?_) ?_
    · funext k; exact read0 m c t r k R h
    · refine congr (congr (congrArg gated ?_) ?_) ?_
      · funext k; exact congr (congrArg HAdd.hAdd (read1 m c t r k R h)) (read2 m c t r k R h)
      · funext k; exact read3 m c t r k R h
      · funext k; exact read10 m c t k
    · funext k; exact read4 m c t r k R h
    · funext k j; exact read7 m c t k j
    · funext k j; exact read8 m c t k j
    · funext k j; exact read9 m c t k j

/-- A row of the second result's block is the token's. -/
theorem rows_h (t : Fin cfg0.N) (r : Fin 512) (d : Fin 1024) (R : Fin 36864) (h : R.val = t.val * 512 + r.val) :
    rowH (rowX ((grid0.coords t) 0).val (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 12 t) r) (iblk m c 11 t) (iblk m c 12 t) d = H m c R d := by
  unfold rowH H tokenH
  refine congrFun (congr (congr (congr (congrArg normed (funext fun d => rows_x m c t r d R h)) ?_) ?_) ?_) d
  · funext d; exact read11 m c t d
  · funext d; exact read12 m c t 4 d _ (group_tile t r R h)
  · funext d; exact read12 m c t 3 d _ (group_tile t r R h)

/-- The first result's array after the run. -/
theorem final_x : (dats m 0 c).arrAt 13 cfg0.N = fun i : S36864x1024.Idx => X m c (i 0) (i 1) := by
  refine (dats m 0 c).arrAt_eq_of_covers 13 _ (by decide +kernel) fun t hf (y : S512x1024.Idx) => ?_
  blk_simp
  rw [after0_13]
  have e := (idx t).2.2.2.2.2.2.2.2.2.2.2.2.2.2.1
  have e0 : (((win0_13.blk t).view.emb y) 0).val = t.val * 512 + (y 0).val := by
    blk_simp [e]
  have e1 : ((win0_13.blk t).view.emb y) 1 = y 1 := Fin.ext (by blk_simp [e])
  refine Eq.trans ?_ (congrArg (X m c (((win0_13.blk t).view.emb y) 0)) e1.symm)
  exact (block_x _ _ _ _ _ _ _ _ _ _ _ _ _ _ y).trans (rows_x m c t (y 0) (y 1) _ e0)

/-- The second result's array after the run. -/
theorem final_h : (dats m 0 c).arrAt 14 cfg0.N = fun i : S36864x1024.Idx => H m c (i 0) (i 1) := by
  refine (dats m 0 c).arrAt_eq_of_covers 14 _ (by decide +kernel) fun t hf (y : S512x1024.Idx) => ?_
  blk_simp
  rw [after0_14]
  have e := (idx t).2.2.2.2.2.2.2.2.2.2.2.2.2.2.2
  have e0 : (((win0_14.blk t).view.emb y) 0).val = t.val * 512 + (y 0).val := by
    blk_simp [e]
  have e1 : ((win0_14.blk t).view.emb y) 1 = y 1 := Fin.ext (by blk_simp [e])
  refine Eq.trans ?_ (congrArg (H m c (((win0_14.blk t).view.emb y) 0)) e1.symm)
  exact (block_h _ _ _ _ _ _ _ _ _ _ _ _ _ _ y).trans (rows_h m c t (y 0) (y 1) _ e0)

end Cert.Kernel4Ideal.Array

end
-- ==== Proof.OutReference.lean ====
/-
  The output projection as the problem states it, token by token: the same row formulas.
-/
module

public import proofs.«01_k».proof.Proof.Gen.Reference4Ideal.Read
public import proofs.«01_k».proof.Proof.OutArray
public import proofs.«01_k».proof.Proof.ExpertsSwiglu

@[expose] public section

set_option maxRecDepth 16384

noncomputable section

namespace Cert.Reference4Ideal.Rows

open Idealize.ShloMosaic Idealize.ShloMosaic.TcCoe Idealize.SL.Sem
open Cert.Reference4Ideal Cert.Reference4Ideal.Gen Cert.Reference4Ideal.Read Cert.OutRow

variable (x0 : FVec Ideal S36864x256 .bf16) (x1 x2 : FVec Ideal S36864x512 .f32) (x3 : FVec Ideal S36864x2048 .f32)
  (x4 : FVec Ideal S36864x512 .bf16) (x5 : FVec Ideal S32768x1024 .f32) (x6 : FVec Ideal S4096x1024 .f32)
  (x7 : FVec Ideal S256x1024 .bf16) (x8 x9 : FVec Ideal S512x1024 .bf16) (x10 : FVec Ideal S128 .f32) (x11 : FVec Ideal S1024 .f32)
  (x12 : FVec Ideal S24x6x1024 .f32)

/-- The heads, normalised and gated. -/
theorem gated_val (R : Fin 36864) (k : Fin 512) :
    val_main_v19 (F := Ideal) x1 x2 x3 x10 (ix2 R k)
      = gated (fun k => x1 (ix2 R k) + x2 (ix2 R k)) (fun k => x3 (ix2 R (gateCol k))) (fun k => x10 (ix1 (gainCol k))) k := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, val_main_call0_v0, val_main_call0_v1, val_main_call0_v2, val_main_call0_v3,
    val_main_call0_v4, val_main_call0_v5, val_main_call0_cst, val_main_call0_cst_0]
  rfl

/-- The three mixers' outputs side by side. -/
theorem mix_val (R : Fin 36864) (k : Fin 1280) :
    val_main_v22 (F := Ideal) x0 x1 x2 x3 x4 x10 (ix2 R k)
      = if h : k.val < 256 then x0 (ix2 R ⟨k.val, h⟩)
        else if h' : k.val - 256 < 512 then val_main_v19 (F := Ideal) x1 x2 x3 x10 (ix2 R ⟨k.val - 256, h'⟩)
        else x4 (ix2 R ⟨k.val - 256 - 512, by omega⟩) := by
  unfold val_main_v22
  generalize val_main_v19 (F := Ideal) x1 x2 x3 x10 = g
  pointwise [val_main_v20, val_main_v21]

/-- Their projections' weights one above the other. -/
theorem weight_val (k : Fin 1280) (d : Fin 1024) :
    val_main_v24 (F := Ideal) x7 x8 x9 (ix2 k d)
      = if h : k.val < 256 then x7 (ix2 ⟨k.val, h⟩ d)
        else if h' : k.val - 256 < 512 then x8 (ix2 ⟨k.val - 256, h'⟩ d)
        else x9 (ix2 ⟨k.val - 256 - 512, by omega⟩ d) := by
  pointwise [val_main_v24, val_main_v23]

/-- The projection, its sum over all columns split into the three mixers'. -/
theorem proj_val (R : Fin 36864) (d : Fin 1024) :
    val_main_v25 (F := Ideal) x0 x1 x2 x3 x4 x7 x8 x9 x10 (ix2 R d)
      = proj (fun k => x0 (ix2 R k))
          (gated (fun k => x1 (ix2 R k) + x2 (ix2 R k)) (fun k => x3 (ix2 R (gateCol k))) (fun k => x10 (ix1 (gainCol k))))
          (fun k => x4 (ix2 R k)) (fun k d => x7 (ix2 k d)) (fun k d => x8 (ix2 k d)) (fun k d => x9 (ix2 k d)) d := by
  rw [val_main_v25_apply]
  have key : ∀ k : Fin 1280, val_main_v22 (F := Ideal) x0 x1 x2 x3 x4 x10 (lidx_main_v25 (ix2 R d) k) * val_main_v24 (F := Ideal) x7 x8 x9 (ridx_main_v25 (ix2 R d) k)
      = val_main_v22 (F := Ideal) x0 x1 x2 x3 x4 x10 (ix2 R k) * val_main_v24 (F := Ideal) x7 x8 x9 (ix2 k d) := fun k =>
    Ideal.mul_congr (congrArg _ (funext fun a => match a with | ⟨0, _⟩ => rfl | ⟨1, _⟩ => rfl))
      (congrArg _ (funext fun a => match a with | ⟨0, _⟩ => rfl | ⟨1, _⟩ => rfl))
  refine (Finset.sum_congr rfl fun k _ => key k).trans ?_
  simp only [mix_val, weight_val, gated_val]
  generalize gated (fun k => x1 (ix2 R k) + x2 (ix2 R k)) (fun k => x3 (ix2 R (gateCol k))) (fun k => x10 (ix1 (gainCol k))) = b
  unfold proj
  refine (Fin.sum_univ_add (a := 256 + 512) (b := 512) _).trans ?_
  refine congr (congrArg HAdd.hAdd ((Fin.sum_univ_add (a := 256) (b := 512) _).trans ?_)) ?_
  · refine congr (congrArg HAdd.hAdd (Finset.sum_congr rfl fun k _ => ?_)) (Finset.sum_congr rfl fun k _ => ?_)
    · have hk := k.isLt
      have e : (Fin.castAdd 512 (Fin.castAdd 512 k)).val = k.val := rfl
      rw [dif_pos (by omega), dif_pos (by omega)]
      rfl
    · have hk := k.isLt
      have e : (Fin.castAdd 512 (Fin.natAdd 256 k)).val = 256 + k.val := rfl
      rw [dif_neg (by omega), dif_pos (by omega), dif_neg (by omega), dif_pos (by omega)]
      exact Ideal.mul_congr (congrArg b (Fin.ext (by show 256 + k.val - 256 = k.val; omega)))
        (congrArg (fun q => x8 (ix2 q d)) (Fin.ext (by show 256 + k.val - 256 = k.val; omega)))
  · refine Finset.sum_congr rfl fun k _ => ?_
    have hk := k.isLt
    have e : (Fin.natAdd (256 + 512) k).val = 256 + 512 + k.val := rfl
    rw [dif_neg (by omega), dif_neg (by omega), dif_neg (by omega), dif_neg (by omega)]
    exact Ideal.mul_congr (congrArg (fun q => x4 (ix2 R q)) (Fin.ext (by show 256 + 512 + k.val - 256 - 512 = k.val; omega)))
      (congrArg (fun q => x9 (ix2 q d)) (Fin.ext (by show 256 + 512 + k.val - 256 - 512 = k.val; omega)))

/-- The modulation rows, one for each token. -/
theorem mod_val (R : Fin 36864) (g : Fin 6) (d : Fin 1024) : val_main_v32 (F := Ideal) x12 (ix3 R g d) = x12 (ix3 (group R) g d) := by
  pointwise [val_main_v32, val_main_v28, val_main_v27, val_main_v26, val_main_v31, val_main_v30, val_main_v29]
  split
  · rename_i h
    exact congrArg (fun q => x12 (ix3 q g d)) (Fin.ext (if_pos h).symm)
  · rename_i h
    exact congrArg (fun q => x12 (ix3 q g d)) (Fin.ext (if_neg h).symm)

/-- The residual stream. -/
theorem stream_val (R : Fin 36864) (d : Fin 1024) :
    val_main_v33 (F := Ideal) x5 x6 (ix2 R d) = stream (fun R d => x5 (ix2 R d)) (fun R d => x6 (ix2 R d)) R d := by
  pointwise [val_main_v33]
  rfl

/-- The first result, token by token. -/
theorem x_val (R : Fin 36864) (d : Fin 1024) :
    val_main_v37 (F := Ideal) x0 x1 x2 x3 x4 x5 x6 x7 x8 x9 x10 x12 (ix2 R d)
      = tokenX (fun R k => x0 (ix2 R k)) (fun R k => x1 (ix2 R k)) (fun R k => x2 (ix2 R k)) (fun R k => x3 (ix2 R k)) (fun R k => x4 (ix2 R k))
          (fun R k => x5 (ix2 R k)) (fun R k => x6 (ix2 R k)) (fun R k => x7 (ix2 R k)) (fun R k => x8 (ix2 R k)) (fun R k => x9 (ix2 R k))
          (fun k => x10 (ix1 k)) (fun R g k => x12 (ix3 R g k)) R d := by
  rw [val_main_v37_apply, val_main_v36_apply, stream_val, proj_val]
  unfold tokenX resid
  refine congrArg (_ + ·) (congrArg (· * _) ?_)
  refine Eq.trans ?_ (mod_val x12 R 2 d)
  generalize e : val_main_v32 (F := Ideal) x12 = M
  pointwise [val_main_v35, val_main_v34, e]

/-- The second result, token by token. -/
theorem h_val (R : Fin 36864) (d : Fin 1024) :
    val_main_v58 (F := Ideal) x0 x1 x2 x3 x4 x5 x6 x7 x8 x9 x10 x11 x12 (ix2 R d)
      = tokenH (fun R d => val_main_v37 (F := Ideal) x0 x1 x2 x3 x4 x5 x6 x7 x8 x9 x10 x12 (ix2 R d)) (fun k => x11 (ix1 k))
          (fun R g k => x12 (ix3 R g k)) R d := by
  unfold tokenH
  simp only [← mod_val]
  unfold val_main_v58 val_main_v55 val_main_v50 val_main_v47 val_main_v46 val_main_v45 val_main_v44 val_main_v42 val_main_v40 val_main_v39
    val_main_v38 val_main_v57 val_main_v56 val_main_v54 val_main_v52 val_main_v51
  generalize val_main_v37 (F := Ideal) x0 x1 x2 x3 x4 x5 x6 x7 x8 x9 x10 x12 = X
  generalize val_main_v32 (F := Ideal) x12 = M
  pointwise [val_main_v49, val_main_v48, val_main_v53, val_main_v43, val_main_v41, val_main_cst_2, val_main_cst_3, val_main_cst_4, val_main_cst_5]
  rfl

variable (m : (ℓ : Loc Cert.Kernel4Ideal.nD Cert.Kernel4Ideal.τ Cert.Kernel4Ideal.sig) → Buf (Elt Ideal) ℓ) (c : Dev Cert.Kernel4Ideal.nD)

/-- The kernel's first result is the reference's. -/
theorem array_x :
    (Cert.Kernel4Ideal.Gen.dats m 0 c).arrAt 13 Cert.Kernel4Ideal.cfg0.N
      = val_main_v37 (F := Ideal) (m ((c : Thread Cert.Kernel4Ideal.nD Cert.Kernel4Ideal.τ).loc Cert.Kernel4Ideal.main_arg0))
          (m ((c : Thread Cert.Kernel4Ideal.nD Cert.Kernel4Ideal.τ).loc Cert.Kernel4Ideal.main_arg1))
          (m ((c : Thread Cert.Kernel4Ideal.nD Cert.Kernel4Ideal.τ).loc Cert.Kernel4Ideal.main_arg2))
          (m ((c : Thread Cert.Kernel4Ideal.nD Cert.Kernel4Ideal.τ).loc Cert.Kernel4Ideal.main_arg3))
          (m ((c : Thread Cert.Kernel4Ideal.nD Cert.Kernel4Ideal.τ).loc Cert.Kernel4Ideal.main_arg4))
          (m ((c : Thread Cert.Kernel4Ideal.nD Cert.Kernel4Ideal.τ).loc Cert.Kernel4Ideal.main_arg5))
          (m ((c : Thread Cert.Kernel4Ideal.nD Cert.Kernel4Ideal.τ).loc Cert.Kernel4Ideal.main_arg6))
          (m ((c : Thread Cert.Kernel4Ideal.nD Cert.Kernel4Ideal.τ).loc Cert.Kernel4Ideal.main_arg7))
          (m ((c : Thread Cert.Kernel4Ideal.nD Cert.Kernel4Ideal.τ).loc Cert.Kernel4Ideal.main_arg8))
          (m ((c : Thread Cert.Kernel4Ideal.nD Cert.Kernel4Ideal.τ).loc Cert.Kernel4Ideal.main_arg9))
          (m ((c : Thread Cert.Kernel4Ideal.nD Cert.Kernel4Ideal.τ).loc Cert.Kernel4Ideal.main_arg10))
          (m ((c : Thread Cert.Kernel4Ideal.nD Cert.Kernel4Ideal.τ).loc Cert.Kernel4Ideal.main_arg12)) := by
  rw [Cert.Kernel4Ideal.Array.final_x]
  funext i
  refine Eq.trans ?_ (congrArg _ (ix2_eta i))
  exact (x_val _ _ _ _ _ _ _ _ _ _ _ _ (i 0) (i 1)).symm

/-- The kernel's second result is the reference's. -/
theorem array_h :
    (Cert.Kernel4Ideal.Gen.dats m 0 c).arrAt 14 Cert.Kernel4Ideal.cfg0.N
      = val_main_v58 (F := Ideal) (m ((c : Thread Cert.Kernel4Ideal.nD Cert.Kernel4Ideal.τ).loc Cert.Kernel4Ideal.main_arg0))
          (m ((c : Thread Cert.Kernel4Ideal.nD Cert.Kernel4Ideal.τ).loc Cert.Kernel4Ideal.main_arg1))
          (m ((c : Thread Cert.Kernel4Ideal.nD Cert.Kernel4Ideal.τ).loc Cert.Kernel4Ideal.main_arg2))
          (m ((c : Thread Cert.Kernel4Ideal.nD Cert.Kernel4Ideal.τ).loc Cert.Kernel4Ideal.main_arg3))
          (m ((c : Thread Cert.Kernel4Ideal.nD Cert.Kernel4Ideal.τ).loc Cert.Kernel4Ideal.main_arg4))
          (m ((c : Thread Cert.Kernel4Ideal.nD Cert.Kernel4Ideal.τ).loc Cert.Kernel4Ideal.main_arg5))
          (m ((c : Thread Cert.Kernel4Ideal.nD Cert.Kernel4Ideal.τ).loc Cert.Kernel4Ideal.main_arg6))
          (m ((c : Thread Cert.Kernel4Ideal.nD Cert.Kernel4Ideal.τ).loc Cert.Kernel4Ideal.main_arg7))
          (m ((c : Thread Cert.Kernel4Ideal.nD Cert.Kernel4Ideal.τ).loc Cert.Kernel4Ideal.main_arg8))
          (m ((c : Thread Cert.Kernel4Ideal.nD Cert.Kernel4Ideal.τ).loc Cert.Kernel4Ideal.main_arg9))
          (m ((c : Thread Cert.Kernel4Ideal.nD Cert.Kernel4Ideal.τ).loc Cert.Kernel4Ideal.main_arg10))
          (m ((c : Thread Cert.Kernel4Ideal.nD Cert.Kernel4Ideal.τ).loc Cert.Kernel4Ideal.main_arg11))
          (m ((c : Thread Cert.Kernel4Ideal.nD Cert.Kernel4Ideal.τ).loc Cert.Kernel4Ideal.main_arg12)) := by
  rw [Cert.Kernel4Ideal.Array.final_h]
  funext i
  refine Eq.trans ?_ (congrArg _ (ix2_eta i))
  refine Eq.trans ?_ (h_val _ _ _ _ _ _ _ _ _ _ _ _ _ (i 0) (i 1)).symm
  exact congrArg (fun x => tokenH x _ _ (i 0) (i 1)) (funext fun R => funext fun d => (x_val _ _ _ _ _ _ _ _ _ _ _ _ R d).symm)

end Cert.Reference4Ideal.Rows

end
-- ==== Proof.lean ====
/-
  The claims. The kernel and its idealization have their frames from the launch's own run; the reference is a line of host
  operations; the value claim reads both results element by element and applies `Cert.Equation.equal`. The experts' call has
  its frames and its value from one run under tables in range (`ExpertsFrame`, `ExpertsArray`), in the first layer and, with
  fewer blocks, in the second (`LatentFrame`, `LatentArray`). The output projection's two results are read row by row
  (`OutBlock`, `OutArray`, `OutReference`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Launch
public import proofs.«01_k».proof.Proof.Gen.Kernel3.Skeleton
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Equation
public import proofs.«01_k».proof.Proof.Finite
public import proofs.«01_k».proof.Proof.ExpertsRange
public import proofs.«01_k».proof.Proof.ExpertsBitsFrame
public import proofs.«01_k».proof.Proof.ExpertsBitsTables
public import proofs.«01_k».proof.Proof.ExpertsArray
public import proofs.«01_k».proof.Proof.LatentRange
public import proofs.«01_k».proof.Proof.LatentBitsFrame
public import proofs.«01_k».proof.Proof.LatentBitsTables
public import proofs.«01_k».proof.Proof.LatentArray
public import proofs.«01_k».proof.Proof.OutReference
public import Idealize.ShloMosaic.Adequacy
public import Idealize.ShloMosaic.Init

@[expose] public section

noncomputable section

namespace Cert.Proof

open Idealize.ShloMosaic Idealize.ShloMosaic.TcCoe Idealize.SL.Sem

/-- The kernel terminates, keeps its arguments and leaves every semaphore at zero. -/
theorem frame_kernel : Cert.quiescent_Kernel := fun m ρ _ => Cert.Kernel.Gen.frame m ρ

/-- The idealized kernel terminates, keeps its arguments and leaves every semaphore at zero. -/
theorem frame_ideal : Cert.quiescent_KernelIdeal := fun m ρ _ => Cert.KernelIdeal.Gen.frame m ρ

/-- The reference terminates, keeps its arguments and leaves every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- What the kernel leaves is what the reference computes. -/
theorem result_eq (m : (ℓ : Loc Cert.KernelIdeal.nD Cert.KernelIdeal.τ Cert.KernelIdeal.sig) → Buf (Elt Ideal) ℓ)
    (h : Cert.Pre_KernelIdeal_finite_queries_and_keys m) (c : Dev Cert.KernelIdeal.nD) :
    (Cert.KernelIdeal.Gen.dats m 0 c).arrAt 5 Cert.KernelIdeal.cfg0.N
      = Cert.ReferenceIdeal.Read.val_main_v46 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  obtain ⟨hq, hk, hqc, hkc⟩ := Cert.Finite.reals _ _ _ _ _ _ (congrFun (h c) _)
  rw [Cert.KernelIdeal.Array.final, Cert.KernelIdeal.Layout.queries, Cert.KernelIdeal.Layout.keys, Cert.KernelIdeal.Layout.values]
  funext i
  refine (Cert.Equation.equal _ _ _ _ _ _ hq hk hqc hkc (i 0) (i 1)).trans (congrArg _ (ix2_eta i))

/-- The value claim. -/
theorem value : Cert.algebraic_KernelIdeal_ReferenceIdeal_pre_finite_queries_and_keys := by
  intro m g m' g' hpre hargs
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨?_, (h c).2⟩) (Cert.ReferenceIdeal.Value.run m' g')
  obtain ⟨a0, a1, a2, a3, a4, a5⟩ := hargs c
  rw [(h c).1, Cert.ReferenceIdeal.Read.val_main_v46_eq, a0, a1, a2, a3, a4, a5]
  exact (result_eq m hpre c).symm

/-- The experts' call terminates, keeps its arguments and leaves every semaphore at zero. -/
theorem frame_kernel2 : Cert.quiescent_Kernel2 := fun m ρ hpre =>
  have h := Cert.ExpertsRange.ranges _ _ _ _ _ _ _ _ _ (congrFun (hpre 0) _)
  Cert.Kernel2.Experts.frame m ρ (Cert.Kernel2.Experts.good_of_ranges m h.1 h.2)

/-- With the experts' numbers and the number of blocks in range, the tables the idealized call reads are good. -/
theorem good2 (m : (ℓ : Loc Cert.Kernel2Ideal.nD Cert.Kernel2Ideal.τ Cert.Kernel2Ideal.sig) → Buf (Elt Ideal) ℓ) (hpre : Cert.Pre_Kernel2Ideal m) :
    Cert.Kernel2Ideal.Experts.Good (Cert.Kernel2Ideal.Experts.experts (Cert.Kernel2Ideal.Experts.tbl m)) (Cert.Kernel2Ideal.Experts.used (Cert.Kernel2Ideal.Experts.tbl m)) :=
  have h := Cert.ExpertsRange.ranges _ _ _ _ _ _ _ _ _ (congrFun (hpre 0) _)
  Cert.Kernel2Ideal.Experts.good_of_ranges m h.1 h.2

/-- The idealized experts' call terminates, keeps its arguments and leaves every semaphore at zero. -/
theorem frame_ideal2 : Cert.quiescent_Kernel2Ideal := fun m ρ hpre => Cert.Kernel2Ideal.Experts.frame m ρ (good2 m hpre)

/-- The experts' reference terminates, keeps its arguments and leaves every semaphore at zero. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The value claim of the experts' call. -/
theorem value2 : Cert.algebraic_Kernel2Ideal_Reference2Ideal := by
  intro m g m' g' hpre hargs
  have good := good2 m hpre
  have hO := Cert.Kernel2Ideal.Experts.ok_of_good _ good
  refine ⟨fun c => (Cert.Kernel2Ideal.Experts.dats m hO 0 c).arrAt 7 (Cert.Kernel2Ideal.Experts.cfgM m hO).N,
    Cert.Kernel2Ideal.Experts.run_result m hO g good, ?_⟩
  refine (θ_run Cert.Reference2Ideal.defs _ _).mono (fun r h c => ⟨?_, (h c).2⟩) (Cert.Reference2Ideal.Value.run m' g')
  obtain ⟨a0, a1, a2, a3, a4, a5, a6, a7, a8⟩ := hargs c
  obtain rfl : c = 0 := Subsingleton.elim _ _
  have hr := Cert.ExpertsRange.ranges _ _ _ _ _ _ _ _ _ (congrFun (hpre 0) _)
  rw [(h 0).1, Cert.Reference2Ideal.Read.val_main_v75_eq, a0, a1, a2, a3, a4, a5, a6, a7, a8]
  exact (Cert.Kernel2Ideal.Experts.array_eq m hO good (ix1 (0 : Fin 1)) hr.1 (hr.2 _).1 (hr.2 _).2).symm

/-- The second layer's experts' call terminates, keeps its arguments and leaves every semaphore at zero. -/
theorem frame_kernel3 : Cert.quiescent_Kernel3 := fun m ρ hpre =>
  have h := Cert.LatentRange.ranges _ _ _ _ _ _ _ _ _ (congrFun (hpre 0) _)
  Cert.Kernel3.Experts.frame m ρ (Cert.Kernel3.Experts.good_of_ranges m h.1 h.2)

/-- With the experts' numbers and the number of blocks in range, the tables the second layer's idealized call reads are good. -/
theorem good3 (m : (ℓ : Loc Cert.Kernel3Ideal.nD Cert.Kernel3Ideal.τ Cert.Kernel3Ideal.sig) → Buf (Elt Ideal) ℓ) (hpre : Cert.Pre_Kernel3Ideal m) :
    Cert.Kernel3Ideal.Experts.Good (Cert.Kernel3Ideal.Experts.experts (Cert.Kernel3Ideal.Experts.tbl m)) (Cert.Kernel3Ideal.Experts.used (Cert.Kernel3Ideal.Experts.tbl m)) :=
  have h := Cert.LatentRange.ranges _ _ _ _ _ _ _ _ _ (congrFun (hpre 0) _)
  Cert.Kernel3Ideal.Experts.good_of_ranges m h.1 h.2

/-- The idealized second layer's experts' call terminates, keeps its arguments and leaves every semaphore at zero. -/
theorem frame_ideal3 : Cert.quiescent_Kernel3Ideal := fun m ρ hpre => Cert.Kernel3Ideal.Experts.frame m ρ (good3 m hpre)

/-- The second layer's experts' reference terminates, keeps its arguments and leaves every semaphore at zero. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The value claim of the second layer's experts' call. -/
theorem value3 : Cert.algebraic_Kernel3Ideal_Reference3Ideal := by
  intro m g m' g' hpre hargs
  have good := good3 m hpre
  have hO := Cert.Kernel3Ideal.Experts.ok_of_good _ good
  refine ⟨fun c => (Cert.Kernel3Ideal.Experts.dats m hO 0 c).arrAt 7 (Cert.Kernel3Ideal.Experts.cfgM m hO).N,
    Cert.Kernel3Ideal.Experts.run_result m hO g good, ?_⟩
  refine (θ_run Cert.Reference3Ideal.defs _ _).mono (fun r h c => ⟨?_, (h c).2⟩) (Cert.Reference3Ideal.Value.run m' g')
  obtain ⟨a0, a1, a2, a3, a4, a5, a6, a7, a8⟩ := hargs c
  obtain rfl : c = 0 := Subsingleton.elim _ _
  have hr := Cert.LatentRange.ranges _ _ _ _ _ _ _ _ _ (congrFun (hpre 0) _)
  rw [(h 0).1, Cert.Reference3Ideal.Read.val_main_v75_eq, a0, a1, a2, a3, a4, a5, a6, a7, a8]
  exact (Cert.Kernel3Ideal.Experts.array_eq m hO good (ix1 (0 : Fin 1)) hr.1 (hr.2 _).1 (hr.2 _).2).symm

/-- The output projection's reference terminates, keeps its arguments and leaves every semaphore at zero. -/
theorem frame_reference4 : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)

/-- The value claim of the output projection. -/
theorem value4 : Cert.algebraic_Kernel4Ideal_Reference4Ideal := by
  intro m g m' g' hpre hargs
  refine ⟨fun c => (Cert.Kernel4Ideal.Gen.dats m 0 c).arrAt 13 Cert.Kernel4Ideal.cfg0.N,
    fun c => (Cert.Kernel4Ideal.Gen.dats m 0 c).arrAt 14 Cert.Kernel4Ideal.cfg0.N, Cert.Kernel4Ideal.Value.run_blocks m g, ?_⟩
  refine (θ_run Cert.Reference4Ideal.defs _ _).mono (fun r h c => ⟨?_, ?_, (h c).2.2⟩) (Cert.Reference4Ideal.Value.run m' g')
  · obtain ⟨a0, a1, a2, a3, a4, a5, a6, a7, a8, a9, a10, a11, a12⟩ := hargs c
    rw [(h c).1, Cert.Reference4Ideal.Read.val_main_v37_eq, a0, a1, a2, a3, a4, a5, a6, a7, a8, a9, a10, a12]
    exact (Cert.Reference4Ideal.Rows.array_x m c).symm
  · obtain ⟨a0, a1, a2, a3, a4, a5, a6, a7, a8, a9, a10, a11, a12⟩ := hargs c
    rw [(h c).2.1, Cert.Reference4Ideal.Read.val_main_v58_eq, a0, a1, a2, a3, a4, a5, a6, a7, a8, a9, a10, a11, a12]
    exact (Cert.Reference4Ideal.Rows.array_h m c).symm

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Finite.facts, Cert.ExpertsRange.facts, Cert.LatentRange.facts,
    frame_kernel, frame_ideal, fun m ρ _ => Cert.KernelIdeal.Gen.frame m ρ, frame_reference,
    fun m ρ _ => frame_reference m ρ trivial, frame_kernel2, frame_ideal2, frame_reference2, fun m ρ _ => frame_reference2 m ρ trivial,
    frame_kernel3, frame_ideal3, frame_reference3, fun m ρ _ => frame_reference3 m ρ trivial,
    fun m ρ _ => Cert.Kernel4.Gen.frame m ρ, fun m ρ _ => Cert.Kernel4Ideal.Gen.frame m ρ, frame_reference4,
    trivial, value, trivial, value2, trivial, value3, trivial, value4⟩

end Cert.Proof

end
